-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v54)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v54) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S16384x26624 : Shape := ⟨2, ![16384, 26624]⟩
abbrev S4x64 : Shape := ⟨2, ![4, 64]⟩
abbrev S128 : Shape := ⟨1, ![128]⟩
abbrev S16384x6144 : Shape := ⟨2, ![16384, 6144]⟩
abbrev S_ : Shape := ⟨0, ![]⟩

class Facts : Prop where
  slices_S16384x26624_S16384x6144_0_0 : S16384x26624.Slices ![0, 0] S16384x6144
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x26624 .bf16) (main_arg1 : FVec F S4x64 .f32) (main_arg2 : FVec F S128 .f32) : IVec S_ 1 :=
  let main_v0 : FVec F S16384x6144 .bf16 := (extractStridedSlice S16384x6144 ![0, 0] · slices_S16384x26624_S16384x6144_0_0) main_arg0
  let main_v1 : FVec F S16384x6144 .f32 := (extf .f32 · bitsLt_bf16_f32) main_v0
  let main_v2 : FVec F S16384x6144 .f32 := Host.absf main_v1
  let main_cst : FVec F S_ .f32 := constant S_ .f32 0x7F800000#32
  let main_v3 : FVec F S16384x6144 .f32 := broadcastInDim S16384x6144 ![] bcast_S_S16384x6144 main_cst
  let main_v4 : IVec S16384x6144 1 := cmpf .olt main_v2 main_v3
  let main_c : IVec S_ 1 := constantI S_ 1 1#1
  let main_v5 : IVec S_ 1 := (fun x v => Host.reduce IntOp.andi x v reducesTo_S16384x6144_S_d0_1 h_S_) main_v4 main_c
  let main_v6 : FVec F S4x64 .f32 := Host.absf main_arg1
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  main_v10
-- ==== Pre_finite6.lean ====
abbrev S16384x26624 : Shape := ⟨2, ![16384, 26624]⟩
abbrev S1x4096 : Shape := ⟨2, ![1, 4096]⟩
abbrev S16384x8192 : Shape := ⟨2, ![16384, 8192]⟩
abbrev S_ : Shape := ⟨0, ![]⟩

class Facts : Prop where
  slices_S16384x26624_S16384x8192_0_6144 : S16384x26624.Slices ![0, 6144] S16384x8192
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x26624 .bf16) (main_arg1 : FVec F S1x4096 .f32) (main_arg2 : FVec F S1x4096 .f32) : IVec S_ 1 :=
  let main_v0 : FVec F S16384x8192 .bf16 := (extractStridedSlice S16384x8192 ![0, 6144] · slices_S16384x26624_S16384x8192_0_6144) main_arg0
  let main_v1 : FVec F S16384x8192 .f32 := (extf .f32 · bitsLt_bf16_f32) main_v0
  let main_v2 : FVec F S16384x8192 .f32 := Host.absf main_v1
  let main_cst : FVec F S_ .f32 := constant S_ .f32 0x7F800000#32
  let main_v3 : FVec F S16384x8192 .f32 := broadcastInDim S16384x8192 ![] bcast_S_S16384x8192 main_cst
  let main_v4 : IVec S16384x8192 1 := cmpf .olt main_v2 main_v3
  let main_c : IVec S_ 1 := constantI S_ 1 1#1
  let main_v5 : IVec S_ 1 := (fun x v => Host.reduce IntOp.andi x v reducesTo_S16384x8192_S_d0_1 h_S_) main_v4 main_c
  main_v5
-- ==== Kernel.lean ====
abbrev S16384x26624 : Shape := ⟨2, ![16384, 26624]⟩
abbrev S4x64 : Shape := ⟨2, ![4, 64]⟩
abbrev S128 : Shape := ⟨1, ![128]⟩
abbrev S16 : Shape := ⟨1, ![16]⟩
abbrev S_ : Shape := ⟨0, ![]⟩
abbrev S16x1 : Shape := ⟨2, ![16, 1]⟩
abbrev S16x3 : Shape := ⟨2, ![16, 3]⟩
abbrev S48 : Shape := ⟨1, ![48]⟩
abbrev S1x128 : Shape := ⟨2, ![1, 128]⟩
abbrev S16384x2048 : Shape := ⟨2, ![16384, 2048]⟩
abbrev S256x512 : Shape := ⟨2, ![256, 512]⟩
abbrev S2048x512 : Shape := ⟨2, ![2048, 512]⟩
abbrev S4x512x2048 : Shape := ⟨3, ![4, 512, 2048]⟩
abbrev S4x2048x128 : Shape := ⟨3, ![4, 2048, 128]⟩
abbrev S4x2048x256 : Shape := ⟨3, ![4, 2048, 256]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S1x2048x128 : Shape := ⟨3, ![1, 2048, 128]⟩
abbrev S2048x256 : Shape := ⟨2, ![2048, 256]⟩
abbrev S1x2048x256 : Shape := ⟨3, ![1, 2048, 256]⟩
abbrev S256x256 : Shape := ⟨2, ![256, 256]⟩
abbrev S512x256 : Shape := ⟨2, ![512, 256]⟩
abbrev S512x2048 : Shape := ⟨2, ![512, 2048]⟩
abbrev S512x1792 : Shape := ⟨2, ![512, 1792]⟩
abbrev S1x512x2048 : Shape := ⟨3, ![1, 512, 2048]⟩
abbrev S1x128x2048 : Shape := ⟨3, ![1, 128, 2048]⟩
abbrev S128x2048 : Shape := ⟨2, ![128, 2048]⟩
abbrev S128x1 : Shape := ⟨2, ![128, 1]⟩
abbrev S512x1 : Shape := ⟨2, ![512, 1]⟩
abbrev S256x1 : Shape := ⟨2, ![256, 1]⟩
abbrev S256 : Shape := ⟨1, ![256]⟩
abbrev S1792x128 : Shape := ⟨2, ![1792, 128]⟩
abbrev S1x1792x128 : Shape := ⟨3, ![1, 1792, 128]⟩
abbrev S1792x256 : Shape := ⟨2, ![1792, 256]⟩
abbrev S512x1536 : Shape := ⟨2, ![512, 1536]⟩
abbrev S1x512x1792 : Shape := ⟨3, ![1, 512, 1792]⟩
abbrev S1x128x1792 : Shape := ⟨3, ![1, 128, 1792]⟩
abbrev S128x1792 : Shape := ⟨2, ![128, 1792]⟩
abbrev S1x1792x256 : Shape := ⟨3, ![1, 1792, 256]⟩
abbrev S1536x128 : Shape := ⟨2, ![1536, 128]⟩
abbrev S1x1536x128 : Shape := ⟨3, ![1, 1536, 128]⟩
abbrev S1536x256 : Shape := ⟨2, ![1536, 256]⟩
abbrev S512x1280 : Shape := ⟨2, ![512, 1280]⟩
abbrev S1x512x1536 : Shape := ⟨3, ![1, 512, 1536]⟩
abbrev S1x128x1536 : Shape := ⟨3, ![1, 128, 1536]⟩
abbrev S128x1536 : Shape := ⟨2, ![128, 1536]⟩
abbrev S1x1536x256 : Shape := ⟨3, ![1, 1536, 256]⟩
abbrev S1280x128 : Shape := ⟨2, ![1280, 128]⟩
abbrev S1x1280x128 : Shape := ⟨3, ![1, 1280, 128]⟩
abbrev S1280x256 : Shape := ⟨2, ![1280, 256]⟩
abbrev S512x1024 : Shape := ⟨2, ![512, 1024]⟩
abbrev S1x512x1280 : Shape := ⟨3, ![1, 512, 1280]⟩
abbrev S1x128x1280 : Shape := ⟨3, ![1, 128, 1280]⟩
abbrev S128x1280 : Shape := ⟨2, ![128, 1280]⟩
abbrev S1x1280x256 : Shape := ⟨3, ![1, 1280, 256]⟩
abbrev S1024x128 : Shape := ⟨2, ![1024, 128]⟩
abbrev S1x1024x128 : Shape := ⟨3, ![1, 1024, 128]⟩
abbrev S1024x256 : Shape := ⟨2, ![1024, 256]⟩
abbrev S512x768 : Shape := ⟨2, ![512, 768]⟩
abbrev S1x512x1024 : Shape := ⟨3, ![1, 512, 1024]⟩
abbrev S1x128x1024 : Shape := ⟨3, ![1, 128, 1024]⟩
abbrev S128x1024 : Shape := ⟨2, ![128, 1024]⟩
abbrev S1x1024x256 : Shape := ⟨3, ![1, 1024, 256]⟩
abbrev S768x128 : Shape := ⟨2, ![768, 128]⟩
abbrev S1x768x128 : Shape := ⟨3, ![1, 768, 128]⟩
abbrev S768x256 : Shape := ⟨2, ![768, 256]⟩
abbrev S512x512 : Shape := ⟨2, ![512, 512]⟩
abbrev S1x512x768 : Shape := ⟨3, ![1, 512, 768]⟩
abbrev S1x128x768 : Shape := ⟨3, ![1, 128, 768]⟩
abbrev S128x768 : Shape := ⟨2, ![128, 768]⟩
abbrev S1x768x256 : Shape := ⟨3, ![1, 768, 256]⟩
abbrev S512x128 : Shape := ⟨2, ![512, 128]⟩
abbrev S1x512x128 : Shape := ⟨3, ![1, 512, 128]⟩
abbrev S1x512x512 : Shape := ⟨3, ![1, 512, 512]⟩
abbrev S1x128x512 : Shape := ⟨3, ![1, 128, 512]⟩
abbrev S128x512 : Shape := ⟨2, ![128, 512]⟩
abbrev S1x512x256 : Shape := ⟨3, ![1, 512, 256]⟩
abbrev S1x256x128 : Shape := ⟨3, ![1, 256, 128]⟩
abbrev S1x128x256 : Shape := ⟨3, ![1, 128, 256]⟩
abbrev S128x256 : Shape := ⟨2, ![128, 256]⟩
abbrev S1x256x256 : Shape := ⟨3, ![1, 256, 256]⟩

abbrev nBuf : Space → Nat
  | .hbm => 32
  | .vmem => 14
  | .smem => 1
  | _ => 0

abbrev bufTy : (tb : Table) → Fin (tcTables nBuf tb) → BufTy
  | .hbm, ⟨0, _⟩ => ⟨S16384x26624, .bf16⟩
  | .hbm, ⟨1, _⟩ => ⟨S4x64, .f32⟩
  | .hbm, ⟨2, _⟩ => ⟨S128, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .bf16⟩
  | .hbm, ⟨17, _⟩ => ⟨S16, .f32⟩
  | .hbm, ⟨18, _⟩ => ⟨S16, .f32⟩
  | .hbm, ⟨19, _⟩ => ⟨S16, .bf16⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S16, .bf16⟩
  | .hbm, ⟨24, _⟩ => ⟨S16, .f32⟩
  | .hbm, ⟨25, _⟩ => ⟨S16x1, .f32⟩
  | .hbm, ⟨26, _⟩ => ⟨S16x1, .f32⟩
  | .hbm, ⟨27, _⟩ => ⟨S16x1, .f32⟩
  | .hbm, ⟨28, _⟩ => ⟨S16x3, .f32⟩
  | .hbm, ⟨29, _⟩ => ⟨S48, .f32⟩
  | .hbm, ⟨30, _⟩ => ⟨S1x128, .f32⟩
  | .hbm, ⟨31, _⟩ => ⟨S16384x2048, .bf16⟩
  | .local _ .vmem, ⟨0, _⟩ => ⟨S4x64, .f32⟩
  | .local _ .vmem, ⟨1, _⟩ => ⟨S256x512, .bf16⟩
  | .local _ .vmem, ⟨2, _⟩ => ⟨S256x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S4x512x2048, .f32⟩
  | .local _ .vmem, ⟨11, _⟩ => ⟨S4x512x2048, .bf16⟩
  | .local _ .vmem, ⟨12, _⟩ => ⟨S4x2048x128, .bf16⟩
  | .local _ .vmem, ⟨13, _⟩ => ⟨S4x2048x256, .bf16⟩
  | .local _ .smem, ⟨0, _⟩ => ⟨S48, .f32⟩
  | _, _ => ⟨S16384x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32 : BitVec 32 := 0#32
  let v17 : BitVec 1 := Scalar.cmpi .eq arg2 c0_i32
  let v18 : BitVec 32 := Scalar.extui v17
  let c0_i32_3 : BitVec 32 := 0#32
  let v19 : BitVec 1 := Scalar.cmpi .ne v18 c0_i32_3
  v19

def k0_off1 (i : grid0.Coords) (c0_i32_9 : BitVec 32) (c0_i32_11 : BitVec 32) : Fin 1 → Nat :=
  let c3_i32 : BitVec 32 := 3#32
  let arg1 : BitVec 32 := BitVec.ofNat 32 (i 1).val
  let c4_i32 : BitVec 32 := 4#32
  let v31 : BitVec 32 := Scalar.muli arg1 c4_i32
  let v32 : BitVec 32 := Scalar.addi v31 c0_i32_9
  let v40 : BitVec 32 := Scalar.muli c3_i32 v32
  let v41 : BitVec 32 := Scalar.addi v40 c0_i32_11
  let v42 : Index := Scalar.indexCast v41
  ![v42.toNat]
def k0_cond2 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c0_i32_5 : BitVec 32 := 0#32
  let v22 : BitVec 1 := Scalar.cmpi .ne v21 c0_i32_5
  v22

def k0_cond3 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c0_i32_6 : BitVec 32 := 0#32
  let v24 : BitVec 1 := Scalar.cmpi .ne v23 c0_i32_6
  v24

def k0_cond4 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c1_i32_7 : BitVec 32 := 1#32
  let v25 : BitVec 32 := Scalar.subi v23 c1_i32_7
  let c0_i32_8 : BitVec 32 := 0#32
  let v26 : BitVec 1 := Scalar.cmpi .ne v25 c0_i32_8
  v26

def k0_cond5 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c1_i32_7 : BitVec 32 := 1#32
  let v25 : BitVec 32 := Scalar.subi v23 c1_i32_7
  let c1_i32_9 : BitVec 32 := 1#32
  let v27 : BitVec 32 := Scalar.subi v25 c1_i32_9
  let c0_i32_10 : BitVec 32 := 0#32
  let v28 : BitVec 1 := Scalar.cmpi .ne v27 c0_i32_10
  v28

def k0_cond6 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c1_i32_7 : BitVec 32 := 1#32
  let v25 : BitVec 32 := Scalar.subi v23 c1_i32_7
  let c1_i32_9 : BitVec 32 := 1#32
  let v27 : BitVec 32 := Scalar.subi v25 c1_i32_9
  let c1_i32_11 : BitVec 32 := 1#32
  let v29 : BitVec 32 := Scalar.subi v27 c1_i32_11
  let c0_i32_12 : BitVec 32 := 0#32
  let v30 : BitVec 1 := Scalar.cmpi .ne v29 c0_i32_12
  v30

def k0_cond7 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c1_i32_7 : BitVec 32 := 1#32
  let v25 : BitVec 32 := Scalar.subi v23 c1_i32_7
  let c1_i32_9 : BitVec 32 := 1#32
  let v27 : BitVec 32 := Scalar.subi v25 c1_i32_9
  let c1_i32_11 : BitVec 32 := 1#32
  let v29 : BitVec 32 := Scalar.subi v27 c1_i32_11
  let c1_i32_13 : BitVec 32 := 1#32
  let v31 : BitVec 32 := Scalar.subi v29 c1_i32_13
  let c0_i32_14 : BitVec 32 := 0#32
  let v32 : BitVec 1 := Scalar.cmpi .ne v31 c0_i32_14
  v32

def k0_cond8 (i : grid0.Coords) : BitVec 1 :=
  let arg2 : BitVec 32 := BitVec.ofNat 32 (i 2).val
  let c0_i32_4 : BitVec 32 := 0#32
  let v20 : BitVec 32 := Scalar.maxsi arg2 c0_i32_4
  let c7_i32 : BitVec 32 := 7#32
  let v21 : BitVec 32 := Scalar.minsi v20 c7_i32
  let c1_i32 : BitVec 32 := 1#32
  let v23 : BitVec 32 := Scalar.subi v21 c1_i32
  let c1_i32_7 : BitVec 32 := 1#32
  let v25 : BitVec 32 := Scalar.subi v23 c1_i32_7
  let c1_i32_9 : BitVec 32 := 1#32
  let v27 : BitVec 32 := Scalar.subi v25 c1_i32_9
  let c1_i32_11 : BitVec 32 := 1#32
  let v29 : BitVec 32 := Scalar.subi v27 c1_i32_11
  let c1_i32_13 : BitVec 32 := 1#32
  let v31 : BitVec 32 := Scalar.subi v29 c1_i32_13
  let c1_i32_15 : BitVec 32 := 1#32
  let v33 : BitVec 32 := Scalar.subi v31 c1_i32_15
  let c0_i32_16 : BitVec 32 := 0#32
  let v34 : BitVec 1 := Scalar.cmpi .ne v33 c0_i32_16
  v34

def k0_off2 (i : grid0.Coords) (c0_i32_21 : BitVec 32) (c0_i32_23 : BitVec 32) : Fin 1 → Nat :=
  let c3_i32 : BitVec 32 := 3#32
  let arg1 : BitVec 32 := BitVec.ofNat 32 (i 1).val
  let c4_i32 : BitVec 32 := 4#32
  let v50 : BitVec 32 := Scalar.muli arg1 c4_i32
  let v51 : BitVec 32 := Scalar.addi v50 c0_i32_21
  let v59 : BitVec 32 := Scalar.muli c3_i32 v51
  let v60 : BitVec 32 := Scalar.addi v59 c0_i32_23
  let v61 : Index := Scalar.indexCast v60
  ![v61.toNat]
def k0_off3 (i : grid0.Coords) (c0_i32_21 : BitVec 32) (c0_i32_23 : BitVec 32) : Fin 1 → Nat :=
  let c3_i32 : BitVec 32 := 3#32
  let arg1 : BitVec 32 := BitVec.ofNat 32 (i 1).val
  let c4_i32 : BitVec 32 := 4#32
  let v50 : BitVec 32 := Scalar.muli arg1 c4_i32
  let v51 : BitVec 32 := Scalar.addi v50 c0_i32_21
  let v59 : BitVec 32 := Scalar.muli c3_i32 v51
  let v60 : BitVec 32 := Scalar.addi v59 c0_i32_23
  let v61 : Index := Scalar.indexCast v60
  ![v61.toNat]
def k0_off4 (i : grid0.Coords) (c0_i32_19 : BitVec 32) (c0_i32_21 : BitVec 32) : Fin 1 → Nat :=
  let c3_i32 : BitVec 32 := 3#32
  let arg1 : BitVec 32 := BitVec.ofNat 32 (i 1).val
  let c4_i32 : BitVec 32 := 4#32
  let v48 : BitVec 32 := Scalar.muli arg1 c4_i32
  let v49 : BitVec 32 := Scalar.addi v48 c0_i32_19
  let v57 : BitVec 32 := Scalar.muli c3_i32 v49
  let v58 : BitVec 32 := Scalar.addi v57 c0_i32_21
  let v59 : Index := Scalar.indexCast v58
  ![v59.toNat]
def k0_off5 (i : grid0.Coords) (c0_i32_17 : BitVec 32) (c0_i32_19 : BitVec 32) : Fin 1 → Nat :=
  let c3_i32 : BitVec 32 := 3#32
  let arg1 : BitVec 32 := BitVec.ofNat 32 (i 1).val
  let c4_i32 : BitVec 32 := 4#32
  let v46 : BitVec 32 := Scalar.muli arg1 c4_i32
  let v47 : BitVec 32 := Scalar.addi v46 c0_i32_17
  let v55 : BitVec 32 := Scalar.muli c3_i32 v47
  let v56 : BitVec 32 := Scalar.addi v55 c0_i32_19
  let v57 : Index := Scalar.indexCast v56
  ![v57.toNat]
def k0_off6 (i : grid0.Coords) (c0_i32_15 : BitVec 32) (c0_i32_17 : BitVec 32) : Fin 1 → Nat :=
  let c3_i32 : BitVec 32 := 3#32
  let arg1 : BitVec 32 := BitVec.ofNat 32 (i 1).val
  let c4_i32 : BitVec 32 := 4#32
  let v44 : BitVec 32 := Scalar.muli arg1 c4_i32
  let v45 : BitVec 32 := Scalar.addi v44 c0_i32_15
  let v53 : BitVec 32 := Scalar.muli c3_i32 v45
  let v54 : BitVec 32 := Scalar.addi v53 c0_i32_17
  let v55 : Index := Scalar.indexCast v54
  ![v55.toNat]
def k0_off7 (i : grid0.Coords) (c0_i32_13 : BitVec 32) (c0_i32_15 : BitVec 32) : Fin 1 → Nat :=
  let c3_i32 : BitVec 32 := 3#32
  let arg1 : BitVec 32 := BitVec.ofNat 32 (i 1).val
  let c4_i32 : BitVec 32 := 4#32
  let v42 : BitVec 32 := Scalar.muli arg1 c4_i32
  let v43 : BitVec 32 := Scalar.addi v42 c0_i32_13
  let v51 : BitVec 32 := Scalar.muli c3_i32 v43
  let v52 : BitVec 32 := Scalar.addi v51 c0_i32_15
  let v53 : Index := Scalar.indexCast v52
  ![v53.toNat]
def k0_off8 (i : grid0.Coords) (c0_i32_11 : BitVec 32) (c0_i32_13 : BitVec 32) : Fin 1 → Nat :=
  let c3_i32 : BitVec 32 := 3#32
  let arg1 : BitVec 32 := BitVec.ofNat 32 (i 1).val
  let c4_i32 : BitVec 32 := 4#32
  let v40 : BitVec 32 := Scalar.muli arg1 c4_i32
  let v41 : BitVec 32 := Scalar.addi v40 c0_i32_11
  let v49 : BitVec 32 := Scalar.muli c3_i32 v41
  let v50 : BitVec 32 := Scalar.addi v49 c0_i32_13
  let v51 : Index := Scalar.indexCast v50
  ![v51.toNat]
def k0_off9 (i : grid0.Coords) (c0_i32_11 : BitVec 32) (c0_i32_13 : BitVec 32) : Fin 1 → Nat :=
  let c3_i32 : BitVec 32 := 3#32
  let arg1 : BitVec 32 := BitVec.ofNat 32 (i 1).val
  let c4_i32 : BitVec 32 := 4#32
  let v38 : BitVec 32 := Scalar.muli arg1 c4_i32
  let v39 : BitVec 32 := Scalar.addi v38 c0_i32_11
  let v47 : BitVec 32 := Scalar.muli c3_i32 v39
  let v48 : BitVec 32 := Scalar.addi v47 c0_i32_13
  let v49 : Index := Scalar.indexCast v48
  ![v49.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16384x26624 : Shape := ⟨2, ![16384, 26624]⟩
abbrev S4x64 : Shape := ⟨2, ![4, 64]⟩
abbrev S128 : Shape := ⟨1, ![128]⟩
abbrev S8x2048x26624 : Shape := ⟨3, ![8, 2048, 26624]⟩
abbrev S8x2048x2048 : Shape := ⟨3, ![8, 2048, 2048]⟩
abbrev S8x2048x16x2x64 : Shape := ⟨5, ![8, 2048, 16, 2, 64]⟩
abbrev S8x2048x16x128 : Shape := ⟨4, ![8, 2048, 16, 128]⟩
abbrev S1x64 : Shape := ⟨2, ![1, 64]⟩
abbrev S64 : Shape := ⟨1, ![64]⟩
abbrev S_ : Shape := ⟨0, ![]⟩
abbrev S8x16x2x2048x64 : Shape := ⟨5, ![8, 16, 2, 2048, 64]⟩
abbrev S8x16x2048x128 : Shape := ⟨4, ![8, 16, 2048, 128]⟩
abbrev S16 : Shape := ⟨1, ![16]⟩
abbrev S2048 : Shape := ⟨1, ![2048]⟩
abbrev S8x16x2x2048x2048 : Shape := ⟨5, ![8, 16, 2, 2048, 2048]⟩
abbrev S2048x1 : Shape := ⟨2, ![2048, 1]⟩
abbrev S1x2048 : Shape := ⟨2, ![1, 2048]⟩
abbrev S2048x2048 : Shape := ⟨2, ![2048, 2048]⟩
abbrev S16x1x1 : Shape := ⟨3, ![16, 1, 1]⟩
abbrev S1x2048x2048 : Shape := ⟨3, ![1, 2048, 2048]⟩
abbrev S16x2048x2048 : Shape := ⟨3, ![16, 2048, 2048]⟩
abbrev S1x16x1x2048x2048 : Shape := ⟨5, ![1, 16, 1, 2048, 2048]⟩
abbrev S8x16x2x2048 : Shape := ⟨4, ![8, 16, 2, 2048]⟩
abbrev S8x16x2x2048x1 : Shape := ⟨5, ![8, 16, 2, 2048, 1]⟩
abbrev S8x16x1x2048x2048 : Shape := ⟨5, ![8, 16, 1, 2048, 2048]⟩
abbrev S8x16x2048x2048 : Shape := ⟨4, ![8, 16, 2048, 2048]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S16384x2048 : Shape := ⟨2, ![16384, 2048]⟩

abbrev nBuf : Space → Nat
  | .hbm => 118
  | .vmem => 0
  | .smem => 0
  | _ => 0

abbrev bufTy : (tb : Table) → Fin (tcTables nBuf tb) → BufTy
  | .hbm, ⟨0, _⟩ => ⟨S16384x26624, .bf16⟩
  | .hbm, ⟨1, _⟩ => ⟨S4x64, .f32⟩
  | .hbm, ⟨2, _⟩ => ⟨S128, .f32⟩
  | .hbm, ⟨3, _⟩ => ⟨S16384x26624, .f32⟩
  | .hbm, ⟨4, _⟩ => ⟨S8x2048x26624, .f32⟩
  | .hbm, ⟨5, _⟩ => ⟨S8x2048x2048, .f32⟩
  | .hbm, ⟨6, _⟩ => ⟨S8x2048x16x2x64, .f32⟩
  | .hbm, ⟨7, _⟩ => ⟨S8x2048x2048, .f32⟩
  | .hbm, ⟨8, _⟩ => ⟨S8x2048x16x2x64, .f32⟩
  | .hbm, ⟨9, _⟩ => ⟨S8x2048x2048, .f32⟩
  | .hbm, ⟨10, _⟩ => ⟨S8x2048x16x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x16x2x2048x64, .f32⟩
  | .hbm, ⟨31, _⟩ => ⟨S_, .f32⟩
  | .hbm, ⟨32, _⟩ => ⟨S8x16x2x2048x64, .f32⟩
  | .hbm, ⟨33, _⟩ => ⟨S8x16x2x2048x64, .f32⟩
  | .hbm, ⟨34, _⟩ => ⟨S8x16x2x2048x64, .f32⟩
  | .hbm, ⟨35, _⟩ => ⟨S8x16x2048x128, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S2048, .i32⟩
  | .hbm, ⟨50, _⟩ => ⟨S8x16x2x2048x2048, .f32⟩
  | .hbm, ⟨51, _⟩ => ⟨S2048x1, .i32⟩
  | .hbm, ⟨52, _⟩ => ⟨S1x2048, .i32⟩
  | .hbm, ⟨53, _⟩ => ⟨S2048x2048, .i32⟩
  | .hbm, ⟨54, _⟩ => ⟨S2048x2048, .i32⟩
  | .hbm, ⟨55, _⟩ => ⟨S2048x2048, .i32⟩
  | .hbm, ⟨56, _⟩ => ⟨S16x1x1, .f32⟩
  | .hbm, ⟨57, _⟩ => ⟨S16x1x1, .f32⟩
  | .hbm, ⟨58, _⟩ => ⟨S2048x2048, .f32⟩
  | .hbm, ⟨59, _⟩ => ⟨S1x2048x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S_, .i32⟩
  | .hbm, ⟨64, _⟩ => ⟨S2048x2048, .i32⟩
  | .hbm, ⟨65, _⟩ => ⟨S2048x2048, .i1⟩
  | .hbm, ⟨66, _⟩ => ⟨S1x16x1x2048x2048, .f32⟩
  | .hbm, ⟨67, _⟩ => ⟨S8x16x2x2048x2048, .f32⟩
  | .hbm, ⟨68, _⟩ => ⟨S8x16x2x2048x2048, .f32⟩
  | .hbm, ⟨69, _⟩ => ⟨S_, .f32⟩
  | .hbm, ⟨70, _⟩ => ⟨S_, .f32⟩
  | .hbm, ⟨71, _⟩ => ⟨S8x16x2x2048x2048, .i1⟩
  | .hbm, ⟨72, _⟩ => ⟨S8x16x2x2048x2048, .f32⟩
  | .hbm, ⟨73, _⟩ => ⟨S8x16x2x2048x2048, .f32⟩
  | .hbm, ⟨74, _⟩ => ⟨S_, .f32⟩
  | .hbm, ⟨75, _⟩ => ⟨S8x16x2x2048, .f32⟩
  | .hbm, ⟨76, _⟩ => ⟨S_, .f32⟩
  | .hbm, ⟨77, _⟩ => ⟨S8x16x2x2048, .f32⟩
  | .hbm, ⟨78, _⟩ => ⟨S8x16x2x2048, .f32⟩
  | .hbm, ⟨79, _⟩ => ⟨S8x16x2x2048x1, .f32⟩
  | .hbm, ⟨80, _⟩ => ⟨S8x16x2x2048x2048, .f32⟩
  | .hbm, ⟨81, _⟩ => ⟨S8x16x2x2048x2048, .f32⟩
  | .hbm, ⟨82, _⟩ => ⟨S8x16x2x2048x2048, .f32⟩
  | .hbm, ⟨83, _⟩ => ⟨S_, .f32⟩
  | .hbm, ⟨84, _⟩ => ⟨S8x16x2x2048, .f32⟩
  | .hbm, ⟨85, _⟩ => ⟨S8x16x2x2048x1, .f32⟩
  | .hbm, ⟨86, _⟩ => ⟨S8x16x2x2048x2048, .f32⟩
  | .hbm, ⟨87, _⟩ => ⟨S8x16x2x2048x2048, .f32⟩
  | .hbm, ⟨88, _⟩ => ⟨S8x16x1x2048x2048, .f32⟩
  | .hbm, ⟨89, _⟩ => ⟨S8x16x2048x2048, .f32⟩
  | .hbm, ⟨90, _⟩ => ⟨S8x16x1x2048x2048, .f32⟩
  | .hbm, ⟨91, _⟩ => ⟨S8x16x2048x2048, .f32⟩
  | .hbm, ⟨92, _⟩ => ⟨S8x16x2048x2048, .f32⟩
  | .hbm, ⟨93, _⟩ => ⟨S8x16x2048x2048, .f32⟩
  | .hbm, ⟨94, _⟩ => ⟨S8x16x2048x2048, .f32⟩
  | .hbm, ⟨95, _⟩ => ⟨S8x16x2048x128, .f32⟩
  | .hbm, ⟨96, _⟩ => ⟨S8x2048x16x128, .f32⟩
  | .hbm, ⟨97, _⟩ => ⟨S8x2048x16x128, .f32⟩
  | .hbm, ⟨98, _⟩ => ⟨S_, .f32⟩
  | .hbm, ⟨99, _⟩ => ⟨S8x2048x16, .f32⟩
  | .hbm, ⟨100, _⟩ => ⟨S8x2048x16x1, .f32⟩
  | .hbm, ⟨101, _⟩ => ⟨S_, .f32⟩
  | .hbm, ⟨102, _⟩ => ⟨S8x2048x16x1, .f32⟩
  | .hbm, ⟨103, _⟩ => ⟨S8x2048x16x1, .f32⟩
  | .hbm, ⟨104, _⟩ => ⟨S_, .f32⟩
  | .hbm, ⟨105, _⟩ => ⟨S8x2048x16x1, .f32⟩
  | .hbm, ⟨106, _⟩ => ⟨S8x2048x16x1, .f32⟩
  | .hbm, ⟨107, _⟩ => ⟨S8x2048x16x1, .f32⟩
  | .hbm, ⟨108, _⟩ => ⟨S8x2048x16x128, .f32⟩
  | .hbm, ⟨109, _⟩ => ⟨S8x2048x16x128, .f32⟩
  | .hbm, ⟨110, _⟩ => ⟨S1x1x1x128, .f32⟩
  | .hbm, ⟨111, _⟩ => ⟨S8x2048x16x128, .f32⟩
  | .hbm, ⟨112, _⟩ => ⟨S8x2048x16x128, .f32⟩
  | .hbm, ⟨113, _⟩ => ⟨S_, .f32⟩
  | .hbm, ⟨114, _⟩ => ⟨S8x2048x16x128, .f32⟩
  | .hbm, ⟨115, _⟩ => ⟨S8x2048x16x128, .f32⟩
  | .hbm, ⟨116, _⟩ => ⟨S16384x2048, .f32⟩
  | .hbm, ⟨117, _⟩ => ⟨S16384x2048, .bf16⟩
  | _, _ => ⟨S16384x26624, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== Kernel2.lean ====
abbrev S8x2048x4096 : Shape := ⟨3, ![8, 2048, 4096]⟩
abbrev S1x4096x26624 : Shape := ⟨3, ![1, 4096, 26624]⟩
abbrev S16384x4096 : Shape := ⟨2, ![16384, 4096]⟩
abbrev S4096x26624 : Shape := ⟨2, ![4096, 26624]⟩
abbrev S16384x26624 : Shape := ⟨2, ![16384, 26624]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S1x4096x26624, .f32⟩
  | .hbm, ⟨2, _⟩ => ⟨S16384x4096, .f32⟩
  | .hbm, ⟨3, _⟩ => ⟨S16384x4096, .bf16⟩
  | .hbm, ⟨4, _⟩ => ⟨S4096x26624, .f32⟩
  | .hbm, ⟨5, _⟩ => ⟨S4096x26624, .bf16⟩
  | .hbm, ⟨6, _⟩ => ⟨S16384x26624, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x2048x4096 : Shape := ⟨3, ![8, 2048, 4096]⟩
abbrev S1x4096x26624 : Shape := ⟨3, ![1, 4096, 26624]⟩
abbrev S4096x26624 : Shape := ⟨2, ![4096, 26624]⟩
abbrev S8x2048x26624 : Shape := ⟨3, ![8, 2048, 26624]⟩
abbrev S16384x26624 : Shape := ⟨2, ![16384, 26624]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096x26624, .f32⟩
  | .hbm, ⟨2, _⟩ => ⟨S4096x26624, .f32⟩
  | .hbm, ⟨3, _⟩ => ⟨S8x2048x26624, .f32⟩
  | .hbm, ⟨4, _⟩ => ⟨S16384x26624, .f32⟩
  | .hbm, ⟨5, _⟩ => ⟨S16384x26624, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x2048 : Shape := ⟨2, ![16384, 2048]⟩
abbrev S1x2048x4096 : Shape := ⟨3, ![1, 2048, 4096]⟩
abbrev S16384x4096 : Shape := ⟨2, ![16384, 4096]⟩
abbrev S1x4096x4096 : Shape := ⟨3, ![1, 4096, 4096]⟩
abbrev S16384x26624 : Shape := ⟨2, ![16384, 26624]⟩
abbrev S2048x4096 : Shape := ⟨2, ![2048, 4096]⟩
abbrev S4096x4096 : Shape := ⟨2, ![4096, 4096]⟩
abbrev S512x2048 : Shape := ⟨2, ![512, 2048]⟩
abbrev S2048x1024 : Shape := ⟨2, ![2048, 1024]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S1x2048x4096, .f32⟩
  | .hbm, ⟨2, _⟩ => ⟨S16384x4096, .bf16⟩
  | .hbm, ⟨3, _⟩ => ⟨S1x4096x4096, .f32⟩
  | .hbm, ⟨4, _⟩ => ⟨S16384x26624, .bf16⟩
  | .hbm, ⟨5, _⟩ => ⟨S2048x4096, .f32⟩
  | .hbm, ⟨6, _⟩ => ⟨S2048x4096, .bf16⟩
  | .hbm, ⟨7, _⟩ => ⟨S4096x4096, .f32⟩
  | .hbm, ⟨8, _⟩ => ⟨S4096x4096, .bf16⟩
  | .hbm, ⟨9, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S1x2048x4096 : Shape := ⟨3, ![1, 2048, 4096]⟩
abbrev S16384x4096 : Shape := ⟨2, ![16384, 4096]⟩
abbrev S1x4096x4096 : Shape := ⟨3, ![1, 4096, 4096]⟩
abbrev S16384x26624 : Shape := ⟨2, ![16384, 26624]⟩
abbrev S2048x4096 : Shape := ⟨2, ![2048, 4096]⟩
abbrev S4096x4096 : Shape := ⟨2, ![4096, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x4096, .f32⟩
  | .hbm, ⟨2, _⟩ => ⟨S16384x4096, .bf16⟩
  | .hbm, ⟨3, _⟩ => ⟨S1x4096x4096, .f32⟩
  | .hbm, ⟨4, _⟩ => ⟨S16384x26624, .bf16⟩
  | .hbm, ⟨5, _⟩ => ⟨S16384x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S16384x2048, .f32⟩
  | .hbm, ⟨10, _⟩ => ⟨S2048x4096, .f32⟩
  | .hbm, ⟨11, _⟩ => ⟨S16384x4096, .f32⟩
  | .hbm, ⟨12, _⟩ => ⟨S16384x4096, .f32⟩
  | .hbm, ⟨13, _⟩ => ⟨S4096x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S16384x4096 : Shape := ⟨2, ![16384, 4096]⟩
abbrev S4096x16384 : Shape := ⟨2, ![4096, 16384]⟩
abbrev S1x4096 : Shape := ⟨2, ![1, 4096]⟩
abbrev S4096 : Shape := ⟨1, ![4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x4096 : Shape := ⟨2, ![16384, 4096]⟩
abbrev S4096x16384 : Shape := ⟨2, ![4096, 16384]⟩
abbrev S1x4096 : Shape := ⟨2, ![1, 4096]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S1x4096, .f32⟩
  | .hbm, ⟨3, _⟩ => ⟨S1x4096, .f32⟩
  | .hbm, ⟨4, _⟩ => ⟨S8x2048x4096, .f32⟩
  | .hbm, ⟨5, _⟩ => ⟨S_, .f32⟩
  | .hbm, ⟨6, _⟩ => ⟨S8x2048x4096, .f32⟩
  | .hbm, ⟨7, _⟩ => ⟨S8x2048x4096, .f32⟩
  | .hbm, ⟨8, _⟩ => ⟨S16384x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x4096, .f32⟩
  | .hbm, ⟨27, _⟩ => ⟨S8x2048x4096, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x4096, .f32⟩
  | .hbm, ⟨33, _⟩ => ⟨S8x2048x4096, .f32⟩
  | .hbm, ⟨34, _⟩ => ⟨S4096, .f32⟩
  | .hbm, ⟨35, _⟩ => ⟨S1x1x4096, .f32⟩
  | .hbm, ⟨36, _⟩ => ⟨S8x2048x4096, .f32⟩
  | .hbm, ⟨37, _⟩ => ⟨S8x2048x4096, .f32⟩
  | .hbm, ⟨38, _⟩ => ⟨S4096, .f32⟩
  | .hbm, ⟨39, _⟩ => ⟨S1x1x4096, .f32⟩
  | .hbm, ⟨40, _⟩ => ⟨S8x2048x4096, .f32⟩
  | .hbm, ⟨41, _⟩ => ⟨S8x2048x4096, .f32⟩
  | .hbm, ⟨42, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel5.lean ====
abbrev S16384x4096 : Shape := ⟨2, ![16384, 4096]⟩
abbrev S1x4096x4096 : Shape := ⟨3, ![1, 4096, 4096]⟩
abbrev S8x2048x4096 : Shape := ⟨3, ![8, 2048, 4096]⟩
abbrev S1x4096 : Shape := ⟨2, ![1, 4096]⟩
abbrev S4096x4096 : Shape := ⟨2, ![4096, 4096]⟩
abbrev S4096 : Shape := ⟨1, ![4096]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 14
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S8x2048x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S1x4096, .f32⟩
  | .hbm, ⟨12, _⟩ => ⟨S16384x4096, .f32⟩
  | .hbm, ⟨13, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c0_i32_6 : BitVec 32 := 0#32
  let v11 : BitVec 1 := Scalar.cmpi .ne v10 c0_i32_6
  v11

def k0_cond2 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c0_i32_9 : BitVec 32 := 0#32
  let v16 : BitVec 1 := Scalar.cmpi .ne v15 c0_i32_9
  v16

def k0_cond3 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c1_i32_10 : BitVec 32 := 1#32
  let v17 : BitVec 32 := Scalar.subi v15 c1_i32_10
  let c0_i32_11 : BitVec 32 := 0#32
  let v18 : BitVec 1 := Scalar.cmpi .ne v17 c0_i32_11
  v18

def k0_cond4 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c1_i32_10 : BitVec 32 := 1#32
  let v17 : BitVec 32 := Scalar.subi v15 c1_i32_10
  let c1_i32_12 : BitVec 32 := 1#32
  let v19 : BitVec 32 := Scalar.subi v17 c1_i32_12
  let c0_i32_13 : BitVec 32 := 0#32
  let v20 : BitVec 1 := Scalar.cmpi .ne v19 c0_i32_13
  v20

def k0_cond5 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c1_i32_10 : BitVec 32 := 1#32
  let v17 : BitVec 32 := Scalar.subi v15 c1_i32_10
  let c1_i32_12 : BitVec 32 := 1#32
  let v19 : BitVec 32 := Scalar.subi v17 c1_i32_12
  let c1_i32_14 : BitVec 32 := 1#32
  let v21 : BitVec 32 := Scalar.subi v19 c1_i32_14
  let c0_i32_15 : BitVec 32 := 0#32
  let v22 : BitVec 1 := Scalar.cmpi .ne v21 c0_i32_15
  v22

def k0_cond6 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c1_i32_10 : BitVec 32 := 1#32
  let v17 : BitVec 32 := Scalar.subi v15 c1_i32_10
  let c1_i32_12 : BitVec 32 := 1#32
  let v19 : BitVec 32 := Scalar.subi v17 c1_i32_12
  let c1_i32_14 : BitVec 32 := 1#32
  let v21 : BitVec 32 := Scalar.subi v19 c1_i32_14
  let c1_i32_16 : BitVec 32 := 1#32
  let v23 : BitVec 32 := Scalar.subi v21 c1_i32_16
  let c0_i32_17 : BitVec 32 := 0#32
  let v24 : BitVec 1 := Scalar.cmpi .ne v23 c0_i32_17
  v24

def k0_cond7 (i : grid0.Coords) : BitVec 1 :=
  let arg1 : BitVec 32 := BitVec.ofNat 32 (i 1).val
  let c0_i32 : BitVec 32 := 0#32
  let v9 : BitVec 32 := Scalar.maxsi arg1 c0_i32
  let c7_i32 : BitVec 32 := 7#32
  let v10 : BitVec 32 := Scalar.minsi v9 c7_i32
  let c1_i32 : BitVec 32 := 1#32
  let v15 : BitVec 32 := Scalar.subi v10 c1_i32
  let c1_i32_10 : BitVec 32 := 1#32
  let v17 : BitVec 32 := Scalar.subi v15 c1_i32_10
  let c1_i32_12 : BitVec 32 := 1#32
  let v19 : BitVec 32 := Scalar.subi v17 c1_i32_12
  let c1_i32_14 : BitVec 32 := 1#32
  let v21 : BitVec 32 := Scalar.subi v19 c1_i32_14
  let c1_i32_16 : BitVec 32 := 1#32
  let v23 : BitVec 32 := Scalar.subi v21 c1_i32_16
  let c1_i32_18 : BitVec 32 := 1#32
  let v25 : BitVec 32 := Scalar.subi v23 c1_i32_18
  let c0_i32_19 : BitVec 32 := 0#32
  let v26 : BitVec 1 := Scalar.cmpi .ne v25 c0_i32_19
  v26

def k0_cond8 (i : grid0.Coords) : BitVec 1 :=
  let arg1 : BitVec 32 := BitVec.ofNat 32 (i 1).val
  let c7_i32_7 : BitVec 32 := 7#32
  let v12 : BitVec 1 := Scalar.cmpi .eq arg1 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x4096 : Shape := ⟨2, ![16384, 4096]⟩
abbrev S1x4096x4096 : Shape := ⟨3, ![1, 4096, 4096]⟩
abbrev S8x2048x4096 : Shape := ⟨3, ![8, 2048, 4096]⟩
abbrev S1x4096 : Shape := ⟨2, ![1, 4096]⟩
abbrev S_ : Shape := ⟨0, ![]⟩
abbrev S4096x4096 : Shape := ⟨2, ![4096, 4096]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S8x2048x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S8x2048x4096, .f32⟩
  | .hbm, ⟨7, _⟩ => ⟨S8x2048x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x4096, .f32⟩
  | .hbm, ⟨29, _⟩ => ⟨S8x2048x4096, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x4096, .f32⟩
  | .hbm, ⟨35, _⟩ => ⟨S8x2048x4096, .f32⟩
  | .hbm, ⟨36, _⟩ => ⟨S4096, .f32⟩
  | .hbm, ⟨37, _⟩ => ⟨S1x1x4096, .f32⟩
  | .hbm, ⟨38, _⟩ => ⟨S8x2048x4096, .f32⟩
  | .hbm, ⟨39, _⟩ => ⟨S8x2048x4096, .f32⟩
  | .hbm, ⟨40, _⟩ => ⟨S4096, .f32⟩
  | .hbm, ⟨41, _⟩ => ⟨S1x1x4096, .f32⟩
  | .hbm, ⟨42, _⟩ => ⟨S8x2048x4096, .f32⟩
  | .hbm, ⟨43, _⟩ => ⟨S8x2048x4096, .f32⟩
  | .hbm, ⟨44, _⟩ => ⟨S16384x4096, .f32⟩
  | .hbm, ⟨45, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel6.lean ====
abbrev S16384x26624 : Shape := ⟨2, ![16384, 26624]⟩
abbrev S1x4096 : Shape := ⟨2, ![1, 4096]⟩
abbrev S4096 : Shape := ⟨1, ![4096]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x1x1 : Shape := ⟨3, ![16, 1, 1]⟩
abbrev S1x128x128 : Shape := ⟨3, ![1, 128, 128]⟩
abbrev S16x128x128 : Shape := ⟨3, ![16, 128, 128]⟩
abbrev S16x1 : Shape := ⟨2, ![16, 1]⟩
abbrev S16x128 : Shape := ⟨2, ![16, 128]⟩
abbrev S16x128x1 : Shape := ⟨3, ![16, 128, 1]⟩
abbrev S16384x4096 : Shape := ⟨2, ![16384, 4096]⟩
abbrev S128x1024 : Shape := ⟨2, ![128, 1024]⟩
abbrev S128x2048 : Shape := ⟨2, ![128, 2048]⟩
abbrev S8x128x128 : Shape := ⟨3, ![8, 128, 128]⟩
abbrev S8x128x1 : Shape := ⟨3, ![8, 128, 1]⟩
abbrev S1x2048 : Shape := ⟨2, ![1, 2048]⟩
abbrev S8x128x256 : Shape := ⟨3, ![8, 128, 256]⟩
abbrev S128x256 : Shape := ⟨2, ![128, 256]⟩
abbrev S1x128x256 : Shape := ⟨3, ![1, 128, 256]⟩
abbrev S1x128x1 : Shape := ⟨3, ![1, 128, 1]⟩
abbrev S1 : Shape := ⟨1, ![1]⟩
abbrev S1x256 : Shape := ⟨2, ![1, 256]⟩

abbrev nBuf : Space → Nat
  | .hbm => 72
  | .vmem => 21
  | .smem => 1
  | _ => 0

abbrev bufTy : (tb : Table) → Fin (tcTables nBuf tb) → BufTy
  | .hbm, ⟨0, _⟩ => ⟨S16384x26624, .bf16⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S128, .f32⟩
  | .hbm, ⟨17, _⟩ => ⟨S128x1, .f32⟩
  | .hbm, ⟨18, _⟩ => ⟨S1x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .i1⟩
  | .hbm, ⟨25, _⟩ => ⟨S16x1x1, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S16x128x128, .f32⟩
  | .hbm, ⟨31, _⟩ => ⟨S16x128x128, .f32⟩
  | .hbm, ⟨32, _⟩ => ⟨S16x128x128, .f32⟩
  | .hbm, ⟨33, _⟩ => ⟨S16x128x128, .f32⟩
  | .hbm, ⟨34, _⟩ => ⟨S_, .f32⟩
  | .hbm, ⟨35, _⟩ => ⟨S_, .f32⟩
  | .hbm, ⟨36, _⟩ => ⟨S16x128x128, .i1⟩
  | .hbm, ⟨37, _⟩ => ⟨S16x128x128, .f32⟩
  | .hbm, ⟨38, _⟩ => ⟨S16x128x128, .f32⟩
  | .hbm, ⟨39, _⟩ => ⟨S_, .f32⟩
  | .hbm, ⟨40, _⟩ => ⟨S16x128x128, .f32⟩
  | .hbm, ⟨41, _⟩ => ⟨S16x128x128, .f32⟩
  | .hbm, ⟨42, _⟩ => ⟨S16x1, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S16x128, .f32⟩
  | .hbm, ⟨48, _⟩ => ⟨S16x128, .f32⟩
  | .hbm, ⟨49, _⟩ => ⟨S16x128, .f32⟩
  | .hbm, ⟨50, _⟩ => ⟨S16x128, .f32⟩
  | .hbm, ⟨51, _⟩ => ⟨S16x128x1, .f32⟩
  | .hbm, ⟨52, _⟩ => ⟨S16x1, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S16x128, .f32⟩
  | .hbm, ⟨58, _⟩ => ⟨S16x128, .f32⟩
  | .hbm, ⟨59, _⟩ => ⟨S16x128, .f32⟩
  | .hbm, ⟨60, _⟩ => ⟨S16x128, .f32⟩
  | .hbm, ⟨61, _⟩ => ⟨S_, .f32⟩
  | .hbm, ⟨62, _⟩ => ⟨S16x128, .f32⟩
  | .hbm, ⟨63, _⟩ => ⟨S16x128, .f32⟩
  | .hbm, ⟨64, _⟩ => ⟨S16x128x1, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S1x4096, .f32⟩
  | .hbm, ⟨70, _⟩ => ⟨S1x4096, .f32⟩
  | .hbm, ⟨71, _⟩ => ⟨S16384x4096, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S8x128x128, .f32⟩
  | .local _ .vmem, ⟨9, _⟩ => ⟨S8x128x128, .f32⟩
  | .local _ .vmem, ⟨10, _⟩ => ⟨S8x128x1, .f32⟩
  | .local _ .vmem, ⟨11, _⟩ => ⟨S8x128x1, .f32⟩
  | .local _ .vmem, ⟨12, _⟩ => ⟨S8x128x1, .f32⟩
  | .local _ .vmem, ⟨13, _⟩ => ⟨S8x128x1, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S128x2048, .bf16⟩
  | .local _ .vmem, ⟨19, _⟩ => ⟨S128x2048, .bf16⟩
  | .local _ .vmem, ⟨20, _⟩ => ⟨S8x128x256, .f32⟩
  | .local _ .smem, ⟨0, _⟩ => ⟨S16, .f32⟩
  | _, _ => ⟨S16384x26624, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![8, 2, 16], ![false, false, false]⟩

def k0_off1 (i : grid0.Coords) (c0_i32_20 : BitVec 32) : Fin 1 → Nat :=
  let arg1 : BitVec 32 := BitVec.ofNat 32 (i 1).val
  let c8_i32 : BitVec 32 := 8#32
  let v27 : BitVec 32 := Scalar.muli arg1 c8_i32
  let v28 : BitVec 32 := Scalar.addi v27 c0_i32_20
  let v29 : Index := Scalar.indexCast v28
  ![v29.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c5_i32 : BitVec 32 := 5#32
  let v2 : BitVec 32 := Scalar.addi c5_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c7_i32 : BitVec 32 := 7#32
  let v2 : BitVec 32 := Scalar.addi c7_i32 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S8x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S8x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference6Ideal.lean ====
abbrev S16384x26624 : Shape := ⟨2, ![16384, 26624]⟩
abbrev S1x4096 : Shape := ⟨2, ![1, 4096]⟩
abbrev S16 : Shape := ⟨1, ![16]⟩
abbrev S_ : Shape := ⟨0, ![]⟩
abbrev S16384x2048 : Shape := ⟨2, ![16384, 2048]⟩
abbrev S8x2048x16x128 : Shape := ⟨4, ![8, 2048, 16, 128]⟩
abbrev S16384x4096 : Shape := ⟨2, ![16384, 4096]⟩
abbrev S8x2048x16x256 : Shape := ⟨4, ![8, 2048, 16, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x1x1 : Shape := ⟨3, ![16, 1, 1]⟩
abbrev S1x2048x2048 : Shape := ⟨3, ![1, 2048, 2048]⟩
abbrev S16x2048x2048 : Shape := ⟨3, ![16, 2048, 2048]⟩
abbrev S8x16x2048x2048 : Shape := ⟨4, ![8, 16, 2048, 2048]⟩
abbrev S1x16x2048x2048 : Shape := ⟨4, ![1, 16, 2048, 2048]⟩
abbrev S8x16x256x2048 : Shape := ⟨4, ![8, 16, 256, 2048]⟩
abbrev S8x2048x16 : Shape := ⟨3, ![8, 2048, 16]⟩
abbrev S8x2048x16x1 : Shape := ⟨4, ![8, 2048, 16, 1]⟩
abbrev S4096 : Shape := ⟨1, ![4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x26624, .bf16⟩
  | .hbm, ⟨1, _⟩ => ⟨S1x4096, .f32⟩
  | .hbm, ⟨2, _⟩ => ⟨S1x4096, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16384x2048, .bf16⟩
  | .hbm, ⟨15, _⟩ => ⟨S16384x2048, .f32⟩
  | .hbm, ⟨16, _⟩ => ⟨S8x2048x16x128, .f32⟩
  | .hbm, ⟨17, _⟩ => ⟨S16384x2048, .bf16⟩
  | .hbm, ⟨18, _⟩ => ⟨S16384x2048, .f32⟩
  | .hbm, ⟨19, _⟩ => ⟨S8x2048x16x128, .f32⟩
  | .hbm, ⟨20, _⟩ => ⟨S_, .f32⟩
  | .hbm, ⟨21, _⟩ => ⟨S8x2048x16x128, .f32⟩
  | .hbm, ⟨22, _⟩ => ⟨S8x2048x16x128, .f32⟩
  | .hbm, ⟨23, _⟩ => ⟨S16384x4096, .bf16⟩
  | .hbm, ⟨24, _⟩ => ⟨S16384x4096, .f32⟩
  | .hbm, ⟨25, _⟩ => ⟨S8x2048x16x256, .f32⟩
  | .hbm, ⟨26, _⟩ => ⟨S2048, .f32⟩
  | .hbm, ⟨27, _⟩ => ⟨S2048x1, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .i1⟩
  | .hbm, ⟨35, _⟩ => ⟨S16x1x1, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S1x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S_, .f32⟩
  | .hbm, ⟨46, _⟩ => ⟨S16x2048x2048, .i1⟩
  | .hbm, ⟨47, _⟩ => ⟨S16x2048x2048, .f32⟩
  | .hbm, ⟨48, _⟩ => ⟨S16x2048x2048, .f32⟩
  | .hbm, ⟨49, _⟩ => ⟨S8x16x2048x2048, .f32⟩
  | .hbm, ⟨50, _⟩ => ⟨S1x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x256x2048, .f32⟩
  | .hbm, ⟨54, _⟩ => ⟨S8x2048x16x256, .f32⟩
  | .hbm, ⟨55, _⟩ => ⟨S_, .f32⟩
  | .hbm, ⟨56, _⟩ => ⟨S8x2048x16, .f32⟩
  | .hbm, ⟨57, _⟩ => ⟨S8x2048x16x1, .f32⟩
  | .hbm, ⟨58, _⟩ => ⟨S_, .f32⟩
  | .hbm, ⟨59, _⟩ => ⟨S8x2048x16x1, .f32⟩
  | .hbm, ⟨60, _⟩ => ⟨S8x2048x16x1, .f32⟩
  | .hbm, ⟨61, _⟩ => ⟨S8x2048x16x256, .f32⟩
  | .hbm, ⟨62, _⟩ => ⟨S8x2048x16x256, .f32⟩
  | .hbm, ⟨63, _⟩ => ⟨S8x2048x16x256, .f32⟩
  | .hbm, ⟨64, _⟩ => ⟨S_, .f32⟩
  | .hbm, ⟨65, _⟩ => ⟨S8x2048x16, .f32⟩
  | .hbm, ⟨66, _⟩ => ⟨S8x2048x16x1, .f32⟩
  | .hbm, ⟨67, _⟩ => ⟨S_, .f32⟩
  | .hbm, ⟨68, _⟩ => ⟨S8x2048x16x1, .f32⟩
  | .hbm, ⟨69, _⟩ => ⟨S8x2048x16x1, .f32⟩
  | .hbm, ⟨70, _⟩ => ⟨S8x2048x16x256, .f32⟩
  | .hbm, ⟨71, _⟩ => ⟨S8x2048x16x256, .f32⟩
  | .hbm, ⟨72, _⟩ => ⟨S_, .f32⟩
  | .hbm, ⟨73, _⟩ => ⟨S8x2048x16x1, .f32⟩
  | .hbm, ⟨74, _⟩ => ⟨S8x2048x16x1, .f32⟩
  | .hbm, ⟨75, _⟩ => ⟨S8x2048x16x1, .f32⟩
  | .hbm, ⟨76, _⟩ => ⟨S8x2048x16x256, .f32⟩
  | .hbm, ⟨77, _⟩ => ⟨S8x2048x16x256, .f32⟩
  | .hbm, ⟨78, _⟩ => ⟨S16384x4096, .f32⟩
  | .hbm, ⟨79, _⟩ => ⟨S4096, .f32⟩
  | .hbm, ⟨80, _⟩ => ⟨S1x4096, .f32⟩
  | .hbm, ⟨81, _⟩ => ⟨S16384x4096, .f32⟩
  | .hbm, ⟨82, _⟩ => ⟨S16384x4096, .f32⟩
  | .hbm, ⟨83, _⟩ => ⟨S4096, .f32⟩
  | .hbm, ⟨84, _⟩ => ⟨S1x4096, .f32⟩
  | .hbm, ⟨85, _⟩ => ⟨S16384x4096, .f32⟩
  | .hbm, ⟨86, _⟩ => ⟨S16384x4096, .f32⟩
  | .hbm, ⟨87, _⟩ => ⟨S16384x4096, .bf16⟩
  | .hbm, ⟨88, _⟩ => ⟨S16384x4096, .f32⟩
  | .hbm, ⟨89, _⟩ => ⟨S16384x4096, .f32⟩
  | .hbm, ⟨90, _⟩ => ⟨S16384x4096, .f32⟩
  | .hbm, ⟨91, _⟩ => ⟨S_, .f32⟩
  | .hbm, ⟨92, _⟩ => ⟨S16384x4096, .f32⟩
  | .hbm, ⟨93, _⟩ => ⟨S16384x4096, .f32⟩
  | .hbm, ⟨94, _⟩ => ⟨S_, .f32⟩
  | .hbm, ⟨95, _⟩ => ⟨S16384x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .bf16⟩
  | _, _ => ⟨S16384x26624, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.DaForm.lean ====
module

public import proofs.«01_k».proof.Proof.Gen.KernelIdeal.Frame.Runs

@[expose] public section

set_option maxRecDepth 16384

noncomputable section

namespace Cert.KernelIdeal.Da

open Idealize.ShloMosaic Idealize.ShloMosaic.TcCoe Cert.KernelIdeal.Gen

variable {F : FTy → Type} [FloatOps F]

/-! # One grid point of the differential attention, for any width

A query block of 256 rows attends to `w` earlier keys and to its own 256; `n = w + 256`. The eight
branches of the kernel's switch are this one computation at `n = 256, 512, …, 2048`. -/

abbrev M (a b : Nat) : Shape := ⟨2, ![a, b]⟩
abbrev C (a b : Nat) : Shape := ⟨3, ![1, a, b]⟩

/-- The facts of shapes at key count `n` that the computation needs. -/
structure Fit (n : Nat) : Prop where
  kAug : Shape.Concatenates [M n 128, M n 128] (M n 256) 1
  castA : (C n 128).ShapeCasts (M n 128)
  castV : (C n 256).ShapeCasts (M n 256)
  castS : (M 512 n).ShapeCasts (C 512 n)
  castP : (C 512 n).ShapeCasts (M 512 n)
  castC : (C 128 n).ShapeCasts (M 128 n)
  castC' : (M 128 n).ShapeCasts (C 128 n)
  red : (M 128 n).Reduces [1] S128
  bc : S128x1.Broadcasts (M 128 n)
  dotK : DotDims.WF (M 512 256) (M n 256) (M 512 n) [1] [1] [0] [0] [] []
  dotV : DotDims.WF (M 512 n) (M n 256) (M 512 256) [1] [0] [0] [1] [] []
  inS : ∀ h : Fin 4, ∀ a, (![h.val, 0, 0] : Fin 3 → Nat) a + (C 512 n).size a ≤ S4x512x2048.size a
  inC : ∀ (h c : Fin 4), ∀ a, (![h.val, 128 * c.val, 0] : Fin 3 → Nat) a + (C 128 n).size a ≤ S4x512x2048.size a
  inK : ∀ h : Fin 4, ∀ a, (![0, 128 * h.val] : Fin 2 → Nat) a + (M n 128).size a ≤ S2048x512.size a
  inA : ∀ h : Fin 4, ∀ a, (![h.val, 0, 0] : Fin 3 → Nat) a + (C n 128).size a ≤ S4x2048x128.size a
  inV : ∀ h : Fin 4, ∀ a, (![h.val, 0, 0] : Fin 3 → Nat) a + (C n 256).size a ≤ S4x2048x256.size a

/-- The facts of the masked last 256 columns among `n`, when `w` columns come before them. -/
structure Tail (w n : Nat) : Prop where
  last : (M 512 n).Slices ![0, w] S512x256
  past : (M 512 n).Slices ![0, 0] (M 512 w)
  glue : Shape.Concatenates [M 512 w, S512x256] (M 512 n) 1

theorem inQ : ∀ h : Fin 4, ∀ a, (![0, 128 * h.val] : Fin 2 → Nat) a + S256x128.size a ≤ S256x512.size a := by decide
theorem inW : ∀ a, (![0, 0] : Fin 2 → Nat) a + S1x128.size a ≤ S1x128.size a := by decide
theorem inL : ∀ a, (![0, 0] : Fin 2 → Nat) a + S4x64.size a ≤ S4x64.size a := by decide

def dotK {n : Nat} (h : Fit n) : DotDims (M 512 256) (M n 256) (M 512 n) where
  lhsContracting := [1]
  rhsContracting := [1]
  lhsNonContracting := [0]
  rhsNonContracting := [0]
  lhsBatch := []
  rhsBatch := []
  wf := h.dotK

def dotV {n : Nat} (h : Fit n) : DotDims (M 512 n) (M n 256) (M 512 256) where
  lhsContracting := [1]
  rhsContracting := [0]
  lhsNonContracting := [0]
  rhsNonContracting := [1]
  lhsBatch := []
  rhsBatch := []
  wf := h.dotV

/-- The query positions of the block that starts at `b`. -/
def qpos (b : BitVec 32) : IVec S256x128 32 :=
  addi (iota .tc S256x128 32 [0] iota_S256x128_d0_w32) (broadcast S256x128 b)

def lane : IVec S256x128 32 := iota .tc S256x128 32 [1] iota_S256x128_d1_w32

def hi (b : BitVec 32) : FVec F S256x128 .f32 := sitofp .f32 (shrsi (qpos b) (broadcast S256x128 8#32))
def lo (b : BitVec 32) : FVec F S256x128 .f32 := sitofp .f32 (andi (qpos b) (broadcast S256x128 255#32))

/-- Where the lane is `l`, `x`; elsewhere `y`. -/
def onLane (l : BitVec 32) (x y : FVec F S256x128 .f32) : FVec F S256x128 .f32 :=
  select (cmpi .eq lane (broadcast S256x128 l)) x y

/-- The four position lanes that one part of the slope fills. -/
def qPart (b l0 l3 l6 l9 : BitVec 32) (p : F .f32) (y : FVec F S256x128 .f32) : FVec F S256x128 .f32 :=
  onLane l3 (lo b) (onLane l0 (hi b) (onLane l9 (broadcast S256x128 p)
    (onLane l6 (broadcast S256x128 (Scalar.mulf (Scalar.ofBits .f32 0x43800000#32) p)) y)))

/-- The position lanes of the query block. -/
def qAug (b : BitVec 32) (P : Fin 3 → F .f32) : FVec F S256x128 .bf16 :=
  truncf .bf16 (qPart b 2#32 5#32 8#32 11#32 (P 2) (qPart b 1#32 4#32 7#32 10#32 (P 1)
    (qPart b 0#32 3#32 6#32 9#32 (P 0) (broadcast S256x128 (Scalar.ofBits .f32 0x00000000#32)))))
    bitsLt_bf16_f32

/-- The queries over eight. -/
def qs (q : FVec F S256x128 .bf16) : FVec F S256x128 .bf16 :=
  truncf .bf16 (mulf (extf .f32 q bitsLt_bf16_f32) (broadcast S256x128 (Scalar.ofBits .f32 0x3E000000#32))) bitsLt_bf16_f32

def zq : FVec F S256x128 .bf16 := broadcast S256x128 (Scalar.ofBits .bf16 0x0000#16)

/-- The two half heads' queries stacked, each with the position lanes to its right. -/
def qCat (b : BitVec 32) (P : Fin 3 → F .f32) (q : FVec F S256x128 .bf16) : FVec F S512x256 .bf16 :=
  concatenate S512x256 0
    [⟨S256x256, concatenate S256x256 1
      [⟨S256x128, select (cmpi .slt lane (broadcast S256x128 64#32)) (qs q) zq⟩, ⟨S256x128, qAug b P⟩]
      concatenates_S256x128_S256x128_S256x256_d1⟩,
     ⟨S256x256, concatenate S256x256 1
      [⟨S256x128, select (cmpi .sge lane (broadcast S256x128 64#32)) (qs q) zq⟩, ⟨S256x128, qAug b P⟩]
      concatenates_S256x128_S256x128_S256x256_d1⟩]
    concatenates_S256x256_S256x256_S512x256_d0

/-- The scores before the mask. -/
def rawS {n : Nat} (h : Fit n) (b : BitVec 32) (P : Fin 3 → F .f32) (q : FVec F S256x128 .bf16)
    (k : FVec F (M n 128) .bf16) (a : FVec F (C n 128) .bf16) : FVec F (M 512 n) .f32 :=
  matmul (dotK h) none (qCat b P q)
    (concatenate (M n 256) 1 [⟨M n 128, k⟩, ⟨M n 128, shapeCast (M n 128) a h.castA⟩] h.kAug)
    (constant (M 512 n) .f32 0x00000000#32)

def later : IVec S256x256 1 :=
  cmpi .sgt (iota .tc S256x256 32 [1] iota_S256x256_d1_w32) (iota .tc S256x256 32 [0] iota_S256x256_d0_w32)

/-- Keys after the query, inside the last 256 columns. -/
def future : IVec S512x256 1 :=
  concatenate S512x256 0 [⟨S256x256, later⟩, ⟨S256x256, later⟩] concatenates_S256x256_S256x256_S512x256_d0

def masked (x : FVec F S512x256 .f32) : FVec F S512x256 .f32 :=
  select future (broadcast S512x256 (Scalar.ofBits .f32 0xFF800000#32)) x

/-- The scores with the mask on the last 256 columns, `w` columns before them. -/
def score {w n : Nat} (h : Fit n) (t : Tail w n) (b : BitVec 32) (P : Fin 3 → F .f32) (q : FVec F S256x128 .bf16)
    (k : FVec F (M n 128) .bf16) (a : FVec F (C n 128) .bf16) : FVec F (C 512 n) .f32 :=
  shapeCast (C 512 n) (concatenate (M 512 n) 1
    [⟨M 512 w, extractStridedSlice (M 512 w) ![0, 0] (rawS h b P q k a) t.past⟩,
     ⟨S512x256, masked (extractStridedSlice S512x256 ![0, w] (rawS h b P q k a) t.last)⟩] t.glue) h.castS

/-- The scores of the first query block, which has no earlier keys. -/
def score₀ (h : Fit 256) (b : BitVec 32) (P : Fin 3 → F .f32) (q : FVec F S256x128 .bf16)
    (k : FVec F (M 256 128) .bf16) (a : FVec F (C 256 128) .bf16) : FVec F (C 512 256) .f32 :=
  shapeCast (C 512 256) (masked (rawS h b P q k a)) h.castS

/-- The exponentials of 128 rows of scores, each row less its maximum. -/
def soft {n : Nat} (h : Fit n) (s : FVec F (C 128 n) .f32) : FVec F (C 128 n) .bf16 :=
  shapeCast (C 128 n) (truncf .bf16 (exp (subf (shapeCast (M 128 n) s h.castC)
    (broadcastTo (M 128 n) (shapeCast S128x1
      (multiReduction .maximumf [1] S128 (shapeCast (M 128 n) s h.castC) 0xFF800000#32 h.red (.inl rfl) rfl)
      shapeCasts_S128_S128x1) h.bc))) bitsLt_bf16_f32) h.castC'

/-- The weighted values of the two half heads; column 128 holds the sums of the weights. -/
def pv {n : Nat} (h : Fit n) (p : FVec F (C 512 n) .bf16) (v : FVec F (C n 256) .bf16) : FVec F S512x256 .f32 :=
  matmul (dotV h) none (shapeCast (M 512 n) p h.castP) (shapeCast (M n 256) v h.castV)
    (constant S512x256 .f32 0x00000000#32)

def half₀ (x : FVec F S512x256 .f32) : FVec F S256x128 .f32 :=
  divf (extractStridedSlice S256x128 ![0, 0] x slices_S512x256_o0_0_S256x128)
    (broadcastTo S256x128 (extractStridedSlice S256x1 ![0, 0]
      (extractStridedSlice S512x1 ![0, 128] x slices_S512x256_o0_128_S512x1) slices_S512x1_o0_0_S256x1)
      broadcasts_S256x1_S256x128)

def half₁ (x : FVec F S512x256 .f32) : FVec F S256x128 .f32 :=
  divf (extractStridedSlice S256x128 ![256, 0] x slices_S512x256_o256_0_S256x128)
    (broadcastTo S256x128 (extractStridedSlice S256x1 ![256, 0]
      (extractStridedSlice S512x1 ![0, 128] x slices_S512x256_o0_128_S512x1) slices_S512x1_o256_0_S256x1)
      broadcasts_S256x1_S256x128)

/-- The two half heads' difference. -/
def diff (l : FVec F S1x1 .f32) (x : FVec F S512x256 .f32) : FVec F S256x128 .f32 :=
  subf (half₀ x) (mulf (broadcastTo S256x128 l broadcasts_S1x1_S256x128) (half₁ x))

/-- The row norm, the scale by four fifths and the weights. -/
def norm (o : FVec F S256x128 .f32) (wt : FVec F S1x128 .f32) : FVec F S256x128 .bf16 :=
  truncf .bf16 (mulf (mulf o (broadcastTo S256x128 (mulf (rsqrt (addf (divf (shapeCast S256x1
    (multiReduction .add [1] S256 (mulf o o) 0x00000000#32 reduces_S256x128_S256 (.inl rfl) rfl)
    shapeCasts_S256_S256x1) (broadcast S256x1 (Scalar.ofBits .f32 0x43000000#32)))
    (broadcast S256x1 (Scalar.ofBits .f32 0x3727C5AC#32)))) (broadcast S256x1 (Scalar.ofBits .f32 0x3F4CCCCD#32)))
    broadcasts_S256x1_S256x128)) (broadcastTo S256x128 (shapeCast S1x128 wt shapeCasts_S1x128_S1x128)
    broadcasts_S1x128_S256x128)) bitsLt_bf16_f32

/-- The heads up to `h`, the last first. -/
def upTo : Fin 4 → List (Fin 4) := ![[0], [1, 0], [2, 1, 0], [3, 2, 1, 0]]

section Lists

variable {n : Nat} (f : Fit n) (v10 : View sig .tc .vmem S4x512x2048 .f32) (v11 : View sig .tc .vmem S4x512x2048 .bf16)
  (S : Fin 4 → FVec F (C 512 n) .f32)

/-- The block of the scores' scratch that head `h` fills. -/
def sPiece (h : Fin 4) : View.Piece (Elt F) S4x512x2048 .f32 :=
  ⟨Rect.unit ![h.val, 0, 0] (C 512 n).size (f.inS h), S h⟩

def sList (h : Fin 4) : List (View.Piece (Elt F) S4x512x2048 .f32) := (upTo h).map (sPiece f S)

/-- 128 rows of head `h`'s scores, read back from the scratch. -/
def sRead (h c : Fin 4) : FVec F (C 128 n) .f32 :=
  v10.readCov (sList f S h) (Rect.unit (s := S4x512x2048) ![h.val, 128 * c.val, 0] (C 128 n).size (f.inC h c)).toLoadRect

def pPiece (h c : Fin 4) : View.Piece (Elt F) S4x512x2048 .bf16 :=
  ⟨Rect.unit ![h.val, 128 * c.val, 0] (C 128 n).size (f.inC h c), soft f (sRead f v10 S h c)⟩

def pList (h : Fin 4) : List (View.Piece (Elt F) S4x512x2048 .bf16) :=
  (upTo h).flatMap fun g => [pPiece f v10 S g 3, pPiece f v10 S g 2, pPiece f v10 S g 1, pPiece f v10 S g 0]

/-- Head `h`'s weights, read back from the scratch. -/
def pRead (h : Fin 4) : FVec F (C 512 n) .bf16 :=
  v11.readCov (pList f v10 S h) (Rect.unit (s := S4x512x2048) ![h.val, 0, 0] (C 512 n).size (f.inS h)).toLoadRect

variable (V : Fin 4 → FVec F (C n 256) .bf16) (l : FVec F S1x1 .f32) (wt : FVec F S1x128 .f32)

def oPiece (h : Fin 4) : View.Piece (Elt F) S256x512 .bf16 :=
  ⟨Rect.unit ![0, 128 * h.val] S256x128.size (inQ h), norm (diff l (pv f (pRead f v10 v11 S h) (V h))) wt⟩

/-- What the grid point stores, the last head first. -/
def oList : List (View.Piece (Elt F) S256x512 .bf16) := (upTo 3).map (oPiece f v10 v11 S V l wt)

end Lists

theorem fit256 : Fit 256 := by constructor <;> decide
theorem fit512 : Fit 512 := by constructor <;> decide
theorem fit768 : Fit 768 := by constructor <;> decide
theorem fit1024 : Fit 1024 := by constructor <;> decide
theorem fit1280 : Fit 1280 := by constructor <;> decide
theorem fit1536 : Fit 1536 := by constructor <;> decide
theorem fit1792 : Fit 1792 := by constructor <;> decide
theorem fit2048 : Fit 2048 := by constructor <;> decide

theorem tail512 : Tail 256 512 := by constructor <;> decide
theorem tail768 : Tail 512 768 := by constructor <;> decide
theorem tail1024 : Tail 768 1024 := by constructor <;> decide
theorem tail1280 : Tail 1024 1280 := by constructor <;> decide
theorem tail1536 : Tail 1280 1536 := by constructor <;> decide
theorem tail1792 : Tail 1536 1792 := by constructor <;> decide
theorem tail2048 : Tail 1792 2048 := by constructor <;> decide

/-- A slope's part, as a case's run reads it. -/
theorem inP : ∀ (g : Fin 4) (h : Fin 4) (k : Fin 3), (Scalar.indexCast (Scalar.addi (Scalar.muli 3#32 (Scalar.addi (Scalar.muli (BitVec.ofNat 32 g.val) 4#32) (BitVec.ofNat 32 h.val))) (BitVec.ofNat 32 k.val)) : Index).toNat = 3 * (4 * g.val + h.val) + k.val := by decide

theorem offP (i : grid0.Coords) (h : Fin 4) (k : Fin 3) :
    k0_off1 i (BitVec.ofNat 32 h.val) (BitVec.ofNat 32 k.val) = ![3 * (4 * (i 1).val + h.val) + k.val] :=
  congrArg (fun x => ![x]) (inP (i 1) h k)

theorem inOff (i : grid0.Coords) (h : Fin 4) (k : Fin 3) :
    ∀ a, k0_off1 i (BitVec.ofNat 32 h.val) (BitVec.ofNat 32 k.val) a + S1.size a ≤ S48.size a := by
  rw [offP]
  have := (i 1).isLt
  have : (i 1).val < 4 := this
  intro a
  match a with
  | ⟨0, _⟩ => show 3 * (4 * (i 1).val + h.val) + k.val + 1 ≤ 48; omega

end Cert.KernelIdeal.Da
-- ==== Proof.DaCases.lean ====
module

public import proofs.«01_k».proof.Proof.DaForm
public import proofs.«01_k».proof.Proof.Gen.KernelIdeal.Frame.RunH

@[expose] public section

set_option maxRecDepth 16384

noncomputable section

namespace Cert.KernelIdeal.Da

open Idealize.ShloMosaic Idealize.ShloMosaic.TcCoe Cert.KernelIdeal.Gen

variable {F : FTy → Type} [FloatOps F]

section Reads

variable (i : grid0.Coords) (arg3 : Memref sig .tc .smem S48 .f32) (harg3 : arg3.IsWhole)
  (arg4 : Memref sig .tc .vmem S4x64 .f32) (harg4 : arg4.IsWhole)
  (arg5 : Memref sig .tc .vmem S256x512 .bf16) (harg5 : arg5.IsWhole)
  (arg6 : Memref sig .tc .vmem S2048x512 .bf16) (harg6 : arg6.IsWhole)
  (arg8 : Memref sig .tc .vmem S1x128 .f32) (harg8 : arg8.IsWhole)
  (arg12 : Memref sig .tc .vmem S4x2048x128 .bf16) (harg12 : arg12.IsWhole)
  (arg13 : Memref sig .tc .vmem S4x2048x256 .bf16) (harg13 : arg13.IsWhole)
  (x0 : Vec F S48 .f32) (x1 : Vec F S4x64 .f32) (x2 : Vec F S256x512 .bf16) (x3 : Vec F S2048x512 .bf16)
  (x5 : Vec F S1x128 .f32) (xs2 : Vec F S4x2048x128 .bf16) (xs3 : Vec F S4x2048x256 .bf16)
  {n : Nat} (f : Fit n)

/-- Part `k` of head `h`'s slope. -/
def rP (h : Fin 4) (k : Fin 3) : F .f32 :=
  arg3.view.readAt (Elt F) (Rect.unit (s := S48) (k0_off1 i (BitVec.ofNat 32 h.val) (BitVec.ofNat 32 k.val)) S1.size
    (inOff i h k)).toLoadRect (harg3.unread x0) (Shape.Idx.first (s := S1) (by decide))

def rQ (h : Fin 4) : FVec F S256x128 .bf16 :=
  arg5.view.readAt (Elt F) (Rect.unit (s := S256x512) ![0, 128 * h.val] S256x128.size (inQ h)).toLoadRect (harg5.unread x2)

def rK (h : Fin 4) : FVec F (M n 128) .bf16 :=
  arg6.view.readAt (Elt F) (Rect.unit (s := S2048x512) ![0, 128 * h.val] (M n 128).size (f.inK h)).toLoadRect (harg6.unread x3)

def rA (h : Fin 4) : FVec F (C n 128) .bf16 :=
  arg12.view.readAt (Elt F) (Rect.unit (s := S4x2048x128) ![h.val, 0, 0] (C n 128).size (f.inA h)).toLoadRect (harg12.unread xs2)

def rV (h : Fin 4) : FVec F (C n 256) .bf16 :=
  arg13.view.readAt (Elt F) (Rect.unit (s := S4x2048x256) ![h.val, 0, 0] (C n 256).size (f.inV h)).toLoadRect (harg13.unread xs3)

def rW : FVec F S1x128 .f32 :=
  arg8.view.readAt (Elt F) (Rect.unit (s := S1x128) ![0, 0] S1x128.size inW).toLoadRect (harg8.unread x5)

def rL : FVec F S1x1 .f32 :=
  k0_pay1 (arg4.view.readAt (Elt F) (Rect.unit (s := S4x64) ![0, 0] S4x64.size inL).toLoadRect (harg4.unread x1))

/-- The scores of head `h`, from what the grid point reads. -/
def rS {w : Nat} (t : Tail w n) (b : BitVec 32) (h : Fin 4) : FVec F (C 512 n) .f32 :=
  score f t b (rP i arg3 harg3 x0 h) (rQ arg5 harg5 x2 h) (rK arg6 harg6 x3 f h) (rA arg12 harg12 xs2 f h)

end Reads

variable (c : Dev nD) (i : grid0.Coords) (arg3 : Memref sig .tc .smem S48 .f32) (harg3 : arg3.IsWhole) (arg4 : Memref sig .tc .vmem S4x64 .f32) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x512x2048 .f32) (harg10 : arg10.IsWhole) (arg11 : Memref sig .tc .vmem S4x512x2048 .bf16) (harg11 : arg11.IsWhole) (arg12 : Memref sig .tc .vmem S4x2048x128 .bf16) (harg12 : arg12.IsWhole) (arg13 : Memref sig .tc .vmem S4x2048x256 .bf16) (harg13 : arg13.IsWhole)
    (x0 : Vec F S48 .f32) (x1 : Vec F S4x64 .f32) (x2 : Vec F S256x512 .bf16) (x3 : Vec F S2048x512 .bf16) (x4 : Vec F S2048x512 .bf16) (x5 : Vec F S1x128 .f32) (xs2 : Vec F S4x2048x128 .bf16) (xs3 : Vec F S4x2048x256 .bf16)

theorem run_B (hc0 : ¬cond0_0 i) (hc1 : cond0_1 i) (hc2 : ¬cond0_2 i) :
    (kernelRun0_B (F := F) c i arg3 harg3 arg4 harg4 arg5 harg5 arg6 harg6 arg7 harg7 arg8 harg8 arg9 harg9 arg10 harg10 arg11 harg11 arg12 harg12 arg13 harg13 hc0 hc1 hc2 x0 x1 x2 x3 x4 x5 xs2 xs3).1
      = oList fit512 arg10.view arg11.view (rS i arg3 harg3 arg5 harg5 arg6 harg6 arg12 harg12 x0 x2 x3 xs2 fit512 tail512 256#32)
          (rV arg13 harg13 xs3 fit512) (rL arg4 harg4 x1) (rW arg8 harg8 x5) := rfl

theorem run_C (hc0 : ¬cond0_0 i) (hc1 : cond0_1 i) (hc2 : cond0_2 i) (hc3 : ¬cond0_3 i) :
    (kernelRun0_C (F := F) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs2 xs3).1
      = oList fit768 arg10.view arg11.view (rS i arg3 harg3 arg5 harg5 arg6 harg6 arg12 harg12 x0 x2 x3 xs2 fit768 tail768 512#32)
          (rV arg13 harg13 xs3 fit768) (rL arg4 harg4 x1) (rW arg8 harg8 x5) := rfl

theorem run_D (hc0 : ¬cond0_0 i) (hc1 : cond0_1 i) (hc2 : cond0_2 i) (hc3 : cond0_3 i) (hc4 : ¬cond0_4 i) :
    (kernelRun0_D (F := F) c i arg3 harg3 arg4 harg4 arg5 harg5 arg6 harg6 arg7 harg7 arg8 harg8 arg9 harg9 arg10 harg10 arg11 harg11 arg12 harg12 arg13 harg13 hc0 hc1 hc2 hc3 hc4 x0 x1 x2 x3 x4 x5 xs2 xs3).1
      = oList fit1024 arg10.view arg11.view (rS i arg3 harg3 arg5 harg5 arg6 harg6 arg12 harg12 x0 x2 x3 xs2 fit1024 tail1024 768#32)
          (rV arg13 harg13 xs3 fit1024) (rL arg4 harg4 x1) (rW arg8 harg8 x5) := rfl

theorem run_E (hc0 : ¬cond0_0 i) (hc1 : cond0_1 i) (hc2 : cond0_2 i) (hc3 : cond0_3 i) (hc4 : cond0_4 i) (hc5 : ¬cond0_5 i) :
    (kernelRun0_E (F := F) c i arg3 harg3 arg4 harg4 arg5 harg5 arg6 harg6 arg7 harg7 arg8 harg8 arg9 harg9 arg10 harg10 arg11 harg11 arg12 harg12 arg13 harg13 hc0 hc1 hc2 hc3 hc4 hc5 x0 x1 x2 x3 x4 x5 xs2 xs3).1
      = oList fit1280 arg10.view arg11.view (rS i arg3 harg3 arg5 harg5 arg6 harg6 arg12 harg12 x0 x2 x3 xs2 fit1280 tail1280 1024#32)
          (rV arg13 harg13 xs3 fit1280) (rL arg4 harg4 x1) (rW arg8 harg8 x5) := rfl

theorem run_F (hc0 : ¬cond0_0 i) (hc1 : cond0_1 i) (hc2 : cond0_2 i) (hc3 : cond0_3 i) (hc4 : cond0_4 i) (hc5 : cond0_5 i) (hc6 : ¬cond0_6 i) :
    (kernelRun0_F (F := F) c i arg3 harg3 arg4 harg4 arg5 harg5 arg6 harg6 arg7 harg7 arg8 harg8 arg9 harg9 arg10 harg10 arg11 harg11 arg12 harg12 arg13 harg13 hc0 hc1 hc2 hc3 hc4 hc5 hc6 x0 x1 x2 x3 x4 x5 xs2 xs3).1
      = oList fit1536 arg10.view arg11.view (rS i arg3 harg3 arg5 harg5 arg6 harg6 arg12 harg12 x0 x2 x3 xs2 fit1536 tail1536 1280#32)
          (rV arg13 harg13 xs3 fit1536) (rL arg4 harg4 x1) (rW arg8 harg8 x5) := rfl

theorem run_G (hc0 : ¬cond0_0 i) (hc1 : cond0_1 i) (hc2 : cond0_2 i) (hc3 : cond0_3 i) (hc4 : cond0_4 i) (hc5 : cond0_5 i) (hc6 : cond0_6 i) (hc7 : ¬cond0_7 i) :
    (kernelRun0_G (F := F) c i arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xs2 xs3).1
      = oList fit1792 arg10.view arg11.view (rS i arg3 harg3 arg5 harg5 arg6 harg6 arg12 harg12 x0 x2 x3 xs2 fit1792 tail1792 1536#32)
          (rV arg13 harg13 xs3 fit1792) (rL arg4 harg4 x1) (rW arg8 harg8 x5) := rfl

theorem run_H (hc0 : ¬cond0_0 i) (hc1 : cond0_1 i) (hc2 : cond0_2 i) (hc3 : cond0_3 i) (hc4 : cond0_4 i) (hc5 : cond0_5 i) (hc6 : cond0_6 i) (hc7 : cond0_7 i) :
    (kernelRun0_H (F := F) c i arg3 harg3 arg4 harg4 arg5 harg5 arg6 harg6 arg7 harg7 arg8 harg8 arg9 harg9 arg10 harg10 arg11 harg11 arg12 harg12 arg13 harg13 hc0 hc1 hc2 hc3 hc4 hc5 hc6 hc7 x0 x1 x2 x3 x4 x5 xs2 xs3).1
      = oList fit2048 arg10.view arg11.view (rS i arg3 harg3 arg5 harg5 arg6 harg6 arg12 harg12 x0 x2 x3 xs2 fit2048 tail2048 1792#32)
          (rV arg13 harg13 xs3 fit2048) (rL arg4 harg4 x1) (rW arg8 harg8 x5) := rfl

theorem run_A (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 hc0 hc1 x0 x1 x2 x3 x4 x5).1
      = oList fit256 arg10.view arg11.view
          (fun h => score₀ fit256 0#32 (rP i arg3 harg3 x0 h) (rQ arg5 harg5 x2 h) (rK arg6 harg6 x3 fit256 h)
            (arg12.view.readCov (kernelRun0_A (F := F) c i arg3 harg3 arg4 harg4 arg5 harg5 arg6 harg6 arg7 harg7 arg8 harg8 arg9 harg9 arg10 harg10 arg11 harg11 arg12 harg12 arg13 harg13 hc0 hc1 x0 x1 x2 x3 x4 x5).2.1
              (Rect.unit (s := S4x2048x128) ![h.val, 0, 0] (C 256 128).size (fit256.inA h)).toLoadRect))
          (fun h => arg13.view.readCov (kernelRun0_A (F := F) c i arg3 harg3 arg4 harg4 arg5 harg5 arg6 harg6 arg7 harg7 arg8 harg8 arg9 harg9 arg10 harg10 arg11 harg11 arg12 harg12 arg13 harg13 hc0 hc1 x0 x1 x2 x3 x4 x5).2.2.1
              (Rect.unit (s := S4x2048x256) ![h.val, 0, 0] (C 256 256).size (fit256.inV h)).toLoadRect)
          (rL arg4 harg4 x1) (rW arg8 harg8 x5) := rfl

end Cert.KernelIdeal.Da
-- ==== Proof.DaRead.lean ====
module

public import proofs.«01_k».proof.Proof.DaForm
public import Idealize.ShloMosaic.Lib.Pointwise
public import Idealize.ShloMosaic.Lib.Pipeline.Value

@[expose] public section

set_option maxRecDepth 16384

noncomputable section

namespace Cert.KernelIdeal.Da

open Idealize.ShloMosaic Idealize.ShloMosaic.TcCoe Cert.KernelIdeal.Gen

variable {F : FTy → Type} [FloatOps F] {n : Nat} (f : Fit n)
  (v10 : View sig .tc .vmem S4x512x2048 .f32) (v11 : View sig .tc .vmem S4x512x2048 .bf16)
  (S : Fin 4 → FVec F (C 512 n) .f32)

/-! # What the scratch gives back within one grid point -/

theorem self_mem_upTo : ∀ h : Fin 4, h ∈ upTo h := by decide

theorem all_mem_upTo : ∀ h : Fin 4, h ∈ upTo 3 := by decide

theorem sList_head (h : Fin 4) : ∃ T, sList f S h = sPiece f S h :: T := by
  fin_cases h <;> exact ⟨_, rfl⟩

/-- Rows `128 c …` of head `h`'s scores come back as they were stored. -/
theorem sRead_apply (h c : Fin 4) (r : Fin 128) (j : Fin n) :
    sRead f v10 S h c (ix3 0 r j) = S h (ix3 0 ⟨128 * c.val + r.val, by omega⟩ j) := by
  obtain ⟨T, hT⟩ := sList_head f S h
  unfold sRead
  rw [View.readCov_eq_canon', hT]
  have e : (Rect.unit (s := S4x512x2048) ![h.val, 128 * c.val, 0] (C 128 n).size (f.inC h c)).toLoadRect.idx (ix3 0 r j)
      = (Rect.unit (s := S4x512x2048) ![h.val, 0, 0] (C 512 n).size (f.inS h)).emb
          (ix3 (0 : Fin 1) (⟨128 * c.val + r.val, by omega⟩ : Fin 512) j) := by
    funext a
    apply Fin.ext
    match a with
    | ⟨0, _⟩ => rfl
    | ⟨1, _⟩ => show 128 * c.val + 1 * r.val = 0 + 1 * (128 * c.val + r.val); omega
    | ⟨2, _⟩ => rfl
  show View.canon _ (LoadRect.idx _ _) = _
  rw [e]
  exact View.canon_cons_emb _ _ T _

/-- The weights of head `h`, row by row, from the scores. -/
theorem pRead_apply (h : Fin 4) (r : Fin 512) (j : Fin n) :
    pRead f v10 v11 S h (ix3 0 r j)
      = soft f (sRead f v10 S h ⟨r.val / 128, by omega⟩) (ix3 0 ⟨r.val % 128, by omega⟩ j) := by
  unfold pRead
  rw [View.readCov_eq_canon']
  let G : S4x512x2048.Idx → F .bf16 := fun y =>
    if hy : (y 2).val < n then
      soft f (sRead f v10 S ⟨(y 0).val, (y 0).isLt⟩ ⟨(y 1).val / 128, by have : (y 1).val < 512 := (y 1).isLt; omega⟩)
        (ix3 0 ⟨(y 1).val % 128, by omega⟩ ⟨(y 2).val, hy⟩)
    else Scalar.ofBits .bf16 0x0000#16
  have hG : ∀ g c : Fin 4, ∀ x : (C 128 n).Idx, soft f (sRead f v10 S g c) x
      = G ((Rect.unit (s := S4x512x2048) ![g.val, 128 * c.val, 0] (C 128 n).size (f.inC g c)).emb x) := by
    intro g c x
    have h0 : (x 0).val = 0 := by have : (x 0).val < 1 := (x 0).isLt; omega
    have h1 : (x 1).val < 128 := (x 1).isLt
    have h2 : (x 2).val < n := (x 2).isLt
    have e0 : (((Rect.unit (s := S4x512x2048) ![g.val, 128 * c.val, 0] (C 128 n).size (f.inC g c)).emb x) 0).val = g.val := by
      show g.val + 1 * (x 0).val = g.val; omega
    have e1 : (((Rect.unit (s := S4x512x2048) ![g.val, 128 * c.val, 0] (C 128 n).size (f.inC g c)).emb x) 1).val
        = 128 * c.val + (x 1).val := by
      show 128 * c.val + 1 * (x 1).val = _; omega
    have e2 : (((Rect.unit (s := S4x512x2048) ![g.val, 128 * c.val, 0] (C 128 n).size (f.inC g c)).emb x) 2).val
        = (x 2).val := by
      show 0 + 1 * (x 2).val = _; omega
    simp only [G]
    rw [dif_pos (by rw [e2]; exact h2)]
    have q0 : (⟨_, (((Rect.unit (s := S4x512x2048) ![g.val, 128 * c.val, 0] (C 128 n).size (f.inC g c)).emb x) 0).isLt⟩ : Fin 4) = g :=
      Fin.ext e0
    have q1 : (⟨(((Rect.unit (s := S4x512x2048) ![g.val, 128 * c.val, 0] (C 128 n).size (f.inC g c)).emb x) 1).val / 128,
        by rw [e1]; omega⟩ : Fin 4) = c := Fin.ext (by show _ / 128 = c.val; rw [e1]; omega)
    rw [q0, q1]
    congr 1
    funext a
    apply Fin.ext
    match a with
    | ⟨0, _⟩ => exact h0
    | ⟨1, _⟩ => show (x 1).val = _ % 128; rw [e1]; omega
    | ⟨2, _⟩ => exact e2.symm
  have key := View.canon_apply_of_pieces G (pList f v10 S h) (by
    intro p hp x
    obtain ⟨g, -, hp⟩ := List.mem_flatMap.mp hp
    simp only [List.mem_cons, List.not_mem_nil, or_false] at hp
    rcases hp with rfl | rfl | rfl | rfl <;> exact hG g _ x)
    ((Rect.unit (s := S4x512x2048) ![h.val, 0, 0] (C 512 n).size (f.inS h)).toLoadRect.idx (ix3 0 r j)) (by
      refine ⟨pPiece f v10 S h ⟨r.val / 128, by omega⟩, ?_, ?_⟩
      · refine List.mem_flatMap.mpr ⟨h, self_mem_upTo h, ?_⟩
        generalize (⟨r.val / 128, _⟩ : Fin 4) = c
        fin_cases c <;> simp
      · show _ ∈ (Rect.unit (s := S4x512x2048) ![h.val, 128 * (r.val / 128), 0] (C 128 n).size
          (f.inC h ⟨r.val / 128, by omega⟩)).set
        refine Rect.mem_set_unit.mpr fun a => ?_
        match a with
        | ⟨0, _⟩ => exact ⟨le_of_eq rfl, by show h.val + 1 * 0 < h.val + 1; omega⟩
        | ⟨1, _⟩ =>
          refine ⟨?_, ?_⟩
          · show 128 * (r.val / 128) ≤ 0 + 1 * r.val; omega
          · show 0 + 1 * r.val < 128 * (r.val / 128) + 128; omega
        | ⟨2, _⟩ => exact ⟨Nat.zero_le _, by show 0 + 1 * j.val < 0 + n; omega⟩)
  refine key.trans ?_
  have e1 : (((Rect.unit (s := S4x512x2048) ![h.val, 0, 0] (C 512 n).size (f.inS h)).toLoadRect.idx (ix3 0 r j)) 1).val = r.val := by
    show 0 + 1 * r.val = _; omega
  have e2 : (((Rect.unit (s := S4x512x2048) ![h.val, 0, 0] (C 512 n).size (f.inS h)).toLoadRect.idx (ix3 0 r j)) 2).val = j.val := by
    show 0 + 1 * j.val = _; omega
  simp only [G]
  rw [dif_pos (by rw [e2]; exact j.isLt)]
  congr 1
  · congr 1
    exact Fin.ext (by show _ / 128 = r.val / 128; rw [e1])
  · funext a
    apply Fin.ext
    match a with
    | ⟨0, _⟩ => rfl
    | ⟨1, _⟩ => show _ % 128 = r.val % 128; rw [e1]
    | ⟨2, _⟩ => exact e2

variable (V : Fin 4 → FVec F (C n 256) .bf16) (l : FVec F S1x1 .f32) (wt : FVec F S1x128 .f32)

/-- The block a grid point leaves, head by head. -/
theorem oList_apply (h : Fin 4) (r : Fin 256) (e : Fin 128) :
    View.canon (oList f v10 v11 S V l wt) (ix2 r ⟨128 * h.val + e.val, by omega⟩)
      = norm (diff l (pv f (pRead f v10 v11 S h) (V h))) wt (ix2 r e) := by
  let G : S256x512.Idx → F .bf16 := fun y =>
    norm (diff l (pv f (pRead f v10 v11 S ⟨(y 1).val / 128, by have : (y 1).val < 512 := (y 1).isLt; omega⟩)
      (V ⟨(y 1).val / 128, by have : (y 1).val < 512 := (y 1).isLt; omega⟩))) wt
      (ix2 ⟨(y 0).val, (y 0).isLt⟩ ⟨(y 1).val % 128, by omega⟩)
  have key := View.canon_apply_of_pieces G (oList f v10 v11 S V l wt) (by
    intro p hp x
    obtain ⟨g, -, rfl⟩ := List.mem_map.mp hp
    have h1 : (x 1).val < 128 := (x 1).isLt
    have e0 : (((Rect.unit (s := S256x512) ![0, 128 * g.val] S256x128.size (inQ g)).emb x) 0).val = (x 0).val := by
      show 0 + 1 * (x 0).val = _; omega
    have e1 : (((Rect.unit (s := S256x512) ![0, 128 * g.val] S256x128.size (inQ g)).emb x) 1).val = 128 * g.val + (x 1).val := by
      show 128 * g.val + 1 * (x 1).val = _; omega
    show norm (diff l (pv f (pRead f v10 v11 S g) (V g))) wt x = G _
    simp only [G]
    have q1 : (⟨(((Rect.unit (s := S256x512) ![0, 128 * g.val] S256x128.size (inQ g)).emb x) 1).val / 128,
        by rw [e1]; omega⟩ : Fin 4) = g := Fin.ext (by show _ / 128 = g.val; rw [e1]; omega)
    show _ = norm (diff l (pv f (pRead f v10 v11 S ⟨(((Rect.unit (s := S256x512) ![0, 128 * g.val] S256x128.size (inQ g)).emb x) 1).val / 128, _⟩)
      (V ⟨(((Rect.unit (s := S256x512) ![0, 128 * g.val] S256x128.size (inQ g)).emb x) 1).val / 128, _⟩))) wt _
    rw [q1]
    congr 1
    funext a
    apply Fin.ext
    match a with
    | ⟨0, _⟩ => exact e0.symm
    | ⟨1, _⟩ =>
      exact (by rw [e1]; omega : (x 1).val
        = (((Rect.unit (s := S256x512) ![0, 128 * g.val] S256x128.size (inQ g)).emb x) 1).val % 128))
    (ix2 r ⟨128 * h.val + e.val, by omega⟩) (by
      refine ⟨oPiece f v10 v11 S V l wt h, List.mem_map.mpr ⟨h, all_mem_upTo h, rfl⟩, ?_⟩
      show _ ∈ (Rect.unit (s := S256x512) ![0, 128 * h.val] S256x128.size (inQ h)).set
      refine Rect.mem_set_unit.mpr fun a => ?_
      match a with
      | ⟨0, _⟩ => exact ⟨Nat.zero_le _, by show r.val < 0 + 256; omega⟩
      | ⟨1, _⟩ => exact ⟨by show 128 * h.val ≤ 128 * h.val + e.val; omega, by show 128 * h.val + e.val < 128 * h.val + 128; omega⟩)
  refine key.trans ?_
  simp only [G]
  have q1 : (⟨(128 * h.val + e.val) / 128, by omega⟩ : Fin 4) = h := Fin.ext (by show _ / 128 = h.val; omega)
  show norm (diff l (pv f (pRead f v10 v11 S ⟨(128 * h.val + e.val) / 128, _⟩) (V ⟨(128 * h.val + e.val) / 128, _⟩))) wt _ = _
  rw [q1]
  congr 1
  funext a
  apply Fin.ext
  match a with
  | ⟨0, _⟩ => rfl
  | ⟨1, _⟩ => show (128 * h.val + e.val) % 128 = e.val; omega

end Cert.KernelIdeal.Da
-- ==== Proof.DaElem.lean ====
module

public import proofs.«01_k».proof.Proof.DaForm
public import Idealize.ShloMosaic.Lib.Pointwise
public import Idealize.ShloMosaic.Lib.MatmulPlain
public import Idealize.ShloMosaic.Lib.ValueLayout

@[expose] public section

set_option maxRecDepth 16384

noncomputable section

namespace Cert.KernelIdeal.Da

open Idealize.ShloMosaic Idealize.ShloMosaic.TcCoe Cert.KernelIdeal.Gen

variable {n w : Nat}

/-! # The grid point's operations, element by element -/

theorem word256 : Ideal.ofBits .f32 0x43800000#32 = ((256 : ℝ) : EReal) := by
  simp [Ideal.ofBits, Ideal.ieee, -EReal.coe_mul]; norm_num

theorem wordNeg256 : Ideal.ofBits .f32 0xC3800000#32 = ((-256 : ℝ) : EReal) := by
  simp [Ideal.ofBits, Ideal.ieee, -EReal.coe_mul, -EReal.coe_neg]; norm_num

theorem wordEighth : Ideal.ofBits .f32 0x3E000000#32 = ((1 / 8 : ℝ) : EReal) := by
  simp [Ideal.ofBits, Ideal.ieee, -EReal.coe_mul]; norm_num

theorem wordBot : Ideal.ofBits .f32 0xFF800000#32 = ⊥ := by
  simp [Ideal.ofBits, Ideal.ieee]

/-- A pick by an equality of small words. -/
theorem pick_eq {α : Type} (l m : Nat) (hl : l < 4294967296) (hm : m < 4294967296) (x y : α) :
    Scalar.select (IntOp.cmpi .eq (BitVec.ofNat 32 l) (BitVec.ofNat 32 m)) x y = if l = m then x else y := by
  have : (BitVec.ofNat 32 l = BitVec.ofNat 32 m) ↔ l = m := by
    constructor
    · intro h
      have := congrArg BitVec.toNat h
      simp only [BitVec.toNat_ofNat] at this
      omega
    · rintro rfl; rfl
  by_cases h : l = m
  · subst h; simp [Scalar.select, IntOp.cmpi]
  · have hb : (BitVec.ofNat 32 l == BitVec.ofNat 32 m) = false := by simpa using mt this.mp h
    simp [Scalar.select, IntOp.cmpi, h, hb]

/-- A pick by an order of small words. -/
theorem pick_slt {α : Type} (l m : Nat) (hl : l < 2147483648) (hm : m < 2147483648) (x y : α) :
    Scalar.select (IntOp.cmpi .slt (BitVec.ofNat 32 l) (BitVec.ofNat 32 m)) x y = if l < m then x else y := by
  have e : (BitVec.ofNat 32 l).slt (BitVec.ofNat 32 m) = decide (l < m) := by
    simp only [BitVec.slt, BitVec.toInt_eq_toNat_cond, BitVec.toNat_ofNat]
    congr 1
    rw [Nat.mod_eq_of_lt (by omega), Nat.mod_eq_of_lt (by omega), if_pos (by omega), if_pos (by omega)]
    simp
  by_cases h : l < m <;> simp [Scalar.select, IntOp.cmpi, e, h]

theorem pick_sge {α : Type} (l m : Nat) (hl : l < 2147483648) (hm : m < 2147483648) (x y : α) :
    Scalar.select (IntOp.cmpi .sge (BitVec.ofNat 32 l) (BitVec.ofNat 32 m)) x y = if m ≤ l then x else y := by
  have e : (BitVec.ofNat 32 m).sle (BitVec.ofNat 32 l) = decide (m ≤ l) := by
    simp only [BitVec.sle, BitVec.toInt_eq_toNat_cond, BitVec.toNat_ofNat]
    congr 1
    rw [Nat.mod_eq_of_lt (by omega), Nat.mod_eq_of_lt (by omega), if_pos (by omega), if_pos (by omega)]
    simp
  by_cases h : m ≤ l <;> simp [Scalar.select, IntOp.cmpi, e, h]

theorem pick_sgt {α : Type} (l m : Nat) (hl : l < 2147483648) (hm : m < 2147483648) (x y : α) :
    Scalar.select (IntOp.cmpi .sgt (BitVec.ofNat 32 l) (BitVec.ofNat 32 m)) x y = if m < l then x else y := by
  have e : (BitVec.ofNat 32 m).slt (BitVec.ofNat 32 l) = decide (m < l) := by
    simp only [BitVec.slt, BitVec.toInt_eq_toNat_cond, BitVec.toNat_ofNat]
    congr 1
    rw [Nat.mod_eq_of_lt (by omega), Nat.mod_eq_of_lt (by omega), if_pos (by omega), if_pos (by omega)]
    simp
  by_cases h : m < l <;> simp [Scalar.select, IntOp.cmpi, e, h]

/-- The high and the low part of a position below 2048 give it back. -/
theorem parts (m : Fin 2048) :
    ((IntOp.shrsi .vector (BitVec.ofNat 32 m.val) 8#32).toInt * 256 + (IntOp.andi (BitVec.ofNat 32 m.val) 255#32).toInt : Int) = m.val := by
  revert m; decide +kernel

/-- The high part of a position, as a real. -/
def hiR (m : Nat) : ℝ := ((IntOp.shrsi .vector (BitVec.ofNat 32 m) 8#32).toInt : ℝ)
def loR (m : Nat) : ℝ := ((IntOp.andi (BitVec.ofNat 32 m) 255#32).toInt : ℝ)

theorem partsR (m : Nat) (h : m < 2048) : hiR m * 256 + loR m = (m : ℝ) := by
  have := parts ⟨m, h⟩
  unfold hiR loR
  exact_mod_cast this

/-- The query's lanes beside the head: the parts of its position, then the parts of the slope. -/
def qT (m : Nat) (p : Fin 3 → ℝ) (l : Nat) : ℝ :=
  if l = 5 then loR m else if l = 2 then hiR m else if l = 11 then p 2 else if l = 8 then 256 * p 2 else
  if l = 4 then loR m else if l = 1 then hiR m else if l = 10 then p 1 else if l = 7 then 256 * p 1 else
  if l = 3 then loR m else if l = 0 then hiR m else if l = 9 then p 0 else if l = 6 then 256 * p 0 else 0

/-- The key's lanes beside the head: the parts of the slope, negated, then the parts of its position. -/
def kT (m : Nat) (p : Fin 3 → ℝ) (l : Nat) : ℝ :=
  if l = 11 then loR m else if l = 8 then hiR m else if l = 5 then 0 - p 2 else if l = 2 then -256 * p 2 else
  if l = 10 then loR m else if l = 7 then hiR m else if l = 4 then 0 - p 1 else if l = 1 then -256 * p 1 else
  if l = 9 then loR m else if l = 6 then hiR m else if l = 3 then 0 - p 0 else if l = 0 then -256 * p 0 else 0

/-- The lanes' product is the distance times the slope, negated. -/
theorem lanes (m m' : Nat) (h : m < 2048) (h' : m' < 2048) (p : Fin 3 → ℝ) :
    ∑ l : Fin 128, qT m p l.val * kT m' p l.val = -((p 0 + p 1 + p 2) * ((m : ℝ) - (m' : ℝ))) := by
  have cut : ∑ l : Fin 128, qT m p l.val * kT m' p l.val = ∑ l : Fin 12, qT m p l.val * kT m' p l.val := by
    have := Fin.sum_univ_add (a := 12) (b := 116) fun l : Fin (12 + 116) => qT m p l.val * kT m' p l.val
    refine this.trans ?_
    rw [Finset.sum_eq_zero (s := Finset.univ) (f := fun i : Fin 116 => _)]
    · simp
    · intro l _
      have : qT m p (12 + l.val) = 0 := by
        unfold qT
        repeat rw [if_neg (by omega)]
      simp [this]
  rw [cut]
  simp only [Fin.sum_univ_succ, Fin.sum_univ_zero]
  simp [qT, kT]
  rw [← partsR m h, ← partsR m' h']
  ring

theorem pos_word (b r : Nat) : IntOp.addi (BitVec.ofNat 32 r) (BitVec.ofNat 32 b) = BitVec.ofNat 32 (b + r) := by
  rw [IntOp.addi, ← BitVec.ofNat_add, Nat.add_comm]

theorem qAug_apply (b : Nat) (p : Fin 3 → ℝ) (r : Fin 256) (l : Fin 128) :
    qAug (F := Ideal) (BitVec.ofNat 32 b) (fun k => ((p k : ℝ) : EReal)) (ix2 r l) = ((qT (b + r.val) p l.val : ℝ) : EReal) := by
  have hl : l.val < 4294967296 := by omega
  pointwise [qAug, qPart, onLane, hi, lo, qpos, lane]
  simp only [pos_word]
  rw [pick_eq _ 5 hl (by omega), pick_eq _ 2 hl (by omega), pick_eq _ 11 hl (by omega), pick_eq _ 8 hl (by omega),
    pick_eq _ 4 hl (by omega), pick_eq _ 1 hl (by omega), pick_eq _ 10 hl (by omega), pick_eq _ 7 hl (by omega),
    pick_eq _ 3 hl (by omega), pick_eq _ 0 hl (by omega), pick_eq _ 9 hl (by omega), pick_eq _ 6 hl (by omega), word256]
  unfold qT
  simp only [apply_ite (fun x : ℝ => (x : EReal)), EReal.coe_mul, EReal.coe_zero]
  rfl

/-- A half head's lane. -/
def hd (m : Fin 2) (d : Fin 64) : Fin 128 := ⟨64 * m.val + d.val, by omega⟩

/-- A stacked row. -/
def row (m : Fin 2) (r : Fin 256) : Fin 512 := ⟨256 * m.val + r.val, by omega⟩

theorem sum_half (m : Fin 2) (g : Fin 128 → ℝ) :
    ∑ d : Fin 128, (if d.val / 64 = m.val then g d else 0) = ∑ d : Fin 64, g (hd m d) := by
  have := Fin.sum_univ_add (a := 64) (b := 64) fun d : Fin (64 + 64) => (if d.val / 64 = m.val then g d else 0)
  refine this.trans ?_
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  simp only [h0, h1]
  fin_cases m
  · simp only [Finset.sum_const_zero, add_zero, if_true, if_neg Nat.one_ne_zero]
    exact Finset.sum_congr rfl fun d _ => congrArg g (Fin.ext (by show d.val = 64 * 0 + d.val; omega))
  · simp only [Finset.sum_const_zero, zero_add, if_true, if_neg Nat.zero_ne_one]
    exact Finset.sum_congr rfl fun d _ => congrArg g (Fin.ext (by show 64 + d.val = 64 * 1 + d.val; omega))

theorem stack_apply {α : Type} (X Y : S256x256.Idx → α) (m : Fin 2) (r c : Fin 256) :
    concatenate S512x256 0 [⟨S256x256, X⟩, ⟨S256x256, Y⟩] concatenates_S256x256_S256x256_S512x256_d0 (ix2 (row m r) c)
      = if m.val = 0 then X (ix2 r c) else Y (ix2 r c) := by
  have hm := m.isLt
  split_ifs with h
  · exact concatenate_pair_apply_left 0 X Y _ (ix2 (row m r) c) rfl (ix2 r c) fun b => by
      match b with
      | ⟨0, _⟩ => show r.val = 256 * m.val + r.val; omega
      | ⟨1, _⟩ => rfl
  · exact concatenate_pair_apply_right 0 X Y _ (ix2 (row m r) c) rfl rfl (ix2 r c) (fun b hb => by
      match b, hb with
      | ⟨0, _⟩, hb => exact absurd rfl hb
      | ⟨1, _⟩, _ => rfl) (by show r.val + 256 = 256 * m.val + r.val; omega)

theorem left_apply {α : Type} {n : Nat} (X Y : (M n 128).Idx → α) (h : Shape.Concatenates [M n 128, M n 128] (M n 256) 1)
    (r : Fin n) (c : Fin 128) :
    concatenate (M n 256) 1 [⟨M n 128, X⟩, ⟨M n 128, Y⟩] h (ix2 r (Fin.castAdd 128 c)) = X (ix2 r c) :=
  concatenate_pair_apply_left 1 X Y h (ix2 r (Fin.castAdd 128 c)) rfl (ix2 r c) fun b => by
    match b with
    | ⟨0, _⟩ => rfl
    | ⟨1, _⟩ => rfl

theorem right_apply {α : Type} {n : Nat} (X Y : (M n 128).Idx → α) (h : Shape.Concatenates [M n 128, M n 128] (M n 256) 1)
    (r : Fin n) (c : Fin 128) :
    concatenate (M n 256) 1 [⟨M n 128, X⟩, ⟨M n 128, Y⟩] h (ix2 r (Fin.natAdd 128 c)) = Y (ix2 r c) :=
  concatenate_pair_apply_right 1 X Y h (ix2 r (Fin.natAdd 128 c)) rfl rfl (ix2 r c) (fun b hb => by
    match b, hb with
    | ⟨0, _⟩, _ => rfl
    | ⟨1, _⟩, hb => exact absurd rfl hb) (by show c.val + 128 = 128 + c.val; omega)

theorem lane_apply (r : Fin 256) (l : Fin 128) : lane (ix2 r l) = BitVec.ofNat 32 l.val := by
  pointwise [lane]

theorem qs_apply (q : FVec Ideal S256x128 .bf16) (r : Fin 256) (l : Fin 128) :
    qs q (ix2 r l) = q (ix2 r l) * ((1 / 8 : ℝ) : EReal) := by
  pointwise [qs]
  rw [wordEighth]

theorem zq_apply (r : Fin 256) (l : Fin 128) : zq (F := Ideal) (ix2 r l) = 0 := by
  pointwise [zq]

theorem qCat_head (b : BitVec 32) (P : Fin 3 → Ideal .f32) (q : FVec Ideal S256x128 .bf16) (m : Fin 2) (r : Fin 256)
    (d : Fin 128) : qCat b P q (ix2 (row m r) (Fin.castAdd 128 d))
      = if d.val / 64 = m.val then q (ix2 r d) * ((1 / 8 : ℝ) : EReal) else 0 := by
  have hm := m.isLt
  unfold qCat
  rw [stack_apply, left_apply (n := 256), left_apply (n := 256), ValueIdx.select_apply, ValueIdx.select_apply, cmpi_apply, cmpi_apply]
  simp only [lane_apply, qs_apply, zq_apply, ValueIdx.broadcast_apply]
  rw [pick_slt _ 64 (by omega) (by omega), pick_sge _ 64 (by omega) (by omega)]
  by_cases h : m.val = 0
  · rw [if_pos h]
    by_cases hd : d.val < 64
    · rw [if_pos hd, if_pos (by omega)]
    · rw [if_neg hd, if_neg (by omega)]
  · rw [if_neg h]
    by_cases hd : 64 ≤ d.val
    · rw [if_pos hd, if_pos (by omega)]
    · rw [if_neg hd, if_neg (by omega)]

theorem qCat_lane (b : BitVec 32) (P : Fin 3 → Ideal .f32) (q : FVec Ideal S256x128 .bf16) (m : Fin 2) (r : Fin 256)
    (d : Fin 128) : qCat b P q (ix2 (row m r) (Fin.natAdd 128 d)) = qAug b P (ix2 r d) := by
  unfold qCat
  rw [stack_apply, right_apply (n := 256), right_apply (n := 256), ite_self]

theorem ix2b {a b : Nat} (x : Fin a) (y : Fin b) : ix2 x y = ValueIdx.ix2 x y := ix2_eq_valueIdx x y
theorem ix3b {a b c : Nat} (x : Fin a) (y : Fin b) (z : Fin c) : ix3 x y z = ValueIdx.ix3 x y z := ix3_eq_valueIdx x y z

/-- A half head's score: the scaled product of its lanes, less the slope times the distance. -/
def sR {n : Nat} (b : Nat) (p : Fin 3 → ℝ) (q : Fin 256 → Fin 128 → ℝ) (k : Fin n → Fin 128 → ℝ) (m : Fin 2) (r : Fin 256)
    (j : Fin n) : ℝ :=
  ∑ d : Fin 64, q r (hd m d) * (1 / 8) * k j (hd m d) + -((p 0 + p 1 + p 2) * (((b + r.val : Nat) : ℝ) - (j.val : ℝ)))

theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

theorem rawS_apply (f : Fit n) (b : Nat) (p : Fin 3 → ℝ) (q : FVec Ideal S256x128 .bf16)
    (k : FVec Ideal (M n 128) .bf16) (a : FVec Ideal (C n 128) .bf16) (q' : Fin 256 → Fin 128 → ℝ) (k' : Fin n → Fin 128 → ℝ)
    (hq : ∀ r d, q (ix2 r d) = ((q' r d : ℝ) : EReal)) (hk : ∀ j d, k (ix2 j d) = ((k' j d : ℝ) : EReal))
    (ha : ∀ j l, a (ix3 0 j l) = ((kT j.val p l.val : ℝ) : EReal)) (hb : b + 256 ≤ 2048) (hn : n ≤ 2048)
    (m : Fin 2) (r : Fin 256) (j : Fin n) :
    rawS f (BitVec.ofNat 32 b) (fun i => ((p i : ℝ) : EReal)) q k a (ix2 (row m r) j) = ((sR b p q' k' m r j : ℝ) : EReal) := by
  have hd : dotK f = DotDims.transposedRhs 512 256 n := rfl
  unfold rawS
  simp only [matmul]
  rw [hd, ix2b, Ideal.matmul_transposedRhs_apply]
  simp only [← ix2b]
  have z : constant (F := Ideal) (M 512 n) .f32 0x00000000#32 (ix2 (row m r) j) = 0 := by pointwise
  rw [z, zero_add]
  have := Fin.sum_univ_add (a := 128) (b := 128) fun d : Fin (128 + 128) =>
    qCat (F := Ideal) (BitVec.ofNat 32 b) (fun i => ((p i : ℝ) : EReal)) q (ix2 (row m r) d)
      * concatenate (M n 256) 1 [⟨M n 128, k⟩, ⟨M n 128, shapeCast (M n 128) a f.castA⟩] f.kAug (ix2 j d)
  refine this.trans ?_
  unfold sR
  rw [← lanes (b + r.val) j.val (by omega) (by omega) p, EReal.coe_add, ← sum_half m fun d => q' r d * (1 / 8) * k' j d, coe_sum, coe_sum]
  refine congrArg₂ (· + ·) (Finset.sum_congr rfl fun d _ => ?_) (Finset.sum_congr rfl fun d _ => ?_)
  · rw [qCat_head, left_apply, hk, hq]
    split_ifs
    · rw [EReal.coe_mul, EReal.coe_mul]
    · simp
  · rw [qCat_lane, right_apply, qAug_apply, ix2b, ValueIdx.shapeCast_1ab_ab_apply, ← ix3b, EReal.coe_mul]
    exact congrArg _ (ha j d)

end Cert.KernelIdeal.Da
-- ==== Proof.DaOut.lean ====
module

public import proofs.«01_k».proof.Proof.DaElem
public import proofs.«01_k».proof.Proof.DaRead

@[expose] public section

set_option maxRecDepth 16384

noncomputable section

namespace Cert.KernelIdeal.Da

open Idealize.ShloMosaic Idealize.ShloMosaic.TcCoe Cert.KernelIdeal.Gen

variable {n w : Nat}

/-! # The grid point's block, element by element -/

theorem later_pick {α : Type} (r c : Fin 256) (x y : α) : Scalar.select (later (ix2 r c)) x y = if r.val < c.val then x else y := by
  pointwise [later]
  exact pick_sgt _ _ (by omega) (by omega) x y

theorem masked_apply (x : FVec Ideal S512x256 .f32) (m : Fin 2) (r c : Fin 256) :
    masked x (ix2 (row m r) c) = if r.val < c.val then ⊥ else x (ix2 (row m r) c) := by
  unfold masked future
  rw [ValueIdx.select_apply, stack_apply, ite_self, later_pick]
  split_ifs
  · exact wordBot
  · rfl

theorem reshape31 {a b : Nat} (h : (⟨3, ![1, a, b]⟩ : Shape).numel = (⟨2, ![a, b]⟩ : Shape).numel) (x : Fin a) (y : Fin b) :
    Shape.reshapeEquiv h (ix3 0 x y) = ix2 x y :=
  Shape.reshapeEquiv_eq_of_rowMajor h (by
    rw [ix3b, ix2b, Shape.rowMajor_val_three, Shape.rowMajor_val_two]
    show x.val * b + y.val = ((0 * a + x.val) * b + y.val)
    simp only [Nat.zero_mul, Nat.zero_add])

theorem reshape23 {a b : Nat} (h : (⟨2, ![a, b]⟩ : Shape).numel = (⟨3, ![1, a, b]⟩ : Shape).numel) (x : Fin a) (y : Fin b) :
    Shape.reshapeEquiv h (ix2 x y) = ix3 0 x y := by
  rw [ix3b, ix2b]; exact ValueIdx.reshapeEquiv_ix2_1ab h x y

theorem score_apply (f : Fit n) (t : Tail w n) (hw : w + 256 = n) (b : BitVec 32) (P : Fin 3 → Ideal .f32)
    (q : FVec Ideal S256x128 .bf16) (k : FVec Ideal (M n 128) .bf16) (a : FVec Ideal (C n 128) .bf16) (m : Fin 2) (r : Fin 256)
    (j : Fin n) : score f t b P q k a (ix3 0 (row m r) j)
      = if w + r.val < j.val then ⊥ else rawS f b P q k a (ix2 (row m r) j) := by
  unfold score
  rw [ix3b, ValueIdx.shapeCast_ab_1ab_apply, ← ix2b]
  by_cases h : j.val < w
  · rw [if_neg (by omega)]
    refine (concatenate_pair_apply_left 1 _ _ t.glue (ix2 (row m r) j) rfl (ix2 (row m r) ⟨j.val, h⟩) fun b => by
      match b with
      | ⟨0, _⟩ => rfl
      | ⟨1, _⟩ => rfl).trans ?_
    refine congrArg (rawS f b P q k a) (funext fun a => Fin.ext ?_)
    match a with
    | ⟨0, _⟩ => show 0 + (row m r).val = (row m r).val; omega
    | ⟨1, _⟩ => show 0 + j.val = j.val; omega
  · refine (concatenate_pair_apply_right 1 _ _ t.glue (ix2 (row m r) j) rfl rfl
      (ix2 (row m r) (⟨j.val - w, by omega⟩ : Fin 256)) (fun b hb => by
      match b, hb with
      | ⟨0, _⟩, _ => rfl
      | ⟨1, _⟩, hb => exact absurd rfl hb) (by show j.val - w + w = j.val; omega)).trans ?_
    rw [masked_apply]
    by_cases h2 : w + r.val < j.val
    · rw [if_pos h2, if_pos (by show r.val < j.val - w; omega)]
    · rw [if_neg h2, if_neg (by show ¬r.val < j.val - w; omega)]
      refine congrArg (rawS f b P q k a) (funext fun a => Fin.ext ?_)
      match a with
      | ⟨0, _⟩ => show 0 + (row m r).val = (row m r).val; omega
      | ⟨1, _⟩ => show w + (j.val - w) = j.val; omega

theorem score₀_apply (f : Fit 256) (b : BitVec 32) (P : Fin 3 → Ideal .f32)
    (q : FVec Ideal S256x128 .bf16) (k : FVec Ideal (M 256 128) .bf16) (a : FVec Ideal (C 256 128) .bf16) (m : Fin 2) (r : Fin 256)
    (j : Fin 256) : score₀ f b P q k a (ix3 0 (row m r) j)
      = if 0 + r.val < j.val then ⊥ else rawS f b P q k a (ix2 (row m r) j) := by
  unfold score₀
  rw [ix3b, ValueIdx.shapeCast_ab_1ab_apply, ← ix2b, masked_apply, Nat.zero_add]

theorem soft_apply (f : Fit n) (s : FVec Ideal (C 128 n) .f32) (r : Fin 128) (j : Fin n) :
    soft f s (ix3 0 r j) = Ideal.exp (s (ix3 0 r j) - Finset.univ.sup fun x : Fin n => s (ix3 0 r x)) := by
  pointwise [soft]
  simp only [reshape31, wordBot]
  show Ideal.exp (_ - Finset.fold max ⊥ (fun x => s (Shape.reshapeEquiv _ (ix2 r x))) Finset.univ) = _
  simp only [reshape23]
  rfl

theorem drop_apply {α : Type} {a b : Nat} (x : (C a b).Idx → α) (h : (C a b).ShapeCasts (M a b)) (i : Fin a) (j : Fin b) :
    shapeCast (M a b) x h (ix2 i j) = x (ix3 0 i j) := by
  rw [ix2b, ix3b]; exact ValueIdx.shapeCast_1ab_ab_apply x h i j

theorem pv_apply (f : Fit n) (p : FVec Ideal (C 512 n) .bf16) (v : FVec Ideal (C n 256) .bf16) (r : Fin 512) (e : Fin 256) :
    pv f p v (ix2 r e) = ∑ j : Fin n, p (ix3 0 r j) * v (ix3 0 j e) := by
  have hd : dotV f = DotDims.plain 512 n 256 := rfl
  unfold pv
  simp only [matmul]
  rw [hd, ix2b, Ideal.matmul_plain_apply]
  simp only [← ix2b, drop_apply]
  have z : constant (F := Ideal) S512x256 .f32 0x00000000#32 (ix2 r e) = 0 := by pointwise
  rw [z, zero_add]

theorem diff_apply (l : FVec Ideal S1x1 .f32) (x : FVec Ideal S512x256 .f32) (r : Fin 256) (e : Fin 128) :
    diff l x (ix2 r e)
      = Ideal.div (x (ix2 (row 0 r) (Fin.castAdd 128 e))) (x (ix2 (row 0 r) 128))
        - l (ix2 0 0) * Ideal.div (x (ix2 (row 1 r) (Fin.castAdd 128 e))) (x (ix2 (row 1 r) 128)) := by
  pointwise [diff, half₀, half₁]
  have h0 : (⟨r.val, by omega⟩ : Fin 512) = row 0 r := Fin.ext (by show r.val = 256 * 0 + r.val; omega)
  have h1 : (⟨256 + r.val, by omega⟩ : Fin 512) = row 1 r := Fin.ext (by show 256 + r.val = 256 * 1 + r.val; omega)
  rw [h0, h1]
  rfl

theorem norm_apply (o : FVec Ideal S256x128 .f32) (wt : FVec Ideal S1x128 .f32) (r : Fin 256) (e : Fin 128) :
    norm o wt (ix2 r e) = o (ix2 r e) * (Ideal.rsqrt (Ideal.div (∑ x : Fin 128, o (ix2 r x) * o (ix2 r x))
      (Ideal.ofBits .f32 0x43000000#32) + Ideal.ofBits .f32 0x3727C5AC#32) * Ideal.ofBits .f32 0x3F4CCCCD#32) * wt (ix2 0 e) := by
  pointwise [norm]

theorem lam_apply (x : Vec Ideal S4x64 .f32) : k0_pay1 x (ix2 0 0)
    = Ideal.exp (∑ d : Fin 64, x (ix2 0 d) * x (ix2 1 d)) - Ideal.exp (∑ d : Fin 64, x (ix2 2 d) * x (ix2 3 d))
      + Ideal.ofBits .f32 0x3E4CCCCD#32 := by
  pointwise [k0_pay1]

end Cert.KernelIdeal.Da
-- ==== Proof.DaMath.lean ====
module

public import Idealize.ShloMosaic.PureOps.Ideal

@[expose] public section

noncomputable section

namespace Cert.Da

open Idealize.ShloMosaic

/-! # The softmax over the keys a query may see, over all keys and over a prefix of them -/

variable (sc : Nat → ℝ) (i : Nat)

/-- A score, none for the keys after the query. -/
def E (j : Nat) : EReal := if i < j then ⊥ else ((sc j : ℝ) : EReal)

/-- A weight before its division, over the first `n` keys. -/
def W (n j : Nat) : EReal := Ideal.exp (E sc i j - Finset.univ.sup fun x : Fin n => E sc i x.val)

theorem sup_real (n : Nat) (h : i < n) : ∃ M : ℝ, (Finset.univ.sup fun x : Fin n => E sc i x.val) = (M : EReal) := by
  haveI : Nonempty (Fin n) := ⟨⟨0, by omega⟩⟩
  obtain ⟨x, -, hx⟩ := Finset.exists_mem_eq_sup (Finset.univ : Finset (Fin n)) Finset.univ_nonempty fun x => E sc i x.val
  rw [hx]
  have h0 : E sc i 0 ≤ E sc i x.val := by
    rw [← hx]; exact Finset.le_sup (f := fun x : Fin n => E sc i x.val) (Finset.mem_univ (⟨0, by omega⟩ : Fin n))
  unfold E at h0 ⊢
  rw [if_neg (by omega)] at h0
  split_ifs at h0 ⊢ with hx
  · exact absurd h0 (by simp)
  · exact ⟨_, rfl⟩

/-- The weights over the first `n` keys are those over all `N`. -/
theorem sup_prefix (n N : Nat) (h : i < n) (hN : n ≤ N) :
    (Finset.univ.sup fun x : Fin n => E sc i x.val) = Finset.univ.sup fun x : Fin N => E sc i x.val := by
  apply le_antisymm
  · refine Finset.sup_le fun x _ => ?_
    exact Finset.le_sup (f := fun x : Fin N => E sc i x.val) (Finset.mem_univ (⟨x.val, by omega⟩ : Fin N))
  · refine Finset.sup_le fun x _ => ?_
    by_cases hx : x.val < n
    · exact Finset.le_sup (f := fun x : Fin n => E sc i x.val) (Finset.mem_univ (⟨x.val, hx⟩ : Fin n))
    · have : E sc i x.val = ⊥ := if_pos (by omega)
      rw [this]; exact bot_le

theorem W_prefix (n N j : Nat) (h : i < n) (hN : n ≤ N) : W sc i n j = W sc i N j := by
  unfold W; rw [sup_prefix sc i n N h hN]

theorem W_after (n j : Nat) (h : i < j) : W sc i n j = 0 := by
  unfold W E
  rw [if_pos h, EReal.bot_sub]
  rfl

/-- The weights are reals, none negative, the first positive. -/
theorem W_real (n : Nat) (h : i < n) : ∃ w : Nat → ℝ, (∀ j, W sc i n j = (w j : EReal)) ∧ (∀ j, 0 ≤ w j) ∧ 0 < w 0 := by
  obtain ⟨M, hM⟩ := sup_real sc i n h
  refine ⟨fun j => if i < j then 0 else Real.exp (sc j - M), fun j => ?_, fun j => ?_, ?_⟩
  · by_cases hj : i < j
    · rw [W_after sc i n j hj]
      show (0 : EReal) = ((if i < j then 0 else Real.exp (sc j - M) : ℝ) : EReal)
      rw [if_pos hj]; rfl
    · unfold W; rw [hM]; unfold E
      rw [if_neg hj]
      show _ = ((if i < j then 0 else Real.exp (sc j - M) : ℝ) : EReal)
      rw [if_neg hj, ← EReal.coe_sub]
      rfl
  · dsimp only; split_ifs
    · exact le_rfl
    · exact (Real.exp_pos _).le
  · dsimp only; rw [if_neg (by omega)]; exact Real.exp_pos _

theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

theorem sum_prefix (n N : Nat) (hN : n ≤ N) (g : Nat → ℝ) (h : ∀ j, n ≤ j → g j = 0) :
    ∑ j : Fin n, g j.val = ∑ j : Fin N, g j.val := by
  rw [Fin.sum_univ_eq_sum_range, Fin.sum_univ_eq_sum_range]
  refine Finset.sum_subset (Finset.range_mono hN) fun x _ hx => h x ?_
  simpa using hx

/-- The weighted mean over a prefix, its division last, is a real: the mean over all keys with each weight divided. -/
theorem mean_prefix (n N : Nat) (h : i < n) (hN : n ≤ N) (v : Nat → ℝ) : ∃ u : Nat → ℝ,
    (∀ j, Ideal.div (W sc i N j) (∑ x : Fin N, W sc i N x.val) = (u j : EReal)) ∧
    Ideal.div (∑ j : Fin n, W sc i n j.val * ((v j.val : ℝ) : EReal)) (∑ j : Fin n, W sc i n j.val * 1)
      = ((∑ j : Fin N, u j.val * v j.val : ℝ) : EReal) := by
  obtain ⟨w, hw, h0, hp⟩ := W_real sc i N (by omega)
  have hz : ∀ j, n ≤ j → w j = 0 := fun j hj => by
    have := hw j
    rw [W_after sc i N j (by omega)] at this
    exact_mod_cast this.symm
  have hs : 0 < ∑ x : Fin N, w x.val :=
    Finset.sum_pos' (fun x _ => h0 x.val) ⟨⟨0, by omega⟩, Finset.mem_univ _, hp⟩
  refine ⟨fun j => w j / ∑ x : Fin N, w x.val, fun j => ?_, ?_⟩
  · rw [hw]; simp only [hw]
    rw [← coe_sum, Ideal.div_coe hs.ne', ← EReal.coe_mul]
    congr 1; ring
  · simp only [mul_one, W_prefix sc i n N _ h hN, hw]
    simp only [← EReal.coe_mul]
    rw [← coe_sum, ← coe_sum, sum_prefix n N hN (fun j => w j * v j) fun j hj => by simp [hz j hj], sum_prefix n N hN w hz,
      Ideal.div_coe hs.ne', ← EReal.coe_mul, Finset.sum_mul]
    congr 1
    refine Finset.sum_congr rfl fun x _ => ?_
    ring

/-- The difference of the two half heads' means, over a prefix, is the mean under the weights' difference. -/
theorem diff_prefix (sc₀ sc₁ : Nat → ℝ) (n N : Nat) (h : i < n) (hN : n ≤ N) (v : Nat → ℝ) (l : ℝ) :
    Ideal.div (∑ j : Fin n, W sc₀ i n j.val * ((v j.val : ℝ) : EReal)) (∑ j : Fin n, W sc₀ i n j.val * 1)
      - (l : EReal) * Ideal.div (∑ j : Fin n, W sc₁ i n j.val * ((v j.val : ℝ) : EReal)) (∑ j : Fin n, W sc₁ i n j.val * 1)
    = ∑ j : Fin N, (Ideal.div (W sc₀ i N j.val) (∑ x : Fin N, W sc₀ i N x.val)
        - (l : EReal) * Ideal.div (W sc₁ i N j.val) (∑ x : Fin N, W sc₁ i N x.val)) * ((v j.val : ℝ) : EReal) := by
  obtain ⟨u₀, hu₀, e₀⟩ := mean_prefix sc₀ i n N h hN v
  obtain ⟨u₁, hu₁, e₁⟩ := mean_prefix sc₁ i n N h hN v
  rw [e₀, e₁]
  simp only [hu₀, hu₁, ← EReal.coe_mul, ← EReal.coe_sub]
  rw [← coe_sum]
  congr 1
  rw [Finset.mul_sum, ← Finset.sum_sub_distrib]
  refine Finset.sum_congr rfl fun x _ => ?_
  ring

end Cert.Da
-- ==== Proof.DaHead.lean ====
module

public import proofs.«01_k».proof.Proof.DaRead
public import proofs.«01_k».proof.Proof.DaOut
public import proofs.«01_k».proof.Proof.DaMath

@[expose] public section

set_option maxRecDepth 16384

noncomputable section

namespace Cert.Da

open Idealize.ShloMosaic

/-- A half head's score of the query at `s` against the key at `j`. -/
def sc (q k : Nat → Nat → ℝ) (p : ℝ) (c s j : Nat) : ℝ :=
  ∑ d : Fin 64, q s (c + d.val) * (1 / 8) * k j (c + d.val) + -(p * ((s : ℝ) - (j : ℝ)))

/-- The mean of the values `v` under the difference of the two softmaxes. -/
def mean (sc₀ sc₁ : Nat → ℝ) (s : Nat) (l : ℝ) (v : Nat → ℝ) : EReal :=
  ∑ j : Fin 2048, (Ideal.div (W sc₀ s 2048 j.val) (∑ x : Fin 2048, W sc₀ s 2048 x.val)
    - (l : EReal) * Ideal.div (W sc₁ s 2048 j.val) (∑ x : Fin 2048, W sc₁ s 2048 x.val)) * ((v j.val : ℝ) : EReal)

/-- The row norm, the weight and the scale. -/
def normed (o : Fin 128 → EReal) (w : EReal) (e : Fin 128) : EReal :=
  o e * (Ideal.rsqrt (Ideal.div (∑ x : Fin 128, o x * o x) (Ideal.ofBits .f32 0x43000000#32) + Ideal.ofBits .f32 0x3727C5AC#32)
    * Ideal.ofBits .f32 0x3F4CCCCD#32) * w

end Cert.Da

namespace Cert.KernelIdeal.Da

open Idealize.ShloMosaic Idealize.ShloMosaic.TcCoe Cert.KernelIdeal.Gen Cert.Da

variable {n : Nat} (f : Fit n) (v10 : View sig .tc .vmem S4x512x2048 .f32) (v11 : View sig .tc .vmem S4x512x2048 .bf16)
  (S : Fin 4 → FVec Ideal (C 512 n) .f32) (V : Fin 4 → FVec Ideal (C n 256) .bf16) (l : FVec Ideal S1x1 .f32)
  (wt : FVec Ideal S1x128 .f32)

theorem pRead_exp (h : Fin 4) (r : Fin 512) (j : Fin n) : pRead f v10 v11 S h (ix3 0 r j)
    = Ideal.exp (S h (ix3 0 r j) - Finset.univ.sup fun x : Fin n => S h (ix3 0 r x)) := by
  have e : (⟨128 * (r.val / 128) + r.val % 128, by omega⟩ : Fin 512) = r := Fin.ext (Nat.div_add_mod _ _)
  rw [pRead_apply, soft_apply]
  simp only [sRead_apply, e]

/-- One head's output before the norm. -/
theorem head_diff (h : Fin 4) (g : Fin 2 → Nat → Nat → ℝ) (b : Nat) (hb : b + 256 ≤ n) (hn : n ≤ 2048)
    (hS : ∀ (m : Fin 2) (r : Fin 256) (j : Fin n), S h (ix3 0 (row m r) j) = E (g m (b + r.val)) (b + r.val) j.val)
    (v : Nat → Nat → ℝ) (hV : ∀ (j : Fin n) (e : Fin 128), V h (ix3 0 j (Fin.castAdd 128 e)) = ((v j.val e.val : ℝ) : EReal))
    (hO : ∀ j : Fin n, V h (ix3 0 j 128) = 1) (lam : ℝ) (hl : l (ix2 0 0) = (lam : EReal)) (r : Fin 256) (e : Fin 128) :
    diff l (pv f (pRead f v10 v11 S h) (V h)) (ix2 r e)
      = mean (g 0 (b + r.val)) (g 1 (b + r.val)) (b + r.val) lam fun j => v j e.val := by
  rw [diff_apply, hl]
  simp only [pv_apply, pRead_exp, hS, hV, hO]
  exact diff_prefix (b + r.val) (g 0 (b + r.val)) (g 1 (b + r.val)) n 2048 (by omega) hn (fun j => v j e.val) lam

/-- One head's output. -/
theorem head_out (h : Fin 4) (g : Fin 2 → Nat → Nat → ℝ) (b : Nat) (hb : b + 256 ≤ n) (hn : n ≤ 2048)
    (hS : ∀ (m : Fin 2) (r : Fin 256) (j : Fin n), S h (ix3 0 (row m r) j) = E (g m (b + r.val)) (b + r.val) j.val)
    (v : Nat → Nat → ℝ) (hV : ∀ (j : Fin n) (e : Fin 128), V h (ix3 0 j (Fin.castAdd 128 e)) = ((v j.val e.val : ℝ) : EReal))
    (hO : ∀ j : Fin n, V h (ix3 0 j 128) = 1) (lam : ℝ) (hl : l (ix2 0 0) = (lam : EReal)) (r : Fin 256) (e : Fin 128) :
    View.canon (oList f v10 v11 S V l wt) (ix2 r ⟨128 * h.val + e.val, by omega⟩)
      = normed (fun x => mean (g 0 (b + r.val)) (g 1 (b + r.val)) (b + r.val) lam fun j => v j x.val) (wt (ix2 0 e)) e := by
  rw [oList_apply, norm_apply]
  simp only [head_diff f v10 v11 S V l h g b hb hn hS v hV hO lam hl]
  rfl

/-- The scores of a grid point, with the mask. -/
theorem score_E {w : Nat} (t : Tail w n) (hw : w + 256 = n) (hn : n ≤ 2048) (p : Fin 3 → ℝ) (q : FVec Ideal S256x128 .bf16)
    (k : FVec Ideal (M n 128) .bf16) (a : FVec Ideal (C n 128) .bf16) (q' k' : Nat → Nat → ℝ) (c : Nat)
    (hq : ∀ r d, q (ix2 r d) = ((q' (w + r.val) (c + d.val) : ℝ) : EReal))
    (hk : ∀ j d, k (ix2 j d) = ((k' j.val (c + d.val) : ℝ) : EReal))
    (ha : ∀ j l, a (ix3 0 j l) = ((kT j.val p l.val : ℝ) : EReal)) (m : Fin 2) (r : Fin 256) (j : Fin n) :
    score f t (BitVec.ofNat 32 w) (fun i => ((p i : ℝ) : EReal)) q k a (ix3 0 (row m r) j)
      = E (sc q' k' (p 0 + p 1 + p 2) (c + 64 * m.val) (w + r.val)) (w + r.val) j.val := by
  rw [score_apply f t hw, rawS_apply f w p q k a (fun r d => q' (w + r.val) (c + d.val)) (fun j d => k' j.val (c + d.val)) hq hk ha
    (by omega) hn]
  simp only [E, sR, sc, hd, Nat.add_assoc]

theorem score₀_E (f : Fit 256) (p : Fin 3 → ℝ) (q : FVec Ideal S256x128 .bf16)
    (k : FVec Ideal (M 256 128) .bf16) (a : FVec Ideal (C 256 128) .bf16) (q' k' : Nat → Nat → ℝ) (c : Nat)
    (hq : ∀ r d, q (ix2 r d) = ((q' (0 + r.val) (c + d.val) : ℝ) : EReal))
    (hk : ∀ j d, k (ix2 j d) = ((k' j.val (c + d.val) : ℝ) : EReal))
    (ha : ∀ j l, a (ix3 0 j l) = ((kT j.val p l.val : ℝ) : EReal)) (m : Fin 2) (r : Fin 256) (j : Fin 256) :
    score₀ f (BitVec.ofNat 32 0) (fun i => ((p i : ℝ) : EReal)) q k a (ix3 0 (row m r) j)
      = E (sc q' k' (p 0 + p 1 + p 2) (c + 64 * m.val) (0 + r.val)) (0 + r.val) j.val := by
  rw [score₀_apply, rawS_apply f 0 p q k a (fun r d => q' (0 + r.val) (c + d.val)) (fun j d => k' j.val (c + d.val)) hq hk ha
    (by omega) (by omega)]
  simp only [E, sR, sc, hd, Nat.add_assoc]

end Cert.KernelIdeal.Da
-- ==== Proof.DaFill.lean ====
module

public import proofs.«01_k».proof.Proof.DaCases
public import proofs.«01_k».proof.Proof.DaHead
public import Idealize.ShloMosaic.Lib.Pipeline.Value

@[expose] public section

set_option maxRecDepth 16384

noncomputable section

namespace Cert.KernelIdeal.Da

open Idealize.ShloMosaic Idealize.ShloMosaic.TcCoe Cert.KernelIdeal.Gen

/-! # What the first grid point of a head group leaves in the carried scratch -/

section Fill

variable {F : FTy → Type} [FloatOps F]

def kPos : IVec S2048x128 32 := iota .tc S2048x128 32 [0] iota_S2048x128_d0_w32
def kLane : IVec S2048x128 32 := iota .tc S2048x128 32 [1] iota_S2048x128_d1_w32
def kHi : FVec F S2048x128 .f32 := sitofp .f32 (shrsi kPos (broadcast S2048x128 8#32))
def kLo : FVec F S2048x128 .f32 := sitofp .f32 (andi kPos (broadcast S2048x128 255#32))

def kOn (l : BitVec 32) (x y : FVec F S2048x128 .f32) : FVec F S2048x128 .f32 :=
  select (cmpi .eq kLane (broadcast S2048x128 l)) x y

/-- The four key lanes that one part of the slope fills. -/
def kPart (l0 l3 l6 l9 : BitVec 32) (p : F .f32) (y : FVec F S2048x128 .f32) : FVec F S2048x128 .f32 :=
  kOn l9 kLo (kOn l6 kHi (kOn l3 (broadcast S2048x128 (Scalar.subf (Scalar.ofBits .f32 0x00000000#32) p))
    (kOn l0 (broadcast S2048x128 (Scalar.mulf (Scalar.ofBits .f32 0xC3800000#32) p)) y)))

/-- The position lanes of all keys. -/
def kAug (P : Fin 3 → F .f32) : FVec F S2048x128 .bf16 :=
  truncf .bf16 (kPart 2#32 5#32 8#32 11#32 (P 2) (kPart 1#32 4#32 7#32 10#32 (P 1)
    (kPart 0#32 3#32 6#32 9#32 (P 0) (broadcast S2048x128 (Scalar.ofBits .f32 0x00000000#32)))))
    bitsLt_bf16_f32

/-- A column of ones, then zeros. -/
def ones : FVec F S2048x128 .bf16 :=
  truncf .bf16 (select (cmpi .eq kLane (broadcast S2048x128 0#32)) (broadcast S2048x128 (Scalar.ofBits .f32 0x3F800000#32))
    (broadcast S2048x128 (Scalar.ofBits .f32 0x00000000#32))) bitsLt_bf16_f32

def vAug (v : FVec F S2048x128 .bf16) : FVec F S2048x256 .bf16 :=
  concatenate S2048x256 1 [⟨S2048x128, v⟩, ⟨S2048x128, ones⟩] concatenates_S2048x128_S2048x128_S2048x256_d1

theorem inFA : ∀ h : Fin 4, ∀ a, (![h.val, 0, 0] : Fin 3 → Nat) a + S1x2048x128.size a ≤ S4x2048x128.size a := by decide
theorem inFV : ∀ h : Fin 4, ∀ a, (![h.val, 0, 0] : Fin 3 → Nat) a + S1x2048x256.size a ≤ S4x2048x256.size a := by decide
theorem inR7 : ∀ h : Fin 4, ∀ a, (![0, 128 * h.val] : Fin 2 → Nat) a + S2048x128.size a ≤ S2048x512.size a := by decide

def kPiece (P : Fin 4 → Fin 3 → F .f32) (h : Fin 4) : View.Piece (Elt F) S4x2048x128 .bf16 :=
  ⟨Rect.unit ![h.val, 0, 0] S1x2048x128.size (inFA h), shapeCast S1x2048x128 (kAug (P h)) shapeCasts_S2048x128_S1x2048x128⟩

def vPiece (v : Fin 4 → FVec F S2048x128 .bf16) (h : Fin 4) : View.Piece (Elt F) S4x2048x256 .bf16 :=
  ⟨Rect.unit ![h.val, 0, 0] S1x2048x256.size (inFV h), shapeCast S1x2048x256 (vAug (v h)) shapeCasts_S2048x256_S1x2048x256⟩

def kList (P : Fin 4 → Fin 3 → F .f32) : List (View.Piece (Elt F) S4x2048x128 .bf16) := (upTo 3).map (kPiece P)
def vList (v : Fin 4 → FVec F S2048x128 .bf16) : List (View.Piece (Elt F) S4x2048x256 .bf16) := (upTo 3).map (vPiece v)

/-- Head `h`'s values, as the first grid point reads them. -/
def rVal (arg7 : Memref sig .tc .vmem S2048x512 .bf16) (harg7 : arg7.IsWhole) (x4 : Vec F S2048x512 .bf16) (h : Fin 4) :
    FVec F S2048x128 .bf16 :=
  arg7.view.readAt (Elt F) (Rect.unit (s := S2048x512) ![0, 128 * h.val] S2048x128.size (inR7 h)).toLoadRect (harg7.unread x4)

variable (c : Dev nD) (i : grid0.Coords) (arg3 : Memref sig .tc .smem S48 .f32) (harg3 : arg3.IsWhole) (arg4 : Memref sig .tc .vmem S4x64 .f32) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x512x2048 .f32) (harg10 : arg10.IsWhole) (arg11 : Memref sig .tc .vmem S4x512x2048 .bf16) (harg11 : arg11.IsWhole) (arg12 : Memref sig .tc .vmem S4x2048x128 .bf16) (harg12 : arg12.IsWhole) (arg13 : Memref sig .tc .vmem S4x2048x256 .bf16) (harg13 : arg13.IsWhole)
    (x0 : Vec F S48 .f32) (x1 : Vec F S4x64 .f32) (x2 : Vec F S256x512 .bf16) (x3 : Vec F S2048x512 .bf16) (x4 : Vec F S2048x512 .bf16) (x5 : Vec F S1x128 .f32)

theorem fill_k (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 hc0 hc1 x0 x1 x2 x3 x4 x5).2.1
      = kList (rP i arg3 harg3 x0) := rfl

theorem fill_v (hc0 : cond0_0 i) (hc1 : ¬cond0_1 i) :
    (kernelRun0_A (F := F) c i arg3 harg3 arg4 harg4 arg5 harg5 arg6 harg6 arg7 harg7 arg8 harg8 arg9 harg9 arg10 harg10 arg11 harg11 arg12 harg12 arg13 harg13 hc0 hc1 x0 x1 x2 x3 x4 x5).2.2.1
      = vList (rVal arg7 harg7 x4) := rfl

end Fill

theorem kAug_apply (p : Fin 3 → ℝ) (j : Fin 2048) (l : Fin 128) :
    kAug (F := Ideal) (fun k => ((p k : ℝ) : EReal)) (ix2 j l) = ((kT j.val p l.val : ℝ) : EReal) := by
  have hl : l.val < 4294967296 := by omega
  pointwise [kAug, kPart, kOn, kHi, kLo, kPos, kLane]
  rw [pick_eq _ 5 hl (by omega), pick_eq _ 2 hl (by omega), pick_eq _ 11 hl (by omega), pick_eq _ 8 hl (by omega),
    pick_eq _ 4 hl (by omega), pick_eq _ 1 hl (by omega), pick_eq _ 10 hl (by omega), pick_eq _ 7 hl (by omega),
    pick_eq _ 3 hl (by omega), pick_eq _ 0 hl (by omega), pick_eq _ 9 hl (by omega), pick_eq _ 6 hl (by omega), wordNeg256]
  unfold kT
  simp only [apply_ite (fun x : ℝ => (x : EReal)), EReal.coe_mul, EReal.coe_zero, EReal.coe_sub]
  rfl

theorem wordOne : Ideal.ofBits .f32 0x3F800000#32 = 1 := by
  simp [Ideal.ofBits, Ideal.ieee, -EReal.coe_mul]; norm_cast; norm_num

theorem ones_apply (j : Fin 2048) : ones (F := Ideal) (ix2 j 0) = 1 := by
  show Scalar.select (IntOp.cmpi .eq (BitVec.ofNat 32 0) 0#32) (Ideal.ofBits .f32 0x3F800000#32) (Ideal.ofBits .f32 0x00000000#32) = 1
  exact wordOne

theorem vAug_left (v : FVec Ideal S2048x128 .bf16) (j : Fin 2048) (e : Fin 128) :
    vAug v (ix2 j (Fin.castAdd 128 e)) = v (ix2 j e) := left_apply (n := 2048) v ones _ j e

theorem vAug_one (v : FVec Ideal S2048x128 .bf16) (j : Fin 2048) : vAug v (ix2 j (128 : Fin 256)) = 1 :=
  (right_apply (n := 2048) v ones _ j 0).trans (ones_apply j)

/-- Four planes stored one by one come back as they were stored. -/
theorem planes_apply {a b : Nat} (X : Fin 4 → (M a b).Idx → Ideal .bf16)
    (hin : ∀ h : Fin 4, ∀ d, (![h.val, 0, 0] : Fin 3 → Nat) d + (C a b).size d ≤ (⟨3, ![4, a, b]⟩ : Shape).size d)
    (hc : (M a b).ShapeCasts (C a b)) (h : Fin 4) (j : Fin a) (l : Fin b) :
    View.canon (Val := Elt Ideal) (s := ⟨3, ![4, a, b]⟩) (e := .bf16)
      ((upTo 3).map fun g => ⟨Rect.unit ![g.val, 0, 0] (C a b).size (hin g), shapeCast (C a b) (X g) hc⟩) (ix3 h j l)
      = X h (ix2 j l) := by
  let G : (⟨3, ![4, a, b]⟩ : Shape).Idx → Ideal .bf16 := fun y =>
    X ⟨(y 0).val, (y 0).isLt⟩ (ix2 ⟨(y 1).val, (y 1).isLt⟩ ⟨(y 2).val, (y 2).isLt⟩)
  refine View.canon_apply_of_pieces (Val := Elt Ideal) (e := .bf16) G _ ?_ (ix3 h j l) ?_
  · intro p hp x
    obtain ⟨g, _, rfl⟩ := List.mem_map.mp hp
    obtain ⟨x0, x1, x2, rfl⟩ : ∃ (x0 : Fin 1) (x1 : Fin a) (x2 : Fin b), x = ix3 x0 x1 x2 :=
      ⟨x 0, x 1, x 2, by funext d; match d with | ⟨0, _⟩ => rfl | ⟨1, _⟩ => rfl | ⟨2, _⟩ => rfl⟩
    have hx0 : x0 = 0 := Subsingleton.elim _ _
    subst hx0
    show shapeCast (C a b) (X g) hc (ix3 0 x1 x2) = G _
    rw [ix3b, ValueIdx.shapeCast_ab_1ab_apply, ← ix2b]
    simp only [G]
    have e0 : (⟨(((Rect.unit (s := ⟨3, ![4, a, b]⟩) ![g.val, 0, 0] (C a b).size (hin g)).emb (ix3 0 x1 x2)) 0).val, Fin.isLt _⟩ : Fin 4) = g :=
      Fin.ext (by show g.val + 1 * 0 = g.val; omega)
    have e1 : (⟨(((Rect.unit (s := ⟨3, ![4, a, b]⟩) ![g.val, 0, 0] (C a b).size (hin g)).emb (ix3 0 x1 x2)) 1).val, Fin.isLt _⟩ : Fin a) = x1 :=
      Fin.ext (by show 0 + 1 * x1.val = x1.val; omega)
    have e2 : (⟨(((Rect.unit (s := ⟨3, ![4, a, b]⟩) ![g.val, 0, 0] (C a b).size (hin g)).emb (ix3 0 x1 x2)) 2).val, Fin.isLt _⟩ : Fin b) = x2 :=
      Fin.ext (by show 0 + 1 * x2.val = x2.val; omega)
    exact (congr (congrArg X e0) (congrArg₂ ix2 e1 e2)).symm
  · refine ⟨_, List.mem_map.mpr ⟨h, all_mem_upTo h, rfl⟩, ?_⟩
    show _ ∈ (Rect.unit (s := ⟨3, ![4, a, b]⟩) ![h.val, 0, 0] (C a b).size (hin h)).set
    refine Rect.mem_set_unit.mpr fun d => ?_
    match d with
    | ⟨0, _⟩ => exact ⟨le_of_eq rfl, by show h.val < h.val + 1; omega⟩
    | ⟨1, _⟩ => exact ⟨Nat.zero_le _, by show j.val < 0 + a; omega⟩
    | ⟨2, _⟩ => exact ⟨Nat.zero_le _, by show l.val < 0 + b; omega⟩

theorem kList_apply (P : Fin 4 → Fin 3 → Ideal .f32) (h : Fin 4) (j : Fin 2048) (l : Fin 128) :
    View.canon (kList P) (ix3 h j l) = kAug (P h) (ix2 j l) :=
  planes_apply (a := 2048) (b := 128) (fun g => kAug (P g)) inFA _ h j l

theorem vList_apply (v : Fin 4 → FVec Ideal S2048x128 .bf16) (h : Fin 4) (j : Fin 2048) (l : Fin 256) :
    View.canon (vList v) (ix3 h j l) = vAug (v h) (ix2 j l) :=
  planes_apply (a := 2048) (b := 256) (fun g => vAug (v g)) inFV _ h j l

end Cert.KernelIdeal.Da
-- ==== Proof.DaPoint.lean ====
module

public import proofs.«01_k».proof.Proof.DaFill

@[expose] public section

set_option maxRecDepth 16384

noncomputable section

namespace Cert.Da

open Idealize.ShloMosaic

/-- Head `H` of one batch: the row at `s`, from the projection's rows `x` of the batch. -/
def rowOut (x : Nat → Nat → ℝ) (p lam : ℝ) (wt : Fin 128 → EReal) (H s : Nat) (e : Fin 128) : EReal :=
  normed (fun y => mean
    (sc x (fun j c => x j (2048 + c)) p (128 * H + 64 * (0 : Fin 2).val) s)
    (sc x (fun j c => x j (2048 + c)) p (128 * H + 64 * (1 : Fin 2).val) s) s lam
    (fun j => x j (4096 + (128 * H + y.val)))) (wt e) e

end Cert.Da

namespace Cert.KernelIdeal.Da

open Idealize.ShloMosaic Idealize.ShloMosaic.TcCoe Cert.KernelIdeal.Gen Cert.Da

/-! # One grid point, from what it reads -/

section Reads

variable (i : grid0.Coords) (arg3 : Memref sig .tc .smem S48 .f32) (harg3 : arg3.IsWhole)
  (arg4 : Memref sig .tc .vmem S4x64 .f32) (harg4 : arg4.IsWhole)
  (arg5 : Memref sig .tc .vmem S256x512 .bf16) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S1x128 .f32) (harg8 : arg8.IsWhole)
  (arg10 : Memref sig .tc .vmem S4x512x2048 .f32) (arg11 : Memref sig .tc .vmem S4x512x2048 .bf16)
  (arg12 : Memref sig .tc .vmem S4x2048x128 .bf16) (harg12 : arg12.IsWhole)
  (arg13 : Memref sig .tc .vmem S4x2048x256 .bf16) (harg13 : arg13.IsWhole)
  (x0 : Vec Ideal S48 .f32) (x1 : Vec Ideal S4x64 .f32) (x2 : Vec Ideal S256x512 .bf16) (x3 x4 : Vec Ideal S2048x512 .bf16)
  (x5 : Vec Ideal S1x128 .f32) (xs2 : Vec Ideal S4x2048x128 .bf16) (xs3 : Vec Ideal S4x2048x256 .bf16)
  {n : Nat} (f : Fit n)

theorem rP_apply (h : Fin 4) (k : Fin 3) (H : Fin 16) (hH : H.val = 4 * (i 1).val + h.val) :
    rP i arg3 harg3 x0 h k = x0 (ix1 ⟨3 * H.val + k.val, by omega⟩) := by
  unfold rP
  rw [View.readAt_eq_ld, harg3.read_unread]
  show x0 _ = x0 _
  congr 1
  funext a
  match a with
  | ⟨0, _⟩ =>
    apply Fin.ext
    show k0_off1 i (BitVec.ofNat 32 h.val) (BitVec.ofNat 32 k.val) 0 + 1 * 0 = 3 * H.val + k.val
    rw [offP, hH]; rfl

theorem rQ_apply (h : Fin 4) (r : Fin 256) (d : Fin 128) :
    rQ arg5 harg5 x2 h (ix2 r d) = x2 (ix2 r ⟨128 * h.val + d.val, by omega⟩) := by
  unfold rQ
  rw [View.readAt_eq_ld, harg5.read_unread]
  show x2 _ = x2 _
  congr 1
  funext a
  apply Fin.ext
  match a with
  | ⟨0, _⟩ => show 0 + 1 * r.val = r.val; omega
  | ⟨1, _⟩ => show 128 * h.val + 1 * d.val = 128 * h.val + d.val; omega

theorem rK_apply (hn : n ≤ 2048) (h : Fin 4) (j : Fin n) (d : Fin 128) :
    rK arg6 harg6 x3 f h (ix2 j d) = x3 (ix2 ⟨j.val, by omega⟩ ⟨128 * h.val + d.val, by omega⟩) := by
  unfold rK
  rw [View.readAt_eq_ld, harg6.read_unread]
  show x3 _ = x3 _
  congr 1
  funext a
  apply Fin.ext
  match a with
  | ⟨0, _⟩ => show 0 + 1 * j.val = j.val; omega
  | ⟨1, _⟩ => show 128 * h.val + 1 * d.val = 128 * h.val + d.val; omega

theorem rVal_apply (h : Fin 4) (j : Fin 2048) (d : Fin 128) :
    rVal arg7 harg7 x4 h (ix2 j d) = x4 (ix2 j ⟨128 * h.val + d.val, by omega⟩) := by
  unfold rVal
  rw [View.readAt_eq_ld, harg7.read_unread]
  show x4 _ = x4 _
  congr 1
  funext a
  apply Fin.ext
  match a with
  | ⟨0, _⟩ => show 0 + 1 * j.val = j.val; omega
  | ⟨1, _⟩ => show 128 * h.val + 1 * d.val = 128 * h.val + d.val; omega

theorem rA_idx (hn : n ≤ 2048) (h : Fin 4) (j : Fin n) (l : Fin 128) :
    (Rect.unit (s := S4x2048x128) ![h.val, 0, 0] (C n 128).size (f.inA h)).toLoadRect.idx (ix3 0 j l)
      = ix3 h ⟨j.val, by omega⟩ l := by
  funext a
  apply Fin.ext
  match a with
  | ⟨0, _⟩ => show h.val + 1 * 0 = h.val; omega
  | ⟨1, _⟩ => show 0 + 1 * j.val = j.val; omega
  | ⟨2, _⟩ => show 0 + 1 * l.val = l.val; omega

theorem rV_idx (hn : n ≤ 2048) (h : Fin 4) (j : Fin n) (l : Fin 256) :
    (Rect.unit (s := S4x2048x256) ![h.val, 0, 0] (C n 256).size (f.inV h)).toLoadRect.idx (ix3 0 j l)
      = ix3 h ⟨j.val, by omega⟩ l := by
  funext a
  apply Fin.ext
  match a with
  | ⟨0, _⟩ => show h.val + 1 * 0 = h.val; omega
  | ⟨1, _⟩ => show 0 + 1 * j.val = j.val; omega
  | ⟨2, _⟩ => show 0 + 1 * l.val = l.val; omega

theorem rA_apply (hn : n ≤ 2048) (h : Fin 4) (j : Fin n) (l : Fin 128) :
    rA arg12 harg12 xs2 f h (ix3 0 j l) = xs2 (ix3 h ⟨j.val, by omega⟩ l) := by
  unfold rA
  rw [View.readAt_eq_ld, harg12.read_unread]
  exact congrArg xs2 (rA_idx f hn h j l)

theorem rV_apply (hn : n ≤ 2048) (h : Fin 4) (j : Fin n) (l : Fin 256) :
    rV arg13 harg13 xs3 f h (ix3 0 j l) = xs3 (ix3 h ⟨j.val, by omega⟩ l) := by
  unfold rV
  rw [View.readAt_eq_ld, harg13.read_unread]
  exact congrArg xs3 (rV_idx f hn h j l)

theorem rW_apply (e : Fin 128) : rW arg8 harg8 x5 (ix2 0 e) = x5 (ix2 0 e) := by
  unfold rW
  rw [View.readAt_eq_ld, harg8.read_unread]
  show x5 _ = x5 _
  congr 1
  funext a
  apply Fin.ext
  match a with
  | ⟨0, _⟩ => rfl
  | ⟨1, _⟩ => show 0 + 1 * e.val = e.val; omega

theorem rL_eq : rL arg4 harg4 x1 = k0_pay1 x1 := by
  unfold rL
  rw [View.readAt_eq_ld, harg4.read_unread]
  congr 1
  funext y
  show x1 _ = x1 _
  congr 1
  funext a
  apply Fin.ext
  match a with
  | ⟨0, _⟩ => show 0 + 1 * (y 0).val = (y 0).val; omega
  | ⟨1, _⟩ => show 0 + 1 * (y 1).val = (y 1).val; omega

/-- What a grid point needs of what it reads: batch rows `x`, the head group `g`, the slopes' parts and lambda. -/
structure Ins (x : Nat → Nat → ℝ) (g w : Nat) (p : Nat → Fin 3 → ℝ) (lam : ℝ) (wt : Fin 128 → EReal) : Prop where
  grp : (i 1).val = g
  h0 : ∀ (H : Fin 16) (k : Fin 3), x0 (ix1 ⟨3 * H.val + k.val, by omega⟩) = ((p H.val k : ℝ) : EReal)
  h1 : k0_pay1 x1 (ix2 0 0) = (lam : EReal)
  h2 : ∀ (r : Fin 256) (d : Fin 512), x2 (ix2 r d) = ((x (w + r.val) (512 * g + d.val) : ℝ) : EReal)
  h3 : ∀ (j : Fin 2048) (d : Fin 512), x3 (ix2 j d) = ((x j.val (2048 + (512 * g + d.val)) : ℝ) : EReal)
  h4 : ∀ (j : Fin 2048) (d : Fin 512), x4 (ix2 j d) = ((x j.val (4096 + (512 * g + d.val)) : ℝ) : EReal)
  h5 : ∀ e : Fin 128, x5 (ix2 0 e) = wt e

/-- What the carried scratch holds for head group `g`. -/
structure Carried (x : Nat → Nat → ℝ) (g : Nat) (p : Nat → Fin 3 → ℝ) : Prop where
  s2 : ∀ (h : Fin 4) (j : Fin 2048) (l : Fin 128), xs2 (ix3 h j l) = ((kT j.val (p (4 * g + h.val)) l.val : ℝ) : EReal)
  s3 : ∀ (h : Fin 4) (j : Fin 2048) (e : Fin 128), xs3 (ix3 h j (Fin.castAdd 128 e))
    = ((x j.val (4096 + (128 * (4 * g + h.val) + e.val)) : ℝ) : EReal)
  s1 : ∀ (h : Fin 4) (j : Fin 2048), xs3 (ix3 h j (128 : Fin 256)) = 1

variable {x : Nat → Nat → ℝ} {g w : Nat} {p : Nat → Fin 3 → ℝ} {lam : ℝ} {wt : Fin 128 → EReal}

theorem rP_real (I : Ins i x0 x1 x2 x3 x4 x5 x g w p lam wt) (h : Fin 4) :
    rP i arg3 harg3 x0 h = fun k => ((p (4 * g + h.val) k : ℝ) : EReal) := by
  have hg := I.grp
  have : (i 1).val < 4 := (i 1).isLt
  funext k
  rw [rP_apply i arg3 harg3 x0 h k ⟨4 * g + h.val, by omega⟩ (by rw [hg]), I.h0 ⟨4 * g + h.val, by omega⟩ k]

/-- A later grid point's row, head by head. -/
theorem point_later (t : Tail w n) (hw : w + 256 = n) (hn : n ≤ 2048) (I : Ins i x0 x1 x2 x3 x4 x5 x g w p lam wt)
    (K : Carried xs2 xs3 x g p) (h : Fin 4) (r : Fin 256) (e : Fin 128) :
    View.canon (oList f arg10.view arg11.view
      (rS i arg3 harg3 arg5 harg5 arg6 harg6 arg12 harg12 x0 x2 x3 xs2 f t (BitVec.ofNat 32 w))
      (rV arg13 harg13 xs3 f) (rL arg4 harg4 x1) (rW arg8 harg8 x5)) (ix2 r ⟨128 * h.val + e.val, by omega⟩)
      = rowOut x (p (4 * g + h.val) 0 + p (4 * g + h.val) 1 + p (4 * g + h.val) 2) lam wt (4 * g + h.val) (w + r.val) e := by
  rw [head_out f arg10.view arg11.view _ _ _ _ h (fun m s => sc x (fun j c => x j (2048 + c))
    (p (4 * g + h.val) 0 + p (4 * g + h.val) 1 + p (4 * g + h.val) 2) (128 * (4 * g + h.val) + 64 * m.val) s) w (by omega) hn ?_
    (fun j y => x j (4096 + (128 * (4 * g + h.val) + y))) ?_ ?_ lam ?_ r e, rW_apply, I.h5]
  · rfl
  · intro m r j
    unfold rS
    rw [rP_real i arg3 harg3 x0 x1 x2 x3 x4 x5 I h]
    refine score_E f t hw hn (p (4 * g + h.val)) _ _ _ x (fun j c => x j (2048 + c)) (128 * (4 * g + h.val)) ?_ ?_ ?_ m r j
    · intro r d
      rw [rQ_apply, I.h2]
      congr 2; show 512 * g + (128 * h.val + d.val) = _; omega
    · intro j d
      rw [rK_apply _ _ _ _ hn, I.h3]
      show ((x j.val _ : ℝ) : EReal) = _
      congr 2; show 2048 + (512 * g + (128 * h.val + d.val)) = _; omega
    · intro j l
      rw [rA_apply _ _ _ _ hn, K.s2]
  · intro j e
    rw [rV_apply _ _ _ _ hn, K.s3]
  · intro j
    rw [rV_apply _ _ _ _ hn, K.s1]
  · rw [rL_eq]; exact I.h1

/-- What the first grid point of a group leaves for the later ones. -/
theorem carried_fill (I : Ins i x0 x1 x2 x3 x4 x5 x g w p lam wt) :
    Carried (View.canon (kList (rP i arg3 harg3 x0))) (View.canon (vList (rVal arg7 harg7 x4))) x g p := by
  refine ⟨fun h j l => ?_, fun h j e => ?_, fun h j => ?_⟩
  · rw [kList_apply, rP_real i arg3 harg3 x0 x1 x2 x3 x4 x5 I h, kAug_apply]
  · rw [vList_apply, vAug_left, rVal_apply, I.h4]
    congr 2; show 4096 + (512 * g + (128 * h.val + e.val)) = _; omega
  · rw [vList_apply, vAug_one]

/-- The first grid point's row, head by head. -/
theorem point_first (I : Ins i x0 x1 x2 x3 x4 x5 x g 0 p lam wt) (h : Fin 4) (r : Fin 256) (e : Fin 128) :
    View.canon (oList fit256 arg10.view arg11.view
      (fun h => score₀ fit256 0#32 (rP i arg3 harg3 x0 h) (rQ arg5 harg5 x2 h) (rK arg6 harg6 x3 fit256 h)
        (arg12.view.readCov (kList (rP i arg3 harg3 x0))
          (Rect.unit (s := S4x2048x128) ![h.val, 0, 0] (C 256 128).size (fit256.inA h)).toLoadRect))
      (fun h => arg13.view.readCov (vList (rVal arg7 harg7 x4))
          (Rect.unit (s := S4x2048x256) ![h.val, 0, 0] (C 256 256).size (fit256.inV h)).toLoadRect)
      (rL arg4 harg4 x1) (rW arg8 harg8 x5)) (ix2 r ⟨128 * h.val + e.val, by omega⟩)
      = rowOut x (p (4 * g + h.val) 0 + p (4 * g + h.val) 1 + p (4 * g + h.val) 2) lam wt (4 * g + h.val) (0 + r.val) e := by
  have K := carried_fill i arg3 harg3 arg7 harg7 x0 x1 x2 x3 x4 x5 I
  rw [head_out fit256 arg10.view arg11.view _ _ _ _ h (fun m s => sc x (fun j c => x j (2048 + c))
    (p (4 * g + h.val) 0 + p (4 * g + h.val) 1 + p (4 * g + h.val) 2) (128 * (4 * g + h.val) + 64 * m.val) s) 0 (by omega) (by omega) ?_
    (fun j y => x j (4096 + (128 * (4 * g + h.val) + y))) ?_ ?_ lam ?_ r e, rW_apply, I.h5]
  · rfl
  · intro m r j
    dsimp only
    rw [rP_real i arg3 harg3 x0 x1 x2 x3 x4 x5 I h]
    refine score₀_E fit256 (p (4 * g + h.val)) _ _ _ x (fun j c => x j (2048 + c)) (128 * (4 * g + h.val)) ?_ ?_ ?_ m r j
    · intro r d
      rw [rQ_apply, I.h2]
      congr 2; show 512 * g + (128 * h.val + d.val) = _; omega
    · intro j d
      rw [rK_apply _ _ _ _ (by omega), I.h3]
      show ((x j.val _ : ℝ) : EReal) = _
      congr 2; show 2048 + (512 * g + (128 * h.val + d.val)) = _; omega
    · intro j l
      rw [View.readCov_eq_canon']
      dsimp only
      rw [rA_idx fit256 (by omega), K.s2]
  · intro j e
    dsimp only
    rw [View.readCov_eq_canon']
    dsimp only
    rw [rV_idx fit256 (by omega), K.s3]
  · intro j
    dsimp only
    rw [View.readCov_eq_canon']
    dsimp only
    rw [rV_idx fit256 (by omega), K.s1]
  · rw [rL_eq]; exact I.h1

end Reads

end Cert.KernelIdeal.Da
-- ==== Proof.DaBlocks.lean ====
module

public import proofs.«01_k».proof.Proof.DaPoint
public import proofs.«01_k».proof.Proof.Gen.KernelIdeal.Value
public import Idealize.ShloMosaic.Lib.StableHlo.ReadAt

@[expose] public section

set_option maxRecDepth 16384

noncomputable section

namespace Cert.Da

open Idealize.ShloMosaic

/-- A head's slope, as both programs compute it. -/
def slopeE (H : Nat) : EReal :=
  Ideal.pow (Ideal.ofBits .f32 0x40000000#32) (Ideal.div (Ideal.ofBits .f32 0xC1000000#32 * (1 + (FloatOps.sitofp (F := Ideal) .f32 (BitVec.ofNat 32 H) : EReal)))
    (Ideal.ofBits .f32 0x41800000#32))

def slope (H : Nat) : ℝ := Real.rpow 2 (-8 * (1 + ((BitVec.ofNat 32 H).toInt : ℝ)) * (1 / 16))

theorem slope_real (H : Nat) : slopeE H = ((slope H : ℝ) : EReal) := by
  have h2 : Ideal.ofBits .f32 0x40000000#32 = ((2 : ℝ) : EReal) := by
    simp [Ideal.ofBits, Ideal.ieee, -EReal.coe_mul]; norm_cast; norm_num
  have h8 : Ideal.ofBits .f32 0xC1000000#32 = ((-8 : ℝ) : EReal) := by
    simp [Ideal.ofBits, Ideal.ieee, -EReal.coe_mul, -EReal.coe_neg]; norm_num
  have h16 : Ideal.ofBits .f32 0x41800000#32 = ((16 : ℝ) : EReal) := by
    simp [Ideal.ofBits, Ideal.ieee, -EReal.coe_mul]; norm_num
  unfold slopeE
  rw [h2, h8, h16, Ideal.div_coe (by norm_num)]
  have hs : (FloatOps.sitofp (F := Ideal) .f32 (BitVec.ofNat 32 H) : EReal) = (((BitVec.ofNat 32 H).toInt : ℝ) : EReal) := rfl
  rw [hs, show (1 : EReal) = ((1 : ℝ) : EReal) from rfl, ← EReal.coe_add, ← EReal.coe_mul, ← EReal.coe_mul]
  rfl

/-- The slope's three parts at these floats: all of it, then nothing. -/
def slopeParts (H : Nat) : Fin 3 → ℝ := ![slope H, 0, 0]

end Cert.Da

namespace Cert.KernelIdeal.Da

open Idealize.ShloMosaic Idealize.ShloMosaic.TcCoe Cert.KernelIdeal.Gen Cert.Da

theorem three_apply (A B C : S16x1.Idx → Ideal .f32) (H : Fin 16) (k : Fin 3) :
    shapeCast S48 (concatenate S16x3 1 [⟨S16x1, A⟩, ⟨S16x1, B⟩, ⟨S16x1, C⟩] concatenates_S16x1_S16x1_S16x1_S16x3_d1)
      shapeCasts_S16x3_S48 (ix1 ⟨3 * H.val + k.val, by omega⟩) = (![A, B, C] k) (ix2 H 0) := by
  have e : Shape.reshapeEquiv shapeCasts_S16x3_S48 (ix1 ⟨3 * H.val + k.val, by omega⟩ : S48.Idx) = (ix2 H k : S16x3.Idx) :=
    Shape.reshapeEquiv_eq_of_rowMajor _ (by
      rw [ix2b, Shape.rowMajor_val_two, Shape.rowMajor_val_one]
      show H.val * 3 + k.val = 3 * H.val + k.val
      omega)
  show concatenate S16x3 1 _ _ (Shape.reshapeEquiv _ _) = _
  rw [e]
  exact concatenate_ofFn_unit_apply (t := S16x3) (s₁ := S16x1) 1 ![A, B, C] concatenates_S16x1_S16x1_S16x1_S16x3_d1 rfl rfl
    (ix2 H k) k rfl (ix2 H 0) fun b hb => by
      match b, hb with
      | ⟨0, _⟩, _ => rfl
      | ⟨1, _⟩, hb => exact absurd rfl hb

variable (m : (ℓ : Loc nD τ sig) → Buf (Elt Ideal) ℓ) (c : Dev nD)

theorem V22 (H : Fin 16) (k : Fin 3) :
    (V m c main_v22 : Vec Ideal S48 .f32) (ix1 ⟨3 * H.val + k.val, by omega⟩) = ((slopeParts H.val k : ℝ) : EReal) := by
  have e0 : (StableHlo.upto hostOps0 (fun b => m (c,b)) 25 (Proc.devRef .tc main_v18) : Vec Ideal S16x1 .f32) (ix2 H 0) = slopeE H.val := by
    after_reads_simp
    pointwise []
    rfl
  have e1 : (StableHlo.upto hostOps0 (fun b => m (c,b)) 25 (Proc.devRef .tc main_v19) : Vec Ideal S16x1 .f32) (ix2 H 0)
      = slopeE H.val - slopeE H.val := by
    after_reads_simp
    pointwise []
    rfl
  have e2 : (StableHlo.upto hostOps0 (fun b => m (c,b)) 25 (Proc.devRef .tc main_v20) : Vec Ideal S16x1 .f32) (ix2 H 0)
      = slopeE H.val - slopeE H.val - (slopeE H.val - slopeE H.val) := by
    after_reads_simp
    pointwise []
    rfl
  have z : slopeE H.val - slopeE H.val = ((0 : ℝ) : EReal) := by rw [slope_real, ← EReal.coe_sub, sub_self]
  unfold V
  after_reads_simp
  refine (three_apply _ _ _ H k).trans ?_
  match k with
  | 0 => exact e0.trans (slope_real _)
  | 1 => exact e1.trans z
  | 2 =>
    refine e2.trans ?_
    rw [z, ← EReal.coe_sub, sub_self]; rfl

theorem V23 (d : Fin 128) : (V m c main_v23 : Vec Ideal S1x128 .f32) (ix2 0 d) = (m ((c : Thread nD τ).loc main_arg2)) (ix1 d) := by
  unfold V
  after_reads_at

theorem index2 : ∀ t : Fin grid0.N, win0_2.index t 0 = 8 * (t.val / 32) + t.val % 8 ∧ win0_2.index t 1 = t.val / 8 % 4 := by decide +kernel
theorem index3 : ∀ t : Fin grid0.N, win0_3.index t 0 = t.val / 32 ∧ win0_3.index t 1 = 4 + t.val / 8 % 4 := by decide +kernel
theorem index4 : ∀ t : Fin grid0.N, win0_4.index t 0 = t.val / 32 ∧ win0_4.index t 1 = 8 + t.val / 8 % 4 := by decide +kernel
theorem index6 : ∀ t : Fin grid0.N, win0_6.index t 0 = 8 * (t.val / 32) + t.val % 8 ∧ win0_6.index t 1 = t.val / 8 % 4 := by decide +kernel
theorem group : ∀ t : Fin grid0.N, ((grid0.coords t) 1).val = t.val / 8 % 4 := by decide +kernel

variable (t : Fin cfg0.N)

theorem tN : t.val < 256 := lt_of_lt_of_eq t.isLt (show cfg0.N = 256 from N_0)

theorem blk2 (r : Fin 256) (d : Fin 512) : (iblk m c 2 t : Vec Ideal S256x512 .bf16) (ix2 r d)
    = m ((c : Thread nD τ).loc main_arg0) (ix2 ⟨2048 * (t.val / 32) + (256 * (t.val % 8) + r.val), by have := tN t; omega⟩
        ⟨512 * (t.val / 8 % 4) + d.val, by omega⟩) := by
  unfold iblk
  rw [View.read_apply]
  show V m c main_arg0 _ = _
  rw [V_main_arg0]
  congr 1
  have hi := index2 t
  funext a
  apply Fin.ext
  match a with
  | ⟨0, _⟩ => show win0_2.index t 0 * 256 + 1 * r.val = _; rw [hi.1]; show _ = 2048 * (t.val / 32) + (256 * (t.val % 8) + r.val); omega
  | ⟨1, _⟩ => show win0_2.index t 1 * 512 + 1 * d.val = _; rw [hi.2]; show _ = 512 * (t.val / 8 % 4) + d.val; omega

theorem blk3 (j : Fin 2048) (d : Fin 512) : (iblk m c 3 t : Vec Ideal S2048x512 .bf16) (ix2 j d)
    = m ((c : Thread nD τ).loc main_arg0) (ix2 ⟨2048 * (t.val / 32) + j.val, by have := tN t; omega⟩
        ⟨2048 + (512 * (t.val / 8 % 4) + d.val), by omega⟩) := by
  unfold iblk
  rw [View.read_apply]
  show V m c main_arg0 _ = _
  rw [V_main_arg0]
  congr 1
  have hi := index3 t
  funext a
  apply Fin.ext
  match a with
  | ⟨0, _⟩ => show win0_3.index t 0 * 2048 + 1 * j.val = _; rw [hi.1]; show _ = 2048 * (t.val / 32) + j.val; omega
  | ⟨1, _⟩ => show win0_3.index t 1 * 512 + 1 * d.val = _; rw [hi.2]; show _ = 2048 + (512 * (t.val / 8 % 4) + d.val); omega

theorem blk4 (j : Fin 2048) (d : Fin 512) : (iblk m c 4 t : Vec Ideal S2048x512 .bf16) (ix2 j d)
    = m ((c : Thread nD τ).loc main_arg0) (ix2 ⟨2048 * (t.val / 32) + j.val, by have := tN t; omega⟩
        ⟨4096 + (512 * (t.val / 8 % 4) + d.val), by omega⟩) := by
  unfold iblk
  rw [View.read_apply]
  show V m c main_arg0 _ = _
  rw [V_main_arg0]
  congr 1
  have hi := index4 t
  funext a
  apply Fin.ext
  match a with
  | ⟨0, _⟩ => show win0_4.index t 0 * 2048 + 1 * j.val = _; rw [hi.1]; show _ = 2048 * (t.val / 32) + j.val; omega
  | ⟨1, _⟩ => show win0_4.index t 1 * 512 + 1 * d.val = _; rw [hi.2]; show _ = 4096 + (512 * (t.val / 8 % 4) + d.val); omega

theorem blk1 : (iblk m c 1 t : Vec Ideal S4x64 .f32) = m ((c : Thread nD τ).loc main_arg1) := by
  funext y
  unfold iblk
  rw [View.read_apply]
  show V m c main_arg1 _ = _
  rw [V_main_arg1]
  congr 1
  funext a
  apply Fin.ext
  match a with
  | ⟨0, _⟩ => show 0 * 4 + 1 * (y 0).val = (y 0).val; omega
  | ⟨1, _⟩ => show 0 * 64 + 1 * (y 1).val = (y 1).val; omega

theorem blk0 : (iblk m c 0 t : Vec Ideal S48 .f32) = V m c main_v22 := by
  funext y
  unfold iblk
  rw [View.read_apply]
  show V m c main_v22 _ = V m c main_v22 y
  congr 1
  funext a
  apply Fin.ext
  match a with
  | ⟨0, _⟩ => show 0 * 48 + 1 * (y 0).val = (y 0).val; omega

theorem blk5 : (iblk m c 5 t : Vec Ideal S1x128 .f32) = V m c main_v23 := by
  funext y
  unfold iblk
  rw [View.read_apply]
  show V m c main_v23 _ = V m c main_v23 y
  congr 1
  funext a
  apply Fin.ext
  match a with
  | ⟨0, _⟩ => show 0 * 1 + 1 * (y 0).val = (y 0).val; omega
  | ⟨1, _⟩ => show 0 * 128 + 1 * (y 1).val = (y 1).val; omega

/-- Every grid point's reads, from the arguments' real entries. -/
theorem ins (x : Nat → Nat → ℝ) (lam : ℝ)
    (hx : ∀ (i : Fin 16384) (j : Fin 26624), j.val < 6144 → m ((c : Thread nD τ).loc main_arg0) (ix2 i j) = ((x i.val j.val : ℝ) : EReal))
    (hl : k0_pay1 (F := Ideal) (m ((c : Thread nD τ).loc main_arg1)) (ix2 0 0) = (lam : EReal)) :
    Ins (grid0.coords t) (iblk m c 0 t) (iblk m c 1 t) (iblk m c 2 t) (iblk m c 3 t) (iblk m c 4 t) (iblk m c 5 t)
      (fun s => x (2048 * (t.val / 32) + s)) (t.val / 8 % 4) (256 * (t.val % 8)) slopeParts lam
      (fun e => m ((c : Thread nD τ).loc main_arg2) (ix1 e)) where
  grp := group t
  h0 H k := by rw [blk0, V22]
  h1 := by rw [blk1, hl]
  h2 r d := by rw [blk2, hx _ _ (by show 512 * (t.val / 8 % 4) + d.val < 6144; omega)]
  h3 j d := by rw [blk3, hx _ _ (by show 2048 + (512 * (t.val / 8 % 4) + d.val) < 6144; omega)]
  h4 j d := by rw [blk4, hx _ _ (by show 4096 + (512 * (t.val / 8 % 4) + d.val) < 6144; omega)]
  h5 e := by rw [blk5, V23]

end Cert.KernelIdeal.Da
-- ==== Proof.DaInv.lean ====
module

public import proofs.«01_k».proof.Proof.DaBlocks
public import proofs.«01_k».proof.Proof.DaCases

@[expose] public section

set_option maxRecDepth 16384

noncomputable section

namespace Cert.KernelIdeal.Da

open Idealize.ShloMosaic Idealize.ShloMosaic.TcCoe Cert.KernelIdeal.Gen Cert.Da

variable (m : (ℓ : Loc nD τ sig) → Buf (Elt Ideal) ℓ) (c : Dev nD)

abbrev before (t : Fin cfg0.N) := outsAt0 m c (t.val - 1) (Nat.lt_of_le_of_lt (Nat.sub_le _ _) t.isLt)

/-- A later point's output block, from the scratch `xs2`, `xs3` it finds. -/
abbrev laterOut (t : Fin cfg0.N) (xs2 : Vec Ideal S4x2048x128 .bf16) (xs3 : Vec Ideal S4x2048x256 .bf16)
    {w n : Nat} (f : Fit n) (l : Tail w n) : Vec Ideal S256x512 .bf16 :=
  View.canon (oList f scM0_0.view scM0_1.view
    (rS (grid0.coords t) (ms0_0 t) (hs0_0 t) (ms0_2 t) (hs0_2 t) (ms0_3 t) (hs0_3 t) scM0_2 (Memref.isWhole_whole _)
      (iblk m c 0 t) (iblk m c 2 t) (iblk m c 3 t) xs2 f l (BitVec.ofNat 32 w))
    (rV scM0_3 (Memref.isWhole_whole _) xs3 f) (rL (ms0_1 t) (hs0_1 t) (iblk m c 1 t)) (rW (ms0_5 t) (hs0_5 t) (iblk m c 5 t)))

theorem first_s2 (t : Fin cfg0.N) (h : t.val % 8 = 0) : (outsAt0 m c t.val t.isLt).2.1
    = View.canon (kList (rP (grid0.coords t) (ms0_0 t) (hs0_0 t) (iblk m c 0 t))) := by
  rw [outsAt0_A m c t h (by omega)]
  dsimp only
  unfold sout0_A_2
  rw [View.read_writes_junk_eq_canon, fill_k]

theorem first_s3 (t : Fin cfg0.N) (h : t.val % 8 = 0) : (outsAt0 m c t.val t.isLt).2.2
    = View.canon (vList (rVal (ms0_4 t) (hs0_4 t) (iblk m c 4 t))) := by
  rw [outsAt0_A m c t h (by omega)]
  dsimp only
  unfold sout0_A_3
  rw [View.read_writes_junk_eq_canon, fill_v]

theorem run_first (c : Dev nD) (i : grid0.Coords) (arg3 : Memref sig .tc .smem S48 .f32) (harg3 : arg3.IsWhole) (arg4 : Memref sig .tc .vmem S4x64 .f32) (harg4 : arg4.IsWhole) (arg5 : Memref sig .tc .vmem S256x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x128 .f32) (harg8 : arg8.IsWhole) (arg9 : Memref sig .tc .vmem S256x512 .bf16) (harg9 : arg9.IsWhole) (arg10 : Memref sig .tc .vmem S4x512x2048 .f32) (harg10 : arg10.IsWhole) (arg11 : Memref sig .tc .vmem S4x512x2048 .bf16) (harg11 : arg11.IsWhole) (arg12 : Memref sig .tc .vmem S4x2048x128 .bf16) (harg12 : arg12.IsWhole) (arg13 : Memref sig .tc .vmem S4x2048x256 .bf16) (harg13 : arg13.IsWhole)
    (x0 : Vec Ideal S48 .f32) (x1 : Vec Ideal S4x64 .f32) (x2 : Vec Ideal S256x512 .bf16) (x3 : Vec Ideal S2048x512 .bf16) (x4 : Vec Ideal S2048x512 .bf16) (x5 : Vec Ideal S1x128 .f32) (hc0 : cond0_0 i) (hc1 : ¬cond0_1 i) :
    (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).1
      = oList fit256 arg10.view arg11.view
          (fun h => score₀ fit256 0#32 (rP i arg3 harg3 x0 h) (rQ arg5 harg5 x2 h) (rK arg6 harg6 x3 fit256 h)
            (arg12.view.readCov (kList (rP i arg3 harg3 x0))
              (Rect.unit (s := S4x2048x128) ![h.val, 0, 0] (C 256 128).size (fit256.inA h)).toLoadRect))
          (fun h => arg13.view.readCov (vList (rVal arg7 harg7 x4))
              (Rect.unit (s := S4x2048x256) ![h.val, 0, 0] (C 256 256).size (fit256.inV h)).toLoadRect)
          (rL arg4 harg4 x1) (rW arg8 harg8 x5) := rfl

theorem first_out (t : Fin cfg0.N) (h : t.val % 8 = 0) : (outsAt0 m c t.val t.isLt).1
    = View.canon (oList fit256 scM0_0.view scM0_1.view
      (fun h => score₀ fit256 0#32 (rP (grid0.coords t) (ms0_0 t) (hs0_0 t) (iblk m c 0 t) h) (rQ (ms0_2 t) (hs0_2 t) (iblk m c 2 t) h)
        (rK (ms0_3 t) (hs0_3 t) (iblk m c 3 t) fit256 h)
        (scM0_2.view.readCov (kList (rP (grid0.coords t) (ms0_0 t) (hs0_0 t) (iblk m c 0 t)))
          (Rect.unit (s := S4x2048x128) ![h.val, 0, 0] (C 256 128).size (fit256.inA h)).toLoadRect))
      (fun h => scM0_3.view.readCov (vList (rVal (ms0_4 t) (hs0_4 t) (iblk m c 4 t)))
          (Rect.unit (s := S4x2048x256) ![h.val, 0, 0] (C 256 256).size (fit256.inV h)).toLoadRect)
      (rL (ms0_1 t) (hs0_1 t) (iblk m c 1 t)) (rW (ms0_5 t) (hs0_5 t) (iblk m c 5 t))) := by
  rw [outsAt0_A m c t h (by omega)]
  dsimp only
  unfold out0_A_6
  rw [View.read_writes_junk_eq_canon, run_first]

theorem later_B (t : Fin cfg0.N) (h : t.val % 8 = 1) : (outsAt0 m c t.val t.isLt).1
    = laterOut m c t (before m c t).2.1 (before m c t).2.2 fit512 tail512 := by
  rw [outsAt0_B m c t (by omega) (by omega) (by omega)]
  dsimp only
  unfold out0_B_6
  rw [View.read_writes_junk_eq_canon, run_B]

theorem keep_B (t : Fin cfg0.N) (h : t.val % 8 = 1) : (outsAt0 m c t.val t.isLt).2 = (before m c t).2 := by
  rw [outsAt0_B m c t (by omega) (by omega) (by omega)]
  rfl

theorem later_C (t : Fin cfg0.N) (h : t.val % 8 = 2) : (outsAt0 m c t.val t.isLt).1
    = laterOut m c t (before m c t).2.1 (before m c t).2.2 fit768 tail768 := by
  rw [outsAt0_C m c t (by omega) (by omega) (by omega) (by omega)]
  dsimp only
  unfold out0_C_6
  rw [View.read_writes_junk_eq_canon, run_C]

theorem keep_C (t : Fin cfg0.N) (h : t.val % 8 = 2) : (outsAt0 m c t.val t.isLt).2 = (before m c t).2 := by
  rw [outsAt0_C m c t (by omega) (by omega) (by omega) (by omega)]
  rfl

theorem later_D (t : Fin cfg0.N) (h : t.val % 8 = 3) : (outsAt0 m c t.val t.isLt).1
    = laterOut m c t (before m c t).2.1 (before m c t).2.2 fit1024 tail1024 := by
  rw [outsAt0_D m c t (by omega) (by omega) (by omega) (by omega) (by omega)]
  dsimp only
  unfold out0_D_6
  rw [View.read_writes_junk_eq_canon, run_D]

theorem keep_D (t : Fin cfg0.N) (h : t.val % 8 = 3) : (outsAt0 m c t.val t.isLt).2 = (before m c t).2 := by
  rw [outsAt0_D m c t (by omega) (by omega) (by omega) (by omega) (by omega)]
  rfl

theorem later_E (t : Fin cfg0.N) (h : t.val % 8 = 4) : (outsAt0 m c t.val t.isLt).1
    = laterOut m c t (before m c t).2.1 (before m c t).2.2 fit1280 tail1280 := by
  rw [outsAt0_E m c t (by omega) (by omega) (by omega) (by omega) (by omega) (by omega)]
  dsimp only
  unfold out0_E_6
  rw [View.read_writes_junk_eq_canon, run_E]

theorem keep_E (t : Fin cfg0.N) (h : t.val % 8 = 4) : (outsAt0 m c t.val t.isLt).2 = (before m c t).2 := by
  rw [outsAt0_E m c t (by omega) (by omega) (by omega) (by omega) (by omega) (by omega)]
  rfl

theorem later_F (t : Fin cfg0.N) (h : t.val % 8 = 5) : (outsAt0 m c t.val t.isLt).1
    = laterOut m c t (before m c t).2.1 (before m c t).2.2 fit1536 tail1536 := by
  rw [outsAt0_F m c t (by omega) (by omega) (by omega) (by omega) (by omega) (by omega) (by omega)]
  dsimp only
  unfold out0_F_6
  rw [View.read_writes_junk_eq_canon, run_F]

theorem keep_F (t : Fin cfg0.N) (h : t.val % 8 = 5) : (outsAt0 m c t.val t.isLt).2 = (before m c t).2 := by
  rw [outsAt0_F m c t (by omega) (by omega) (by omega) (by omega) (by omega) (by omega) (by omega)]
  rfl

theorem later_G (t : Fin cfg0.N) (h : t.val % 8 = 6) : (outsAt0 m c t.val t.isLt).1
    = laterOut m c t (before m c t).2.1 (before m c t).2.2 fit1792 tail1792 := by
  rw [outsAt0_G m c t (by omega) (by omega) (by omega) (by omega) (by omega) (by omega) (by omega) (by omega)]
  dsimp only
  unfold out0_G_6
  rw [View.read_writes_junk_eq_canon, run_G]

theorem keep_G (t : Fin cfg0.N) (h : t.val % 8 = 6) : (outsAt0 m c t.val t.isLt).2 = (before m c t).2 := by
  rw [outsAt0_G m c t (by omega) (by omega) (by omega) (by omega) (by omega) (by omega) (by omega) (by omega)]
  rfl

theorem later_H (t : Fin cfg0.N) (h : t.val % 8 = 7) : (outsAt0 m c t.val t.isLt).1
    = laterOut m c t (before m c t).2.1 (before m c t).2.2 fit2048 tail2048 := by
  rw [outsAt0_H m c t (by omega) (by omega) (by omega) (by omega) (by omega) (by omega) (by omega) (by omega)]
  dsimp only
  unfold out0_H_6
  rw [View.read_writes_junk_eq_canon, run_H]

theorem keep_H (t : Fin cfg0.N) (h : t.val % 8 = 7) : (outsAt0 m c t.val t.isLt).2 = (before m c t).2 := by
  rw [outsAt0_H m c t (by omega) (by omega) (by omega) (by omega) (by omega) (by omega) (by omega) (by omega)]
  rfl

/-- After every point the scratch holds its group's keys and values. -/
theorem carried (x : Nat → Nat → ℝ) (lam : ℝ)
    (hx : ∀ (i : Fin 16384) (j : Fin 26624), j.val < 6144 → m ((c : Thread nD τ).loc main_arg0) (ix2 i j) = ((x i.val j.val : ℝ) : EReal))
    (hl : k0_pay1 (F := Ideal) (m ((c : Thread nD τ).loc main_arg1)) (ix2 0 0) = (lam : EReal)) :
    ∀ (n : Nat) (hn : n < cfg0.N), Carried (outsAt0 m c n hn).2.1 (outsAt0 m c n hn).2.2
      (fun s => x (2048 * (n / 32) + s)) (n / 8 % 4) slopeParts := by
  intro n
  induction n with
  | zero =>
    intro hn
    have a := first_s2 m c ⟨0, hn⟩ rfl
    have b := first_s3 m c ⟨0, hn⟩ rfl
    simp only at a b
    rw [a, b]
    exact carried_fill (I := ins m c ⟨0, hn⟩ x lam hx hl) ..
  | succ n ih =>
    intro hn
    by_cases h : (n + 1) % 8 = 0
    · have a := first_s2 m c ⟨n + 1, hn⟩ h
      have b := first_s3 m c ⟨n + 1, hn⟩ h
      simp only at a b
      rw [a, b]
      exact carried_fill (I := ins m c ⟨n + 1, hn⟩ x lam hx hl) ..
    · have e : (outsAt0 m c (n + 1) hn).2 = (outsAt0 m c n (Nat.lt_of_succ_lt hn)).2 := by
        have : (n + 1) % 8 = 1 ∨ (n + 1) % 8 = 2 ∨ (n + 1) % 8 = 3 ∨ (n + 1) % 8 = 4 ∨ (n + 1) % 8 = 5 ∨ (n + 1) % 8 = 6 ∨ (n + 1) % 8 = 7 := by omega
        rcases this with k | k | k | k | k | k | k
        · exact keep_B m c ⟨n + 1, hn⟩ k
        · exact keep_C m c ⟨n + 1, hn⟩ k
        · exact keep_D m c ⟨n + 1, hn⟩ k
        · exact keep_E m c ⟨n + 1, hn⟩ k
        · exact keep_F m c ⟨n + 1, hn⟩ k
        · exact keep_G m c ⟨n + 1, hn⟩ k
        · exact keep_H m c ⟨n + 1, hn⟩ k
      rw [e, show (n + 1) / 32 = n / 32 by omega, show (n + 1) / 8 % 4 = n / 8 % 4 by omega]
      exact ih _

/-- Every point's output block, head by head. -/
theorem point (x : Nat → Nat → ℝ) (lam : ℝ)
    (hx : ∀ (i : Fin 16384) (j : Fin 26624), j.val < 6144 → m ((c : Thread nD τ).loc main_arg0) (ix2 i j) = ((x i.val j.val : ℝ) : EReal))
    (hl : k0_pay1 (F := Ideal) (m ((c : Thread nD τ).loc main_arg1)) (ix2 0 0) = (lam : EReal))
    (t : Fin cfg0.N) (h : Fin 4) (r : Fin 256) (e : Fin 128) :
    (outsAt0 m c t.val t.isLt).1 (ix2 r ⟨128 * h.val + e.val, by omega⟩)
      = rowOut (fun s => x (2048 * (t.val / 32) + s)) (slope (4 * (t.val / 8 % 4) + h.val)) lam
          (fun e => m ((c : Thread nD τ).loc main_arg2) (ix1 e)) (4 * (t.val / 8 % 4) + h.val) (256 * (t.val % 8) + r.val) e := by
  have I := ins m c t x lam hx hl
  have sl : ∀ H, slopeParts H 0 + slopeParts H 1 + slopeParts H 2 = slope H := fun H => by
    show slope H + 0 + 0 = slope H; ring
  rw [← sl]
  by_cases h0 : t.val % 8 = 0
  · rw [first_out m c t h0]
    rw [h0] at I ⊢
    exact point_first (I := I) (h := h) (r := r) (e := e) ..
  · have K := carried m c x lam hx hl (t.val - 1) (Nat.lt_of_le_of_lt (Nat.sub_le _ _) t.isLt)
    rw [show (t.val - 1) / 32 = t.val / 32 by omega, show (t.val - 1) / 8 % 4 = t.val / 8 % 4 by omega] at K
    have : t.val % 8 = 1 ∨ t.val % 8 = 2 ∨ t.val % 8 = 3 ∨ t.val % 8 = 4 ∨ t.val % 8 = 5 ∨ t.val % 8 = 6 ∨ t.val % 8 = 7 := by omega
    rcases this with k | k | k | k | k | k | k
    · rw [later_B m c t k]
      rw [k] at I ⊢
      exact point_later (w := 256) (hw := rfl) (hn := by omega) (I := I) (K := K) (h := h) (r := r) (e := e) ..
    · rw [later_C m c t k]
      rw [k] at I ⊢
      exact point_later (w := 512) (hw := rfl) (hn := by omega) (I := I) (K := K) (h := h) (r := r) (e := e) ..
    · rw [later_D m c t k]
      rw [k] at I ⊢
      exact point_later (w := 768) (hw := rfl) (hn := by omega) (I := I) (K := K) (h := h) (r := r) (e := e) ..
    · rw [later_E m c t k]
      rw [k] at I ⊢
      exact point_later (w := 1024) (hw := rfl) (hn := by omega) (I := I) (K := K) (h := h) (r := r) (e := e) ..
    · rw [later_F m c t k]
      rw [k] at I ⊢
      exact point_later (w := 1280) (hw := rfl) (hn := by omega) (I := I) (K := K) (h := h) (r := r) (e := e) ..
    · rw [later_G m c t k]
      rw [k] at I ⊢
      exact point_later (w := 1536) (hw := rfl) (hn := by omega) (I := I) (K := K) (h := h) (r := r) (e := e) ..
    · rw [later_H m c t k]
      rw [k] at I ⊢
      exact point_later (w := 1792) (hw := rfl) (hn := by omega) (I := I) (K := K) (h := h) (r := r) (e := e) ..

end Cert.KernelIdeal.Da
-- ==== Proof.DaFinal.lean ====
module

public import proofs.«01_k».proof.Proof.DaInv
public import Idealize.ShloMosaic.Lib.Pipeline.ValueKit.Geometry

@[expose] public section

set_option maxRecDepth 16384

noncomputable section

namespace Cert.Da

open Idealize.ShloMosaic

/-- The whole result, row by row and head by head, from the projection's real entries `x`. -/
def whole (x : Nat → Nat → ℝ) (lam : ℝ) (wt : Fin 128 → EReal) (s d : Nat) : EReal :=
  rowOut (fun j => x (2048 * (s / 2048) + j)) (slope (d / 128)) lam wt (d / 128) (s % 2048) ⟨d % 128, Nat.mod_lt _ (by decide)⟩

end Cert.Da

namespace Cert.KernelIdeal.Da

open Idealize.ShloMosaic Idealize.ShloMosaic.TcCoe Cert.KernelIdeal.Gen Cert.Da

variable (m : (ℓ : Loc nD τ sig) → Buf (Elt Ideal) ℓ) (c : Dev nD)

theorem covers6 : (cfg0.win 6).Covers := by decide +kernel

theorem final (x : Nat → Nat → ℝ) (lam : ℝ)
    (hx : ∀ (i : Fin 16384) (j : Fin 26624), j.val < 6144 → m ((c : Thread nD τ).loc main_arg0) (ix2 i j) = ((x i.val j.val : ℝ) : EReal))
    (hl : k0_pay1 (F := Ideal) (m ((c : Thread nD τ).loc main_arg1)) (ix2 0 0) = (lam : EReal)) :
    (dats m 0 c).arrAt 6 cfg0.N
      = (fun i => whole x lam (fun e => m ((c : Thread nD τ).loc main_arg2) (ix1 e)) (i 0).val (i 1).val : Vec Ideal S16384x2048 .bf16) := by
  refine (dats m 0 c).arrAt_eq_of_covers 6 _ covers6 fun t hf y => ?_
  have hi := index6 t
  have ht := tN t
  have e0 : (((cfg0.win 6).blk t).view.emb y 0).val = win0_6.index t 0 * 256 + 1 * (y 0).val := rfl
  have e1 : (((cfg0.win 6).blk t).view.emb y 1).val = win0_6.index t 1 * 512 + 1 * (y 1).val := rfl
  have h0 : (y 0).val < 256 := (y 0).isLt
  have h1 : (y 1).val < 512 := (y 1).isLt
  dsimp only
  rw [e0, e1, hi.1, hi.2]
  show (dats m 0 c).after 6 t _ = _
  rw [after0_6]
  have hy : (fun a => ⟨(y a).val, by
      match a with
      | ⟨0, _⟩ => exact h0
      | ⟨1, _⟩ => exact h1⟩ : S256x512.Idx)
      = ix2 ⟨(y 0).val, h0⟩ ⟨128 * (y 1 / 128 : ℕ) + (y 1 % 128 : ℕ), by omega⟩ := by
    funext a
    apply Fin.ext
    match a with
    | ⟨0, _⟩ => rfl
    | ⟨1, _⟩ => show (y 1).val = 128 * ((y 1).val / 128) + (y 1).val % 128; omega
  refine (congrArg (outsAt0 m c t.val t.isLt).1 hy).trans ?_
  refine (point m c x lam hx hl t ⟨(y 1).val / 128, by omega⟩ ⟨(y 0).val, h0⟩ ⟨(y 1).val % 128, by omega⟩).trans ?_
  unfold whole
  have a0 : ((8 * (t.val / 32) + t.val % 8) * 256 + 1 * (y 0).val) / 2048 = t.val / 32 := by omega
  have a1 : ((8 * (t.val / 32) + t.val % 8) * 256 + 1 * (y 0).val) % 2048 = 256 * (t.val % 8) + (y 0).val := by omega
  have b0 : (t.val / 8 % 4 * 512 + 1 * (y 1).val) / 128 = 4 * (t.val / 8 % 4) + (y 1).val / 128 := by omega
  have b1 : (t.val / 8 % 4 * 512 + 1 * (y 1).val) % 128 = (y 1).val % 128 := by omega
  simp only [a0, a1, b0, b1]

end Cert.KernelIdeal.Da
-- ==== Proof.DaRef.lean ====
module

public import proofs.«01_k».proof.Proof.DaBlocks
public import proofs.«01_k».proof.Proof.Gen.ReferenceIdeal.Run
public import Idealize.ShloMosaic.Lib.Pointwise

@[expose] public section

set_option maxRecDepth 16384

noncomputable section

namespace Cert.ReferenceIdeal.Da

open Idealize.ShloMosaic Idealize.ShloMosaic.TcCoe Cert.ReferenceIdeal.Gen Cert.Da

/-! # The reference, stage by stage -/

variable (x0 : FVec Ideal S16384x26624 .bf16) (x1 : FVec Ideal S4x64 .f32) (x2 : FVec Ideal S128 .f32)

def batch : FVec Ideal S8x2048x26624 .f32 :=
  shapeCast _ (extf .f32 x0 bitsLt_bf16_f32) shapeCasts_S16384x26624_S8x2048x26624

def qs : FVec Ideal S8x16x2x2048x64 .f32 :=
  mulf (transpose S8x16x2x2048x64 [0, 2, 3, 1, 4] (shapeCast _ (extractStridedSlice S8x2048x2048 ![0, 0, 0] (batch x0) slices_S8x2048x26624_S8x2048x2048_0_0_0) shapeCasts_S8x2048x2048_S8x2048x16x2x64) transposes_S8x2048x16x2x64_S8x16x2x2048x64_0_2_3_1_4) (broadcastInDim S8x16x2x2048x64 ![] bcast_S_S8x16x2x2048x64 (constant S_ .f32 0x3E000000#32))

def ks : FVec Ideal S8x16x2x2048x64 .f32 :=
  transpose S8x16x2x2048x64 [0, 2, 3, 1, 4] (shapeCast _ (extractStridedSlice S8x2048x2048 ![0, 0, 2048] (batch x0) slices_S8x2048x26624_S8x2048x2048_0_0_2048) shapeCasts_S8x2048x2048_S8x2048x16x2x64) transposes_S8x2048x16x2x64_S8x16x2x2048x64_0_2_3_1_4

def vals : FVec Ideal S8x16x2048x128 .f32 :=
  transpose S8x16x2048x128 [0, 2, 1, 3] (shapeCast _ (extractStridedSlice S8x2048x2048 ![0, 0, 4096] (batch x0) slices_S8x2048x26624_S8x2048x2048_0_0_4096) shapeCasts_S8x2048x2048_S8x2048x16x128) transposes_S8x2048x16x128_S8x16x2048x128_0_2_1_3

def dist : IVec S2048x2048 32 :=
  subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))

def slopes : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

def alibi : FVec Ideal S16x2048x2048 .f32 :=
  mulf (broadcastInDim S16x2048x2048 ![0, 1, 2] bcast_S16x1x1_S16x2048x2048_0_1_2 (Host.negf (broadcastInDim S16x1x1 ![0] bcast_S16_S16x1x1_0 slopes))) (broadcastInDim S16x2048x2048 ![0, 1, 2] bcast_S1x2048x2048_S16x2048x2048_0_1_2 (broadcastInDim S1x2048x2048 ![1, 2] bcast_S2048x2048_S1x2048x2048_1_2 (sitofp .f32 dist)))

def dots : FVec Ideal S8x16x2x2048x2048 .f32 :=
  Host.dotGeneral dot_S8x16x2x2048x64_S8x16x2x2048x64_S8x16x2x2048x2048_4_4_3_3_012_012 none (qs x0) (ks x0)

def logits : FVec Ideal S8x16x2x2048x2048 .f32 :=
  select (broadcastInDim S8x16x2x2048x2048 ![3, 4] bcast_S2048x2048_S8x16x2x2048x2048_3_4 (cmpi .sge dist (broadcastInDim S2048x2048 ![] bcast_S_S2048x2048 (constantI S_ 32 0#32)))) (addf (dots x0) (broadcastInDim S8x16x2x2048x2048 ![0, 1, 2, 3, 4] bcast_S1x16x1x2048x2048_S8x16x2x2048x2048_0_1_2_3_4 (broadcastInDim S1x16x1x2048x2048 ![1, 3, 4] bcast_S16x2048x2048_S1x16x1x2048x2048_1_3_4 alibi))) (broadcastInDim S8x16x2x2048x2048 ![] bcast_S_S8x16x2x2048x2048 (id (constant S_ .f32 0xFF800000#32)))

def peak (l : FVec Ideal S8x16x2x2048x2048 .f32) : FVec Ideal S8x16x2x2048 .f32 :=
  Host.reduce FloatOps.maximumf l (constant S_ .f32 0xFF800000#32) reducesTo_S8x16x2x2048x2048_S8x16x2x2048_d4 h_S_

def most (l : FVec Ideal S8x16x2x2048x2048 .f32) : FVec Ideal S8x16x2x2048 .f32 :=
  maximumf (broadcastInDim S8x16x2x2048 ![] bcast_S_S8x16x2x2048 (constant S_ .f32 0xFF800000#32)) (peak l)

def weights (l : FVec Ideal S8x16x2x2048x2048 .f32) : FVec Ideal S8x16x2x2048x2048 .f32 :=
  Host.exp (subf l (broadcastInDim S8x16x2x2048x2048 ![0, 1, 2, 3, 4] bcast_S8x16x2x2048x1_S8x16x2x2048x2048_0_1_2_3_4 (broadcastInDim S8x16x2x2048x1 ![0, 1, 2, 3] bcast_S8x16x2x2048_S8x16x2x2048x1_0_1_2_3 (most l))))

def probs (l : FVec Ideal S8x16x2x2048x2048 .f32) : FVec Ideal S8x16x2x2048x2048 .f32 :=
  Host.divf (weights l) (broadcastInDim S8x16x2x2048x2048 ![0, 1, 2, 3, 4] bcast_S8x16x2x2048x1_S8x16x2x2048x2048_0_1_2_3_4 (broadcastInDim S8x16x2x2048x1 ![0, 1, 2, 3] bcast_S8x16x2x2048_S8x16x2x2048x1_0_1_2_3 (Host.reduceAdd (weights l) (constant S_ .f32 0x00000000#32) reducesTo_S8x16x2x2048x2048_S8x16x2x2048_d4 h_S_)))

def lamb : FVec Ideal S_ .f32 :=
  addf (subf (Host.exp (Host.reduceAdd (mulf (shapeCast _ (extractStridedSlice S1x64 ![0, 0] x1 slices_S4x64_S1x64_0_0) shapeCasts_S1x64_S64) (shapeCast _ (extractStridedSlice S1x64 ![1, 0] x1 slices_S4x64_S1x64_1_0) shapeCasts_S1x64_S64)) (constant S_ .f32 0x00000000#32) reducesTo_S64_S_d0 h_S_)) (Host.exp (Host.reduceAdd (mulf (shapeCast _ (extractStridedSlice S1x64 ![2, 0] x1 slices_S4x64_S1x64_2_0) shapeCasts_S1x64_S64) (shapeCast _ (extractStridedSlice S1x64 ![3, 0] x1 slices_S4x64_S1x64_3_0) shapeCasts_S1x64_S64)) (constant S_ .f32 0x00000000#32) reducesTo_S64_S_d0 h_S_))) (constant S_ .f32 0x3E4CCCCD#32)

def diff (p : FVec Ideal S8x16x2x2048x2048 .f32) (lam : FVec Ideal S_ .f32) : FVec Ideal S8x16x2048x2048 .f32 :=
  subf (shapeCast _ (extractStridedSlice S8x16x1x2048x2048 ![0, 0, 0, 0, 0] p slices_S8x16x2x2048x2048_S8x16x1x2048x2048_0_0_0_0_0) shapeCasts_S8x16x1x2048x2048_S8x16x2048x2048) (mulf (broadcastInDim S8x16x2048x2048 ![] bcast_S_S8x16x2048x2048 lam) (shapeCast _ (extractStridedSlice S8x16x1x2048x2048 ![0, 0, 1, 0, 0] p slices_S8x16x2x2048x2048_S8x16x1x2048x2048_0_0_1_0_0) shapeCasts_S8x16x1x2048x2048_S8x16x2048x2048))

def outs : FVec Ideal S8x2048x16x128 .f32 :=
  transpose S8x2048x16x128 [0, 2, 1, 3] (Host.dotGeneral dot_S8x16x2048x2048_S8x16x2048x128_S8x16x2048x128_3_2_2_3_01_01 none (diff (probs (logits x0)) (lamb x1)) (vals x0)) transposes_S8x16x2048x128_S8x2048x16x128_0_2_1_3

def total (o : FVec Ideal S8x2048x16x128 .f32) : FVec Ideal S16384x2048 .bf16 :=
  truncf .bf16 (shapeCast _ (mulf (mulf (mulf o (broadcastInDim S8x2048x16x128 ![0, 1, 2, 3] bcast_S8x2048x16x1_S8x2048x16x128_0_1_2_3 (Host.rsqrt (addf (Host.divf (broadcastInDim S8x2048x16x1 ![0, 1, 2] bcast_S8x2048x16_S8x2048x16x1_0_1_2 (Host.reduceAdd (mulf o o) (constant S_ .f32 0x00000000#32) reducesTo_S8x2048x16x128_S8x2048x16_d3 h_S_)) (broadcastInDim S8x2048x16x1 ![] bcast_S_S8x2048x16x1 (constant S_ .f32 0x43000000#32))) (broadcastInDim S8x2048x16x1 ![] bcast_S_S8x2048x16x1 (constant S_ .f32 0x3727C5AC#32)))))) (broadcastInDim S8x2048x16x128 ![0, 1, 2, 3] bcast_S1x1x1x128_S8x2048x16x128_0_1_2_3 (broadcastInDim S1x1x1x128 ![3] bcast_S128_S1x1x1x128_3 x2))) (broadcastInDim S8x2048x16x128 ![] bcast_S_S8x2048x16x128 (constant S_ .f32 0x3F4CCCCD#32))) shapeCasts_S8x2048x16x128_S16384x2048) bitsLt_bf16_f32

variable (m : (ℓ : Loc nD τ sig) → Buf (Elt Ideal) ℓ) (c : Dev nD)

theorem res_eq : Value.res_main_v94 m c
    = total (m ((c.tc : Thread nD τ).loc main_arg2)) (outs (m ((c.tc : Thread nD τ).loc main_arg0)) (m ((c.tc : Thread nD τ).loc main_arg1))) := rfl

theorem batch_apply (b : Fin 8) (s : Fin 2048) (j : Fin 26624) : batch x0 (ix3 b s j) = x0 (ix2 ⟨2048 * b.val + s.val, by omega⟩ j) := by
  pointwise [batch]
  congr 2; apply Fin.ext; dsimp only; omega

theorem qs_apply (b : Fin 8) (h : Fin 16) (u : Fin 2) (s : Fin 2048) (d : Fin 64) : qs x0 (ix5 b h u s d)
    = x0 (ix2 ⟨2048 * b.val + s.val, by omega⟩ ⟨128 * h.val + 64 * u.val + d.val, by omega⟩) * Ideal.ofBits .f32 0x3E000000#32 := by
  pointwise [qs]
  rw [batch_apply]
  congr 3; apply Fin.ext; dsimp only; omega

theorem ks_apply (b : Fin 8) (h : Fin 16) (u : Fin 2) (s : Fin 2048) (d : Fin 64) : ks x0 (ix5 b h u s d)
    = x0 (ix2 ⟨2048 * b.val + s.val, by omega⟩ ⟨2048 + (128 * h.val + 64 * u.val + d.val), by omega⟩) := by
  pointwise [ks]
  rw [batch_apply]
  congr 2; apply Fin.ext; dsimp only; omega

theorem vals_apply (b : Fin 8) (h : Fin 16) (s : Fin 2048) (e : Fin 128) : vals x0 (ix4 b h s e)
    = x0 (ix2 ⟨2048 * b.val + s.val, by omega⟩ ⟨4096 + (128 * h.val + e.val), by omega⟩) := by
  pointwise [vals]
  rw [batch_apply]
  congr 2; apply Fin.ext; dsimp only; omega

theorem dist_apply (i j : Fin 2048) : dist (ix2 i j) = BitVec.ofNat 32 i.val - BitVec.ofNat 32 j.val := by
  pointwise [dist]
  rfl

theorem slopes_apply (h : Fin 16) : slopes (ix1 h) = slopeE h.val := by
  pointwise [slopes]
  rfl

theorem alibi_apply (h : Fin 16) (i j : Fin 2048) : alibi (ix3 h i j)
    = -slopes (ix1 h) * FloatOps.sitofp (F := Ideal) .f32 (dist (ix2 i j)) := by
  pointwise [alibi]

theorem dots_apply (b : Fin 8) (h : Fin 16) (u : Fin 2) (i j : Fin 2048) : dots x0 (ix5 b h u i j)
    = ∑ d : Fin 64, qs x0 (ix5 b h u i d) * ks x0 (ix5 b h u j d) := by
  pointwise [dots]

theorem logits_apply (b : Fin 8) (h : Fin 16) (u : Fin 2) (i j : Fin 2048) : logits x0 (ix5 b h u i j)
    = Scalar.select (IntOp.cmpi CmpIPredicate.sge (dist (ix2 i j)) 0#32) (dots x0 (ix5 b h u i j) + alibi (ix3 h i j))
      (Ideal.ofBits .f32 0xFF800000#32) := by
  pointwise [logits]
  rfl

theorem peak_apply (l : FVec Ideal S8x16x2x2048x2048 .f32) (b : Fin 8) (h : Fin 16) (u : Fin 2) (i : Fin 2048) : peak l (ix4 b h u i)
    = Finset.fold max (Ideal.ofBits .f32 0xFF800000#32) (fun x : Fin 2048 => l (ix5 b h u i x)) Finset.univ := by
  pointwise [peak]

theorem spread_apply (x : FVec Ideal S8x16x2x2048 .f32) (b : Fin 8) (h : Fin 16) (u : Fin 2) (i j : Fin 2048) :
    broadcastInDim S8x16x2x2048x2048 ![0, 1, 2, 3, 4] bcast_S8x16x2x2048x1_S8x16x2x2048x2048_0_1_2_3_4
      (broadcastInDim S8x16x2x2048x1 ![0, 1, 2, 3] bcast_S8x16x2x2048_S8x16x2x2048x1_0_1_2_3 x) (ix5 b h u i j) = x (ix4 b h u i) := by
  pointwise []

theorem max_at {s : Shape} (x y : FVec Ideal s .f32) (i : s.Idx) (a : EReal) (h : x i = a) :
    maximumf x y i = max a (y i) := by
  subst h; rfl

theorem most_apply (l : FVec Ideal S8x16x2x2048x2048 .f32) (b : Fin 8) (h : Fin 16) (u : Fin 2) (i : Fin 2048) : most l (ix4 b h u i)
    = max (Ideal.ofBits .f32 0xFF800000#32) (peak l (ix4 b h u i)) := by
  unfold most
  exact max_at _ _ _ _ (by pointwise [])

theorem exp_sub_at {s : Shape} (x y : FVec Ideal s .f32) (i : s.Idx) (b : EReal) (h : y i = b) :
    Host.exp (subf x y) i = Ideal.exp (x i - b) := by
  subst h; rfl

theorem weights_apply (l : FVec Ideal S8x16x2x2048x2048 .f32) (b : Fin 8) (h : Fin 16) (u : Fin 2) (i j : Fin 2048) : weights l (ix5 b h u i j)
    = Ideal.exp (l (ix5 b h u i j) - most l (ix4 b h u i)) := by
  unfold weights
  exact exp_sub_at _ _ _ _ (spread_apply (most l) b h u i j)

theorem probs_apply (l : FVec Ideal S8x16x2x2048x2048 .f32) (b : Fin 8) (h : Fin 16) (u : Fin 2) (i j : Fin 2048) : probs l (ix5 b h u i j)
    = Ideal.div (weights l (ix5 b h u i j)) (∑ x : Fin 2048, weights l (ix5 b h u i x)) := by
  pointwise [probs]

theorem lamb_apply : lamb x1 ix0
    = Ideal.exp (∑ d : Fin 64, x1 (ix2 0 d) * x1 (ix2 1 d)) - Ideal.exp (∑ d : Fin 64, x1 (ix2 2 d) * x1 (ix2 3 d))
      + Ideal.ofBits .f32 0x3E4CCCCD#32 := by
  pointwise [lamb]

theorem diff_apply (p : FVec Ideal S8x16x2x2048x2048 .f32) (lam : FVec Ideal S_ .f32) (b : Fin 8) (h : Fin 16) (i j : Fin 2048) :
    diff p lam (ix4 b h i j) = p (ix5 b h 0 i j) - lam ix0 * p (ix5 b h 1 i j) := by
  pointwise [diff]

theorem outs_apply (b : Fin 8) (i : Fin 2048) (h : Fin 16) (e : Fin 128) : outs x0 x1 (ix4 b i h e)
    = ∑ j : Fin 2048, diff (probs (logits x0)) (lamb x1) (ix4 b h i j) * vals x0 (ix4 b h j e) := by
  pointwise [outs]

theorem total_apply (o : FVec Ideal S8x2048x16x128 .f32) (b : Fin 8) (i : Fin 2048) (h : Fin 16) (e : Fin 128) :
    total x2 o (ix2 ⟨2048 * b.val + i.val, by omega⟩ ⟨128 * h.val + e.val, by omega⟩)
     = normed (fun y => o (ix4 b i h y)) (x2 (ix1 e)) e := by
  pointwise [total]
  unfold normed
  rw [← mul_assoc, mul_right_comm]

end Cert.ReferenceIdeal.Da
-- ==== Proof.DaRefRow.lean ====
module

public import proofs.«01_k».proof.Proof.DaRef

@[expose] public section

set_option maxRecDepth 16384

noncomputable section

namespace Cert.ReferenceIdeal.Da

open Idealize.ShloMosaic Idealize.ShloMosaic.TcCoe Cert.ReferenceIdeal.Gen Cert.Da

theorem eighth : Ideal.ofBits .f32 0x3E000000#32 = ((1 / 8 : ℝ) : EReal) := by
  simp [Ideal.ofBits, Ideal.ieee, -EReal.coe_mul]; norm_num

theorem unseen : Ideal.ofBits .f32 0xFF800000#32 = ⊥ := by
  simp [Ideal.ofBits, Ideal.ieee]

theorem dist_int (i j : Fin 2048) : (BitVec.ofNat 32 i.val - BitVec.ofNat 32 j.val).toInt = (i.val : Int) - j.val := by
  rw [BitVec.toInt_sub, BitVec.toInt_ofNat', BitVec.toInt_ofNat']
  have := i.isLt
  have := j.isLt
  simp only [Int.bmod]
  omega

theorem mask (i j : Fin 2048) (a b : EReal) :
    Scalar.select (IntOp.cmpi CmpIPredicate.sge (dist (ix2 i j)) 0#32) a b = if i.val < j.val then b else a := by
  have e : IntOp.cmpi CmpIPredicate.sge (dist (ix2 i j)) 0#32 = BitVec.ofBool (decide (¬ i.val < j.val)) := by
    rw [dist_apply]
    show BitVec.ofBool ((0#32).sle _) = _
    congr 1
    unfold BitVec.sle
    rw [dist_int]
    simp
  rw [e]
  by_cases h : i.val < j.val
  · simp [Scalar.select, h]
  · simp [Scalar.select, h]

variable (x0 : FVec Ideal S16384x26624 .bf16) (x1 : FVec Ideal S4x64 .f32) (x2 : FVec Ideal S128 .f32)
variable (x : Nat → Nat → ℝ) (lam : ℝ)
  (hx : ∀ (i : Fin 16384) (j : Fin 26624), j.val < 6144 → x0 (ix2 i j) = ((x i.val j.val : ℝ) : EReal))
  (hl : lamb x1 ix0 = (lam : EReal))

/-- One of a head's two score rows, from the batch's rows. -/
def scores (b : Fin 8) (h : Fin 16) (u : Fin 2) (i : Fin 2048) : Nat → ℝ :=
  sc (fun s => x (2048 * b.val + s)) (fun j c => x (2048 * b.val + j) (2048 + c)) (slope h.val) (128 * h.val + 64 * u.val) i.val

include hx in
theorem logits_E (b : Fin 8) (h : Fin 16) (u : Fin 2) (i j : Fin 2048) : logits x0 (ix5 b h u i j) = E (scores x b h u i) i.val j.val := by
  rw [logits_apply, mask, unseen]
  unfold E
  split_ifs with hc
  · rfl
  rw [dots_apply, alibi_apply, slopes_apply, slope_real, dist_apply]
  have e : (FloatOps.sitofp (F := Ideal) .f32 (BitVec.ofNat 32 i.val - BitVec.ofNat 32 j.val) : EReal)
      = (((i.val : ℝ) - (j.val : ℝ) : ℝ) : EReal) := by
    show (((BitVec.ofNat 32 i.val - BitVec.ofNat 32 j.val).toInt : ℝ) : EReal) = _
    rw [dist_int]; push_cast; rfl
  rw [e, ← EReal.coe_neg, ← EReal.coe_mul]
  have ed : ∀ d : Fin 64, qs x0 (ix5 b h u i d) * ks x0 (ix5 b h u j d)
      = ((x (2048 * b.val + i.val) (128 * h.val + 64 * u.val + d.val) * (1 / 8)
          * x (2048 * b.val + j.val) (2048 + (128 * h.val + 64 * u.val + d.val)) : ℝ) : EReal) := fun d => by
    rw [qs_apply, ks_apply, hx _ _ (by dsimp only; omega), hx _ _ (by dsimp only; omega), eighth, ← EReal.coe_mul, ← EReal.coe_mul]
  simp only [ed]
  rw [← coe_sum, ← EReal.coe_add]
  unfold scores sc
  rw [neg_mul]

include hx in
theorem weights_W (b : Fin 8) (h : Fin 16) (u : Fin 2) (i j : Fin 2048) :
    weights (logits x0) (ix5 b h u i j) = W (scores x b h u i) i.val 2048 j.val := by
  rw [weights_apply, most_apply, peak_apply, unseen]
  simp only [logits_E x0 x hx]
  rw [max_eq_right bot_le]
  rfl

include hx hl in
theorem outs_mean (b : Fin 8) (i : Fin 2048) (h : Fin 16) (e : Fin 128) : outs x0 x1 (ix4 b i h e)
    = mean (scores x b h 0 i) (scores x b h 1 i) i.val lam (fun j => x (2048 * b.val + j) (4096 + (128 * h.val + e.val))) := by
  rw [outs_apply]
  unfold mean
  refine Finset.sum_congr rfl fun j _ => ?_
  rw [diff_apply, probs_apply, probs_apply, hl, vals_apply, hx _ _ (by dsimp only; omega)]
  simp only [weights_W x0 x hx]

include hx hl in
theorem row (b : Fin 8) (i : Fin 2048) (h : Fin 16) (e : Fin 128) :
    total x2 (outs x0 x1) (ix2 ⟨2048 * b.val + i.val, by omega⟩ ⟨128 * h.val + e.val, by omega⟩)
      = rowOut (fun s => x (2048 * b.val + s)) (slope h.val) lam (fun e => x2 (ix1 e)) h.val i.val e := by
  rw [total_apply]
  simp only [outs_mean x0 x1 x lam hx hl]
  rfl

end Cert.ReferenceIdeal.Da
-- ==== Proof.DaPre.lean ====
module

public import proofs.«01_k».proof.Defs
public import proofs.«01_k».proof.Proof.DaFinal
public import proofs.«01_k».proof.Proof.DaRefRow
public import proofs.«01_k».proof.Proof.Gen.Pre_finite
public import Idealize.ShloMosaic.Lib.ReduceAll

@[expose] public section

set_option maxRecDepth 16384

noncomputable section

namespace Cert.Da

open Idealize.ShloMosaic

theorem wordTop : Ideal.ofBits .f32 0x7F800000#32 = ⊤ := by
  simp [Ideal.ofBits, Ideal.ieee]

/-- A size below the largest float is that of a real number. -/
theorem real_of_below (a b : EReal) (hb : b = ⊤) (h' : Ideal.cmp .olt (max a (-a)) b = 1#1) : a = ((a.toReal : ℝ) : EReal) := by
  subst hb
  have h : max a (-a) < ⊤ := by
    by_contra hn
    simp [Ideal.cmp, hn] at h'
  refine (EReal.coe_toReal ?_ ?_).symm
  · rintro rfl
    simp at h
  · rintro rfl
    simp at h

/-- The two-sum mixing weight of the two maps is real where the vectors it is made of are. -/
theorem lam_real (y : Fin 4 → Fin 64 → EReal) (hy : ∀ a d, y a d = (((y a d).toReal : ℝ) : EReal)) :
    ∃ lam : ℝ, Ideal.exp (∑ d : Fin 64, y 0 d * y 1 d) - Ideal.exp (∑ d : Fin 64, y 2 d * y 3 d)
      + Ideal.ofBits .f32 0x3E4CCCCD#32 = (lam : EReal) := by
  have e (a b : Fin 4) : ∑ d : Fin 64, y a d * y b d = ((∑ d : Fin 64, (y a d).toReal * (y b d).toReal : ℝ) : EReal) := by
    rw [coe_sum]
    exact Finset.sum_congr rfl fun d _ => by rw [EReal.coe_mul, ← hy, ← hy]
  have hw : ∃ w : ℝ, Ideal.ofBits .f32 0x3E4CCCCD#32 = (w : EReal) := by
    simp only [Ideal.ofBits, Ideal.ieee]
    exact ⟨_, rfl⟩
  obtain ⟨w, hw⟩ := hw
  rw [e, e, hw]
  exact ⟨_, rfl⟩

end Cert.Da

namespace Cert.Pre_finite

open Idealize.ShloMosaic

variable (x0 : FVec Ideal S16384x26624 .bf16) (x1 : FVec Ideal S4x64 .f32) (x2 : FVec Ideal S128 .f32)

instance : Subsingleton S_.Idx := ⟨fun a b => funext fun i => i.elim0⟩

theorem lambda_real (h : fn x0 x1 x2 = fun _ => 1#1) (a : Fin 4) (d : Fin 64) :
    x1 (ix2 a d) = (((x1 (ix2 a d)).toReal : ℝ) : EReal) := by
  have h0 := (IntOp.andi_eq_one.1 (congrFun h ix0)).2
  have h1 := Host.reduce_andi_all _ _ _ _ _ h0 (ix2 a d)
  exact Da.real_of_below _ _ Da.wordTop h1

theorem proj_real (h : fn x0 x1 x2 = fun _ => 1#1) (i : Fin 16384) (j : Fin 26624) (hj : j.val < 6144) :
    x0 (ix2 i j) = (((x0 (ix2 i j)).toReal : ℝ) : EReal) := by
  have h0 := (IntOp.andi_eq_one.1 (congrFun h ix0)).1
  have h1 := Host.reduce_andi_all _ _ _ _ _ h0 (ix2 i ⟨j.val, hj⟩)
  have e : extractStridedSlice S16384x6144 ![0, 0] x0 Facts.slices_S16384x26624_S16384x6144_0_0 (ix2 i ⟨j.val, hj⟩) = x0 (ix2 i j) := by
    pointwise
  rw [← e]
  exact Da.real_of_below _ _ Da.wordTop h1

end Cert.Pre_finite

namespace Cert.Da

open Idealize.ShloMosaic Idealize.ShloMosaic.TcCoe

/-- The entries of the projection as real numbers. -/
def entry (x0 : FVec Ideal Cert.KernelIdeal.S16384x26624 .bf16) (i j : Nat) : ℝ :=
  if h : i < 16384 ∧ j < 26624 then (x0 (ix2 ⟨i, h.1⟩ ⟨j, h.2⟩)).toReal else 0

theorem entry_at (x0 : FVec Ideal Cert.KernelIdeal.S16384x26624 .bf16) (i : Fin 16384) (j : Fin 26624) :
    entry x0 i.val j.val = (x0 (ix2 i j)).toReal := by
  unfold entry
  rw [dif_pos ⟨i.isLt, j.isLt⟩]

/-- Under the precondition the reference's result, at any index, is the one the kernel writes there. -/
theorem ref_whole (x0 : FVec Ideal Cert.KernelIdeal.S16384x26624 .bf16) (x1 : FVec Ideal Cert.KernelIdeal.S4x64 .f32)
    (x2 : FVec Ideal Cert.KernelIdeal.S128 .f32) (lam : ℝ)
    (hx : ∀ (i : Fin 16384) (j : Fin 26624), j.val < 6144 → x0 (ix2 i j) = ((entry x0 i.val j.val : ℝ) : EReal))
    (hl : Cert.ReferenceIdeal.Da.lamb x1 ix0 = (lam : EReal)) :
    Cert.ReferenceIdeal.Da.total x2 (Cert.ReferenceIdeal.Da.outs x0 x1)
      = (fun i => whole (entry x0) lam (fun e => x2 (ix1 e)) (i 0).val (i 1).val) := by
  funext i
  have h0 : (i 0).val < 16384 := (i 0).isLt
  have h1 : (i 1).val < 2048 := (i 1).isLt
  have e : i = ix2 ⟨2048 * ((i 0).val / 2048) + (i 0).val % 2048, by omega⟩ ⟨128 * ((i 1).val / 128) + (i 1).val % 128, by omega⟩ := by
    funext a
    apply Fin.ext
    match a with
    | ⟨0, _⟩ => show (i 0).val = 2048 * ((i 0).val / 2048) + (i 0).val % 2048; omega
    | ⟨1, _⟩ => show (i 1).val = 128 * ((i 1).val / 128) + (i 1).val % 128; omega
  refine (congrArg _ e).trans ?_
  exact Cert.ReferenceIdeal.Da.row x0 x1 x2 (entry x0) lam hx hl ⟨(i 0).val / 2048, by omega⟩ ⟨(i 0).val % 2048, by omega⟩
    ⟨(i 1).val / 128, by omega⟩ ⟨(i 1).val % 128, by omega⟩

end Cert.Da

end
-- ==== Proof.ProjBlocks.lean ====
module

public import proofs.«01_k».proof.Proof.Gen.Kernel2Ideal.Value
public import proofs.«01_k».proof.Proof.Gen.Reference2Ideal.Run
public import proofs.«01_k».proof.Proof.Gen.Reference2Ideal
public import Idealize.ShloMosaic.Lib.StableHlo.ReadAt
public import Idealize.ShloMosaic.Lib.Pointwise
public import Idealize.ShloMosaic.PureOps.Ideal.Laws
public import Idealize.ShloMosaic.Lib.Pipeline.ValueKit.Geometry

@[expose] public section

set_option maxRecDepth 16384

noncomputable section

namespace Cert.Proj

open Idealize.ShloMosaic

/-- The projection's entry: row `s` of the activations (counted over all batches) with column `d` of the weight. -/
def entry (x : FVec Ideal Cert.Kernel2Ideal.S8x2048x4096 .f32) (w : FVec Ideal Cert.Kernel2Ideal.S1x4096x26624 .f32) (b : Fin 8) (i : Fin 2048) (d : Fin 26624) : EReal :=
  ∑ k : Fin 4096, x (ix3 b i k) * w (ix3 0 k d)

def whole (x : FVec Ideal Cert.Kernel2Ideal.S8x2048x4096 .f32) (w : FVec Ideal Cert.Kernel2Ideal.S1x4096x26624 .f32) (j : Cert.Kernel2Ideal.S16384x26624.Idx) : EReal :=
  entry x w ⟨(j 0).val / 2048, by have : (j 0).val < 16384 := (j 0).isLt; omega⟩ ⟨(j 0).val % 2048, by omega⟩ ⟨(j 1).val, (j 1).isLt⟩

end Cert.Proj

namespace Cert.Reference2Ideal.Proj

open Idealize.ShloMosaic Cert.Reference2Ideal.Gen Cert.Proj

variable (x : FVec Ideal S8x2048x4096 .f32) (w : FVec Ideal S1x4096x26624 .f32)

def total : FVec Ideal S16384x26624 .bf16 :=
  truncf .bf16 (shapeCast _ (Host.dotGeneral dot_S8x2048x4096_S4096x26624_S8x2048x26624_2_0_01_1_n_n none x
    (shapeCast _ w shapeCasts_S1x4096x26624_S4096x26624)) shapeCasts_S8x2048x26624_S16384x26624) bitsLt_bf16_f32

theorem total_apply (b : Fin 8) (i : Fin 2048) (d : Fin 26624) :
    total x w (ix2 ⟨2048 * b.val + i.val, by omega⟩ d) = entry x w b i d := by
  pointwise [total]
  rfl

theorem total_eq : total x w = whole x w := by
  funext j
  have h0 : (j 0).val < 16384 := (j 0).isLt
  have e : j = ix2 ⟨2048 * ((j 0).val / 2048) + (j 0).val % 2048, by omega⟩ ⟨(j 1).val, (j 1).isLt⟩ := by
    funext a
    apply Fin.ext
    match a with
    | ⟨0, _⟩ => show (j 0).val = 2048 * ((j 0).val / 2048) + (j 0).val % 2048; omega
    | ⟨1, _⟩ => rfl
  refine (congrArg _ e).trans ?_
  exact total_apply x w ⟨(j 0).val / 2048, by omega⟩ ⟨(j 0).val % 2048, by omega⟩ ⟨(j 1).val, (j 1).isLt⟩

end Cert.Reference2Ideal.Proj

namespace Cert.Kernel2Ideal.Proj

open Idealize.ShloMosaic Idealize.ShloMosaic.TcCoe Cert.Kernel2Ideal.Gen Cert.Proj

theorem pay (x : Vec Ideal S1024x4096 .bf16) (w : Vec Ideal S4096x1024 .bf16) (r d : Fin 1024) :
    k0_pay1 x w (ix2 r d) = ∑ k : Fin 4096, x (ix2 r k) * w (ix2 k d) := by
  pointwise [k0_pay1]

theorem out (x : Vec Ideal S1024x4096 .bf16) (w : Vec Ideal S4096x1024 .bf16) : out0_2 x w = k0_pay1 x w := by
  unfold out0_2
  rw [View.canon_unit_zero (funext fun a => by fin_cases a <;> rfl), View.ld_unit_zero (funext fun a => by fin_cases a <;> rfl),
    View.ld_unit_zero (funext fun a => by fin_cases a <;> rfl)]

variable (m : (ℓ : Loc nD τ sig) → Buf (Elt Ideal) ℓ) (c : Dev nD)

theorem cols (k : Fin 4096) (d : Fin 26624) :
    (V m c main_v3 : Vec Ideal S4096x26624 .bf16) (ix2 k d) = m ((c : Thread nD τ).loc main_arg1) (ix3 0 k d) := by
  unfold V
  after_reads_at

theorem covers : (cfg0.win 2).Covers := by decide +kernel
theorem index0 : ∀ t : Fin grid0.N, win0_0.index t 0 = t.val / 26 ∧ win0_0.index t 1 = 0 := by decide +kernel
theorem index1 : ∀ t : Fin grid0.N, win0_1.index t 0 = 0 ∧ win0_1.index t 1 = t.val % 26 := by decide +kernel
theorem index2 : ∀ t : Fin grid0.N, win0_2.index t 0 = t.val / 26 ∧ win0_2.index t 1 = t.val % 26 := by decide +kernel

theorem row (s : Fin 16384) (k : Fin 4096) : (V m c main_v1 : Vec Ideal S16384x4096 .bf16) (ix2 s k)
    = m ((c : Thread nD τ).loc main_arg0) (ix3 ⟨s.val / 2048, by omega⟩ ⟨s.val % 2048, by omega⟩ k) := by
  unfold V
  after_reads_at

variable (t : Fin cfg0.N)

theorem tN : t.val < 416 := lt_of_lt_of_eq t.isLt (show cfg0.N = 416 from N_0)

theorem blk0 (r : Fin 1024) (k : Fin 4096) : (iblk m c 0 t : Vec Ideal S1024x4096 .bf16) (ix2 r k)
    = (V m c main_v1 : Vec Ideal S16384x4096 .bf16) (ix2 ⟨1024 * (t.val / 26) + r.val, by have := tN t; omega⟩ k) := by
  unfold iblk
  rw [View.read_apply]
  show V m c main_v1 _ = _
  congr 1
  have hi := index0 t
  funext a
  apply Fin.ext
  match a with
  | ⟨0, _⟩ => show win0_0.index t 0 * 1024 + 1 * r.val = _; rw [hi.1]; show _ = 1024 * (t.val / 26) + r.val; omega
  | ⟨1, _⟩ => show win0_0.index t 1 * 4096 + 1 * k.val = _; rw [hi.2]; show _ = k.val; omega

theorem blk1 (k : Fin 4096) (d : Fin 1024) : (iblk m c 1 t : Vec Ideal S4096x1024 .bf16) (ix2 k d)
    = (V m c main_v3 : Vec Ideal S4096x26624 .bf16) (ix2 k ⟨1024 * (t.val % 26) + d.val, by omega⟩) := by
  unfold iblk
  rw [View.read_apply]
  show V m c main_v3 _ = _
  congr 1
  have hi := index1 t
  funext a
  apply Fin.ext
  match a with
  | ⟨0, _⟩ => show win0_1.index t 0 * 4096 + 1 * k.val = _; rw [hi.1]; show _ = k.val; omega
  | ⟨1, _⟩ => show win0_1.index t 1 * 1024 + 1 * d.val = _; rw [hi.2]; show _ = 1024 * (t.val % 26) + d.val; omega

/-- After the run the output array holds the whole product. -/
theorem final : (dats m 0 c).arrAt 2 cfg0.N
    = (whole (m ((c : Thread nD τ).loc main_arg0)) (m ((c : Thread nD τ).loc main_arg1)) : Vec Ideal S16384x26624 .bf16) := by
  refine (dats m 0 c).arrAt_eq_of_covers 2 _ covers fun t hf y => ?_
  have hi := index2 t
  have ht := tN t
  have e0 : (((cfg0.win 2).blk t).view.emb y 0).val = win0_2.index t 0 * 1024 + 1 * (y 0).val := rfl
  have e1 : (((cfg0.win 2).blk t).view.emb y 1).val = win0_2.index t 1 * 1024 + 1 * (y 1).val := rfl
  have h0 : (y 0).val < 1024 := (y 0).isLt
  have h1 : (y 1).val < 1024 := (y 1).isLt
  show (dats m 0 c).after 2 t _ = _
  rw [after0_2, out]
  have hy : (fun a => ⟨(y a).val, by
      match a with
      | ⟨0, _⟩ => exact h0
      | ⟨1, _⟩ => exact h1⟩ : S1024x1024.Idx) = ix2 ⟨(y 0).val, h0⟩ ⟨(y 1).val, h1⟩ := by
    funext a
    apply Fin.ext
    match a with
    | ⟨0, _⟩ => rfl
    | ⟨1, _⟩ => rfl
  refine (congrArg (k0_pay1 (iblk m c 0 t) (iblk m c 1 t)) hy).trans ?_
  rw [pay]
  unfold whole entry
  refine Finset.sum_congr rfl fun k _ => ?_
  rw [blk0, blk1, row, cols]
  have a0 : (((cfg0.win 2).blk t).view.emb y 0).val = 1024 * (t.val / 26) + (y 0).val := by rw [e0, hi.1]; omega
  have a1 : (((cfg0.win 2).blk t).view.emb y 1).val = 1024 * (t.val % 26) + (y 1).val := by rw [e1, hi.2]; omega
  simp only [a0, a1]

end Cert.Kernel2Ideal.Proj

end
-- ==== Proof.MergeBlocks.lean ====
module

public import proofs.«01_k».proof.Proof.Gen.Kernel3Ideal.Value
public import proofs.«01_k».proof.Proof.Gen.Reference3Ideal.Run
public import proofs.«01_k».proof.Proof.Gen.Reference3Ideal
public import Idealize.ShloMosaic.Lib.StableHlo.ReadAt
public import Idealize.ShloMosaic.Lib.Pointwise
public import Idealize.ShloMosaic.PureOps.Ideal.Laws
public import Idealize.ShloMosaic.Lib.Pipeline.ValueKit.Geometry

@[expose] public section

set_option maxRecDepth 16384

noncomputable section

namespace Cert.Merge

open Idealize.ShloMosaic

theorem half : Ideal.ofBits .f32 0x3F000000#32 = ((1 / 2 : ℝ) : EReal) := by
  simp [Ideal.ofBits, Ideal.ieee, -EReal.coe_mul]; norm_num

theorem sigmoid_real (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; ring_nf
  have h1 : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = u at *
  generalize Real.exp (-(1 / 2 * r)) = v at *
  have hu : u = v⁻¹ := eq_inv_of_mul_eq_one_left h1
  subst hu
  field_simp
  ring

/-- The gate: written with a hyperbolic tangent it is the logistic function, at the infinities too. -/
theorem sigmoid (x : EReal) :
    Ideal.ofBits .f32 0x3F000000#32 * Ideal.tanh (Ideal.ofBits .f32 0x3F000000#32 * x) + Ideal.ofBits .f32 0x3F000000#32 = Ideal.logistic x := by
  rw [half]
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r => rw [← EReal.coe_mul, Ideal.tanh_coe, Ideal.logistic_coe, ← EReal.coe_mul, ← EReal.coe_add, sigmoid_real]

variable (a : FVec Ideal Cert.Kernel3Ideal.S16384x2048 .bf16) (wa : FVec Ideal Cert.Kernel3Ideal.S1x2048x4096 .f32)
  (r : FVec Ideal Cert.Kernel3Ideal.S16384x4096 .bf16) (wr : FVec Ideal Cert.Kernel3Ideal.S1x4096x4096 .f32)
  (p : FVec Ideal Cert.Kernel3Ideal.S16384x26624 .bf16)

/-- The two projected branches at row `s` and channel `d`, each times its gate, added. -/
def entry (s : Fin 16384) (d : Fin 4096) : EReal :=
  Ideal.logistic (p (ix2 s ⟨18432 + d.val, by omega⟩)) * (∑ k : Fin 2048, a (ix2 s k) * wa (ix3 0 k d))
    + Ideal.logistic (p (ix2 s ⟨22528 + d.val, by omega⟩)) * (∑ k : Fin 4096, r (ix2 s k) * wr (ix3 0 k d))

def whole (j : Cert.Kernel3Ideal.S16384x4096.Idx) : EReal :=
  entry a wa r wr p ⟨(j 0).val, (j 0).isLt⟩ ⟨(j 1).val, (j 1).isLt⟩

end Cert.Merge

namespace Cert.Reference3Ideal.Merge

open Idealize.ShloMosaic Cert.Reference3Ideal.Gen Cert.Merge

variable (a : FVec Ideal S16384x2048 .bf16) (wa : FVec Ideal S1x2048x4096 .f32) (r : FVec Ideal S16384x4096 .bf16)
  (wr : FVec Ideal S1x4096x4096 .f32) (p : FVec Ideal S16384x26624 .bf16)

/-- The logistic function of an array, as the reference writes it. -/
def gate (g : FVec Ideal S16384x4096 .bf16) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32)) (Host.exp (Host.negf (extf .f32 g bitsLt_bf16_f32))))

def total : FVec Ideal S16384x4096 .bf16 :=
  truncf .bf16 (addf
    (mulf (gate (extractStridedSlice S16384x4096 ![0, 18432] p slices_S16384x26624_S16384x4096_0_18432))
      (Host.dotGeneral dot_S16384x2048_S2048x4096_S16384x4096_1_0_0_1_n_n none (extf .f32 a bitsLt_bf16_f32)
        (shapeCast _ wa shapeCasts_S1x2048x4096_S2048x4096)))
    (mulf (gate (extractStridedSlice S16384x4096 ![0, 22528] p slices_S16384x26624_S16384x4096_0_22528))
      (Host.dotGeneral dot_S16384x4096_S4096x4096_S16384x4096_1_0_0_1_n_n none (extf .f32 r bitsLt_bf16_f32)
        (shapeCast _ wr shapeCasts_S1x4096x4096_S4096x4096)))) bitsLt_bf16_f32

theorem one : Ideal.ofBits .f32 0x3F800000#32 = (1 : EReal) := by
  simp [Ideal.ofBits, Ideal.ieee, -EReal.coe_mul]; norm_num

theorem gate_apply (g : FVec Ideal S16384x4096 .bf16) (s : Fin 16384) (d : Fin 4096) : gate g (ix2 s d) = Ideal.logistic (g (ix2 s d)) := by
  pointwise [gate]
  rfl

theorem total_apply (s : Fin 16384) (d : Fin 4096) : total a wa r wr p (ix2 s d) = entry a wa r wr p s d := by
  pointwise [total, gate_apply]
  rfl

theorem total_eq : total a wa r wr p = whole a wa r wr p := by
  funext j
  have e : j = ix2 ⟨(j 0).val, (j 0).isLt⟩ ⟨(j 1).val, (j 1).isLt⟩ := by
    funext b
    apply Fin.ext
    match b with
    | ⟨0, _⟩ => rfl
    | ⟨1, _⟩ => rfl
  refine (congrArg _ e).trans ?_
  exact total_apply a wa r wr p ⟨(j 0).val, (j 0).isLt⟩ ⟨(j 1).val, (j 1).isLt⟩

end Cert.Reference3Ideal.Merge

namespace Cert.Kernel3Ideal.Merge

open Idealize.ShloMosaic Idealize.ShloMosaic.TcCoe Cert.Kernel3Ideal.Gen Cert.Merge

theorem pay (a : Vec Ideal S512x2048 .bf16) (wa : Vec Ideal S2048x1024 .bf16) (r : Vec Ideal S512x4096 .bf16) (wr : Vec Ideal S4096x1024 .bf16)
    (g h : Vec Ideal S512x1024 .bf16) (i : Fin 512) (d : Fin 1024) :
    k0_pay1 a wa r wr g h (ix2 i d) = Ideal.logistic (g (ix2 i d)) * (∑ k : Fin 2048, a (ix2 i k) * wa (ix2 k d))
      + Ideal.logistic (h (ix2 i d)) * (∑ k : Fin 4096, r (ix2 i k) * wr (ix2 k d)) := by
  rw [← sigmoid, ← sigmoid]
  pointwise [k0_pay1]

theorem out (a : Vec Ideal S512x2048 .bf16) (wa : Vec Ideal S2048x1024 .bf16) (r : Vec Ideal S512x4096 .bf16) (wr : Vec Ideal S4096x1024 .bf16)
    (g h : Vec Ideal S512x1024 .bf16) : out0_6 a wa r wr g h = k0_pay1 a wa r wr g h := by
  have z : (![0, 0] : Fin 2 → Nat) = fun _ => 0 := funext fun a => by fin_cases a <;> rfl
  unfold out0_6
  rw [View.canon_unit_zero z, View.ld_unit_zero z, View.ld_unit_zero z, View.ld_unit_zero z, View.ld_unit_zero z, View.ld_unit_zero z,
    View.ld_unit_zero z]

variable (m : (ℓ : Loc nD τ sig) → Buf (Elt Ideal) ℓ) (c : Dev nD)

theorem colsA (k : Fin 2048) (d : Fin 4096) :
    (V m c main_v1 : Vec Ideal S2048x4096 .bf16) (ix2 k d) = m ((c : Thread nD τ).loc main_arg1) (ix3 0 k d) := by
  unfold V
  after_reads_at

theorem colsR (k : Fin 4096) (d : Fin 4096) :
    (V m c main_v3 : Vec Ideal S4096x4096 .bf16) (ix2 k d) = m ((c : Thread nD τ).loc main_arg3) (ix3 0 k d) := by
  unfold V
  after_reads_at

theorem covers : (cfg0.win 6).Covers := by decide +kernel
theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = 0 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = 18 + t.val % 4 := by decide +kernel
theorem index5 : ∀ t : Fin grid0.N, win0_5.index t 0 = t.val / 4 ∧ win0_5.index t 1 = 22 + t.val % 4 := by decide +kernel
theorem index6 : ∀ t : Fin grid0.N, win0_6.index t 0 = t.val / 4 ∧ win0_6.index t 1 = t.val % 4 := by decide +kernel

variable (t : Fin cfg0.N)

theorem tN : t.val < 128 := lt_of_lt_of_eq t.isLt (show cfg0.N = 128 from N_0)

theorem blk0 (r : Fin 512) (k : Fin 2048) : (iblk m c 0 t : Vec Ideal S512x2048 .bf16) (ix2 r k)
    = (V m c main_arg0 : Vec Ideal S16384x2048 .bf16) (ix2 ⟨512 * (t.val / 4) + r.val, by have := tN t; omega⟩ ⟨k.val, by have := tN t; omega⟩) := by
  unfold iblk
  rw [View.read_apply]
  show V m c main_arg0 _ = _
  congr 1
  have hi := index0 t
  funext a
  apply Fin.ext
  match a with
  | ⟨0, _⟩ => show win0_0.index t 0 * 512 + 1 * r.val = _; rw [hi.1]; show _ = 512 * (t.val / 4) + r.val; omega
  | ⟨1, _⟩ => show win0_0.index t 1 * 2048 + 1 * k.val = _; rw [hi.2]; show _ = k.val; omega

theorem blk1 (r : Fin 2048) (k : Fin 1024) : (iblk m c 1 t : Vec Ideal S2048x1024 .bf16) (ix2 r k)
    = (V m c main_v1 : Vec Ideal S2048x4096 .bf16) (ix2 ⟨r.val, by have := tN t; omega⟩ ⟨1024 * (t.val % 4) + k.val, by have := tN t; omega⟩) := by
  unfold iblk
  rw [View.read_apply]
  show V m c main_v1 _ = _
  congr 1
  have hi := index1 t
  funext a
  apply Fin.ext
  match a with
  | ⟨0, _⟩ => show win0_1.index t 0 * 2048 + 1 * r.val = _; rw [hi.1]; show _ = r.val; omega
  | ⟨1, _⟩ => show win0_1.index t 1 * 1024 + 1 * k.val = _; rw [hi.2]; show _ = 1024 * (t.val % 4) + k.val; omega

theorem blk2 (r : Fin 512) (k : Fin 4096) : (iblk m c 2 t : Vec Ideal S512x4096 .bf16) (ix2 r k)
    = (V m c main_arg2 : Vec Ideal S16384x4096 .bf16) (ix2 ⟨512 * (t.val / 4) + r.val, by have := tN t; omega⟩ ⟨k.val, by have := tN t; omega⟩) := by
  unfold iblk
  rw [View.read_apply]
  show V m c main_arg2 _ = _
  congr 1
  have hi := index2 t
  funext a
  apply Fin.ext
  match a with
  | ⟨0, _⟩ => show win0_2.index t 0 * 512 + 1 * r.val = _; rw [hi.1]; show _ = 512 * (t.val / 4) + r.val; omega
  | ⟨1, _⟩ => show win0_2.index t 1 * 4096 + 1 * k.val = _; rw [hi.2]; show _ = k.val; omega

theorem blk3 (r : Fin 4096) (k : Fin 1024) : (iblk m c 3 t : Vec Ideal S4096x1024 .bf16) (ix2 r k)
    = (V m c main_v3 : Vec Ideal S4096x4096 .bf16) (ix2 ⟨r.val, by have := tN t; omega⟩ ⟨1024 * (t.val % 4) + k.val, by have := tN t; omega⟩) := by
  unfold iblk
  rw [View.read_apply]
  show V m c main_v3 _ = _
  congr 1
  have hi := index3 t
  funext a
  apply Fin.ext
  match a with
  | ⟨0, _⟩ => show win0_3.index t 0 * 4096 + 1 * r.val = _; rw [hi.1]; show _ = r.val; omega
  | ⟨1, _⟩ => show win0_3.index t 1 * 1024 + 1 * k.val = _; rw [hi.2]; show _ = 1024 * (t.val % 4) + k.val; omega

theorem blk4 (r : Fin 512) (k : Fin 1024) : (iblk m c 4 t : Vec Ideal S512x1024 .bf16) (ix2 r k)
    = (V m c main_arg4 : Vec Ideal S16384x26624 .bf16) (ix2 ⟨512 * (t.val / 4) + r.val, by have := tN t; omega⟩ ⟨18432 + (1024 * (t.val % 4) + k.val), by have := tN t; omega⟩) := by
  unfold iblk
  rw [View.read_apply]
  show V m c main_arg4 _ = _
  congr 1
  have hi := index4 t
  funext a
  apply Fin.ext
  match a with
  | ⟨0, _⟩ => show win0_4.index t 0 * 512 + 1 * r.val = _; rw [hi.1]; show _ = 512 * (t.val / 4) + r.val; omega
  | ⟨1, _⟩ => show win0_4.index t 1 * 1024 + 1 * k.val = _; rw [hi.2]; show _ = 18432 + (1024 * (t.val % 4) + k.val); omega

theorem blk5 (r : Fin 512) (k : Fin 1024) : (iblk m c 5 t : Vec Ideal S512x1024 .bf16) (ix2 r k)
    = (V m c main_arg4 : Vec Ideal S16384x26624 .bf16) (ix2 ⟨512 * (t.val / 4) + r.val, by have := tN t; omega⟩ ⟨22528 + (1024 * (t.val % 4) + k.val), by have := tN t; omega⟩) := by
  unfold iblk
  rw [View.read_apply]
  show V m c main_arg4 _ = _
  congr 1
  have hi := index5 t
  funext a
  apply Fin.ext
  match a with
  | ⟨0, _⟩ => show win0_5.index t 0 * 512 + 1 * r.val = _; rw [hi.1]; show _ = 512 * (t.val / 4) + r.val; omega
  | ⟨1, _⟩ => show win0_5.index t 1 * 1024 + 1 * k.val = _; rw [hi.2]; show _ = 22528 + (1024 * (t.val % 4) + k.val); omega

/-- After the run the output array holds the gated sum of the two projected branches. -/
theorem final : (dats m 0 c).arrAt 6 cfg0.N
    = (whole (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S16384x4096 .bf16) := by
  refine (dats m 0 c).arrAt_eq_of_covers 6 _ covers fun t hf y => ?_
  have hi := index6 t
  have ht := tN t
  have e0 : (((cfg0.win 6).blk t).view.emb y 0).val = win0_6.index t 0 * 512 + 1 * (y 0).val := rfl
  have e1 : (((cfg0.win 6).blk t).view.emb y 1).val = win0_6.index t 1 * 1024 + 1 * (y 1).val := rfl
  have h0 : (y 0).val < 512 := (y 0).isLt
  have h1 : (y 1).val < 1024 := (y 1).isLt
  show (dats m 0 c).after 6 t _ = _
  rw [after0_6, out]
  have hy : (fun a => ⟨(y a).val, by
      match a with
      | ⟨0, _⟩ => exact h0
      | ⟨1, _⟩ => exact h1⟩ : S512x1024.Idx) = ix2 ⟨(y 0).val, h0⟩ ⟨(y 1).val, h1⟩ := by
    funext a
    apply Fin.ext
    match a with
    | ⟨0, _⟩ => rfl
    | ⟨1, _⟩ => rfl
  refine (congrArg (k0_pay1 (iblk m c 0 t) (iblk m c 1 t) (iblk m c 2 t) (iblk m c 3 t) (iblk m c 4 t) (iblk m c 5 t)) hy).trans ?_
  rw [pay]
  have a0 : (((cfg0.win 6).blk t).view.emb y 0).val = 512 * (t.val / 4) + (y 0).val := by rw [e0, hi.1]; omega
  have a1 : (((cfg0.win 6).blk t).view.emb y 1).val = 1024 * (t.val % 4) + (y 1).val := by rw [e1, hi.2]; omega
  unfold whole entry
  simp only [blk0, blk1, blk2, blk3, blk4, blk5, a0, a1]
  refine congrArg₂ (· + ·) (congrArg₂ (· * ·) (congrArg Ideal.logistic ?_) (Finset.sum_congr rfl fun k _ => congrArg₂ (· * ·) ?_ ?_))
    (congrArg₂ (· * ·) (congrArg Ideal.logistic ?_) (Finset.sum_congr rfl fun k _ => congrArg₂ (· * ·) ?_ ?_))
  · exact congrFun (V_main_arg4 m c) _
  · exact congrFun (V_main_arg0 m c) _
  · exact colsA m c k _
  · exact congrFun (V_main_arg4 m c) _
  · exact congrFun (V_main_arg2 m c) _
  · exact colsR m c k _

end Cert.Kernel3Ideal.Merge

end
-- ==== Proof.NormBlocks.lean ====
module

public import proofs.«01_k».proof.Proof.Gen.Kernel4Ideal.Value
public import proofs.«01_k».proof.Proof.Gen.Reference4Ideal.Run
public import proofs.«01_k».proof.Proof.Gen.Reference4Ideal
public import Idealize.ShloMosaic.Lib.StableHlo.ReadAt
public import Idealize.ShloMosaic.Lib.Pointwise
public import Idealize.ShloMosaic.PureOps.Ideal.Laws
public import Idealize.ShloMosaic.Lib.Pipeline.ValueKit.Geometry

@[expose] public section

set_option maxRecDepth 16384

noncomputable section

namespace Cert.Norm

open Idealize.ShloMosaic

/-- The mean of a row of 4096 channels. -/
def mean (z : Fin 4096 → EReal) : EReal := Ideal.div (∑ k : Fin 4096, z k) (Ideal.ofBits .f32 0x45800000#32)

/-- A row centred, scaled by the reciprocal root of its variance plus the norm's epsilon, times a weight, plus a bias. -/
def norm (z : Fin 4096 → EReal) (w b : Fin 4096 → EReal) (d : Fin 4096) : EReal :=
  (z d - mean z) * Ideal.rsqrt (mean (fun k => (z k - mean z) * (z k - mean z)) + Ideal.ofBits .f32 0x3727C5AC#32) * w d + b d

variable (x : FVec Ideal Cert.Kernel4Ideal.S16384x4096 .f32) (y : FVec Ideal Cert.Kernel4Ideal.S4096x16384 .f32)
  (w b : FVec Ideal Cert.Kernel4Ideal.S1x4096 .f32)

/-- The layer's result at row `s` and channel `d`: the residual's alpha-fold plus the experts' sum, normed over the row. -/
def entry (s : Fin 16384) (d : Fin 4096) : EReal :=
  norm (fun k => Ideal.ofBits .f32 0x3F9837F0#32 * x (ix2 s k) + y (ix2 k s)) (fun k => w (ix2 0 k)) (fun k => b (ix2 0 k)) d

def whole (j : Cert.Kernel4Ideal.S16384x4096.Idx) : EReal :=
  entry x y w b ⟨(j 0).val, (j 0).isLt⟩ ⟨(j 1).val, (j 1).isLt⟩

end Cert.Norm

namespace Cert.Reference4Ideal.Norm

open Idealize.ShloMosaic Cert.Reference4Ideal.Gen Cert.Norm

variable (x : FVec Ideal S16384x4096 .f32) (y : FVec Ideal S4096x16384 .f32) (w b : FVec Ideal S1x4096 .f32)

def sum : FVec Ideal S8x2048x4096 .f32 :=
  addf (mulf (broadcastInDim S8x2048x4096 ![] bcast_S_S8x2048x4096 (constant S_ .f32 0x3F9837F0#32)) (shapeCast _ x shapeCasts_S16384x4096_S8x2048x4096))
    (shapeCast _ (transpose S16384x4096 [1, 0] y transposes_S4096x16384_S16384x4096_1_0) shapeCasts_S16384x4096_S8x2048x4096)

def means (z : FVec Ideal S8x2048x4096 .f32) : FVec Ideal S8x2048x1 .f32 :=
  Host.divf (broadcastInDim S8x2048x1 ![0, 1] bcast_S8x2048_S8x2048x1_0_1 (Host.reduceAdd z (constant S_ .f32 0x00000000#32) reducesTo_S8x2048x4096_S8x2048_d2 h_S_))
    (broadcastInDim S8x2048x1 ![] bcast_S_S8x2048x1 (constant S_ .f32 0x45800000#32))

def centred (z : FVec Ideal S8x2048x4096 .f32) : FVec Ideal S8x2048x4096 .f32 :=
  subf z (broadcastInDim S8x2048x4096 ![0, 1, 2] bcast_S8x2048x1_S8x2048x4096_0_1_2 (means z))

def channels (v : FVec Ideal S1x4096 .f32) : FVec Ideal S8x2048x4096 .f32 :=
  broadcastInDim S8x2048x4096 ![0, 1, 2] bcast_S1x1x4096_S8x2048x4096_0_1_2
    (broadcastInDim S1x1x4096 ![2] bcast_S4096_S1x1x4096_2 (shapeCast _ v shapeCasts_S1x4096_S4096))

def total : FVec Ideal S16384x4096 .f32 :=
  shapeCast _ (addf (mulf (mulf (centred (sum x y))
    (broadcastInDim S8x2048x4096 ![0, 1, 2] bcast_S8x2048x1_S8x2048x4096_0_1_2
      (Host.rsqrt (addf (means (mulf (centred (sum x y)) (centred (sum x y)))) (broadcastInDim S8x2048x1 ![] bcast_S_S8x2048x1 (constant S_ .f32 0x3727C5AC#32))))))
    (channels w)) (channels b)) shapeCasts_S8x2048x4096_S16384x4096

theorem means_apply (z : FVec Ideal S8x2048x4096 .f32) (c : Fin 8) (i : Fin 2048) (u : Fin 1) :
    means z (ix3 c i u) = mean (fun k => z (ix3 c i k)) := by
  pointwise [means]
  rfl

theorem centred_apply (z : FVec Ideal S8x2048x4096 .f32) (c : Fin 8) (i : Fin 2048) (d : Fin 4096) :
    centred z (ix3 c i d) = z (ix3 c i d) - mean (fun k => z (ix3 c i k)) := by
  pointwise [centred, means_apply]

theorem sum_apply (c : Fin 8) (i : Fin 2048) (d : Fin 4096) :
    sum x y (ix3 c i d) = Ideal.ofBits .f32 0x3F9837F0#32 * x (ix2 ⟨2048 * c.val + i.val, by omega⟩ d) + y (ix2 d ⟨2048 * c.val + i.val, by omega⟩) := by
  pointwise [sum]
  simp only [Nat.mul_comm c.val 2048]

theorem channels_apply (v : FVec Ideal S1x4096 .f32) (c : Fin 8) (i : Fin 2048) (d : Fin 4096) :
    channels v (ix3 c i d) = v (ix2 0 d) := by
  pointwise [channels]

theorem total_apply (c : Fin 8) (i : Fin 2048) (d : Fin 4096) :
    total x y w b (ix2 ⟨2048 * c.val + i.val, by omega⟩ d) = entry x y w b ⟨2048 * c.val + i.val, by omega⟩ d := by
  pointwise [total, centred_apply, means_apply, sum_apply, channels_apply]
  rfl

theorem total_eq : total x y w b = whole x y w b := by
  funext j
  have h0 : (j 0).val < 16384 := (j 0).isLt
  have h (s : Fin 16384) (d : Fin 4096) : total x y w b (ix2 s d) = entry x y w b s d := by
    have e : s = ⟨2048 * (s.val / 2048) + s.val % 2048, by omega⟩ := Fin.ext (by show s.val = 2048 * (s.val / 2048) + s.val % 2048; omega)
    rw [e]
    exact total_apply x y w b ⟨s.val / 2048, by omega⟩ ⟨s.val % 2048, by omega⟩ d
  have e : j = ix2 ⟨(j 0).val, (j 0).isLt⟩ ⟨(j 1).val, (j 1).isLt⟩ := by
    funext a
    apply Fin.ext
    match a with
    | ⟨0, _⟩ => rfl
    | ⟨1, _⟩ => rfl
  refine (congrArg _ e).trans ?_
  exact h _ _

end Cert.Reference4Ideal.Norm

namespace Cert.Kernel4Ideal.Norm

open Idealize.ShloMosaic Idealize.ShloMosaic.TcCoe Cert.Kernel4Ideal.Gen Cert.Norm

theorem pay (x : Vec Ideal S256x4096 .f32) (y : Vec Ideal S4096x256 .f32) (w b : Vec Ideal S1x4096 .f32) (i : Fin 256) (d : Fin 4096) :
    k0_pay1 x y w b (ix2 i d) = norm (fun k => Ideal.ofBits .f32 0x3F9837F0#32 * x (ix2 i k) + y (ix2 k i)) (fun k => w (ix2 0 k)) (fun k => b (ix2 0 k)) d := by
  pointwise [k0_pay1]
  rfl

theorem out (x : Vec Ideal S256x4096 .f32) (y : Vec Ideal S4096x256 .f32) (w b : Vec Ideal S1x4096 .f32) : out0_4 x y w b = k0_pay1 x y w b := by
  have z : (![0, 0] : Fin 2 → Nat) = fun _ => 0 := funext fun a => by fin_cases a <;> rfl
  unfold out0_4
  rw [View.canon_unit_zero z, View.ld_unit_zero z, View.ld_unit_zero z, View.ld_unit_zero z, View.ld_unit_zero z]

variable (m : (ℓ : Loc nD τ sig) → Buf (Elt Ideal) ℓ) (c : Dev nD)

theorem weights (d : Fin 4096) : (V m c main_v2 : Vec Ideal S1x4096 .f32) (ix2 0 d) = m ((c : Thread nD τ).loc main_arg2) (ix2 0 d) := by
  unfold V
  after_reads_at

theorem biases (d : Fin 4096) : (V m c main_v3 : Vec Ideal S1x4096 .f32) (ix2 0 d) = m ((c : Thread nD τ).loc main_arg3) (ix2 0 d) := by
  unfold V
  after_reads_at

theorem covers : (cfg0.win 4).Covers := by decide +kernel
theorem index0 : ∀ t : Fin grid0.N, win0_0.index t 0 = t.val ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel

variable (t : Fin cfg0.N)

theorem tN : t.val < 64 := lt_of_lt_of_eq t.isLt (show cfg0.N = 64 from N_0)

theorem blk0 (r : Fin 256) (k : Fin 4096) : (iblk m c 0 t : Vec Ideal S256x4096 .f32) (ix2 r k)
    = (V m c main_arg0 : Vec Ideal S16384x4096 .f32) (ix2 ⟨256 * t.val + r.val, by have := tN t; omega⟩ ⟨k.val, by have := tN t; omega⟩) := by
  unfold iblk
  rw [View.read_apply]
  show V m c main_arg0 _ = _
  congr 1
  have hi := index0 t
  funext a
  apply Fin.ext
  match a with
  | ⟨0, _⟩ => show win0_0.index t 0 * 256 + 1 * r.val = _; rw [hi.1]; show _ = 256 * t.val + r.val; omega
  | ⟨1, _⟩ => show win0_0.index t 1 * 4096 + 1 * k.val = _; rw [hi.2]; show _ = k.val; omega

theorem blk1 (r : Fin 4096) (k : Fin 256) : (iblk m c 1 t : Vec Ideal S4096x256 .f32) (ix2 r k)
    = (V m c main_arg1 : Vec Ideal S4096x16384 .f32) (ix2 ⟨r.val, by have := tN t; omega⟩ ⟨256 * t.val + k.val, by have := tN t; omega⟩) := by
  unfold iblk
  rw [View.read_apply]
  show V m c main_arg1 _ = _
  congr 1
  have hi := index1 t
  funext a
  apply Fin.ext
  match a with
  | ⟨0, _⟩ => show win0_1.index t 0 * 4096 + 1 * r.val = _; rw [hi.1]; show _ = r.val; omega
  | ⟨1, _⟩ => show win0_1.index t 1 * 256 + 1 * k.val = _; rw [hi.2]; show _ = 256 * t.val + k.val; omega

theorem blk2 (r : Fin 1) (k : Fin 4096) : (iblk m c 2 t : Vec Ideal S1x4096 .f32) (ix2 r k)
    = (V m c main_v2 : Vec Ideal S1x4096 .f32) (ix2 ⟨r.val, by have := tN t; omega⟩ ⟨k.val, by have := tN t; omega⟩) := by
  unfold iblk
  rw [View.read_apply]
  show V m c main_v2 _ = _
  congr 1
  have hi := index2 t
  funext a
  apply Fin.ext
  match a with
  | ⟨0, _⟩ => show win0_2.index t 0 * 1 + 1 * r.val = _; rw [hi.1]; show _ = r.val; omega
  | ⟨1, _⟩ => show win0_2.index t 1 * 4096 + 1 * k.val = _; rw [hi.2]; show _ = k.val; omega

theorem blk3 (r : Fin 1) (k : Fin 4096) : (iblk m c 3 t : Vec Ideal S1x4096 .f32) (ix2 r k)
    = (V m c main_v3 : Vec Ideal S1x4096 .f32) (ix2 ⟨r.val, by have := tN t; omega⟩ ⟨k.val, by have := tN t; omega⟩) := by
  unfold iblk
  rw [View.read_apply]
  show V m c main_v3 _ = _
  congr 1
  have hi := index3 t
  funext a
  apply Fin.ext
  match a with
  | ⟨0, _⟩ => show win0_3.index t 0 * 1 + 1 * r.val = _; rw [hi.1]; show _ = r.val; omega
  | ⟨1, _⟩ => show win0_3.index t 1 * 4096 + 1 * k.val = _; rw [hi.2]; show _ = k.val; omega

/-- After the run the output array holds the normed rows. -/
theorem final : (dats m 0 c).arrAt 4 cfg0.N
    = (whole (m ((c : Thread nD τ).loc main_arg0)) (m ((c : Thread nD τ).loc main_arg1)) (m ((c : Thread nD τ).loc main_arg2))
        (m ((c : Thread nD τ).loc main_arg3)) : Vec Ideal S16384x4096 .f32) := by
  refine (dats m 0 c).arrAt_eq_of_covers 4 _ covers fun t hf y => ?_
  have hi := index4 t
  have ht := tN t
  have e0 : (((cfg0.win 4).blk t).view.emb y 0).val = win0_4.index t 0 * 256 + 1 * (y 0).val := rfl
  have e1 : (((cfg0.win 4).blk t).view.emb y 1).val = win0_4.index t 1 * 4096 + 1 * (y 1).val := rfl
  have h0 : (y 0).val < 256 := (y 0).isLt
  have h1 : (y 1).val < 4096 := (y 1).isLt
  show (dats m 0 c).after 4 t _ = _
  rw [after0_4, out]
  have hy : (fun a => ⟨(y a).val, by
      match a with
      | ⟨0, _⟩ => exact h0
      | ⟨1, _⟩ => exact h1⟩ : S256x4096.Idx) = ix2 ⟨(y 0).val, h0⟩ ⟨(y 1).val, h1⟩ := by
    funext a
    apply Fin.ext
    match a with
    | ⟨0, _⟩ => rfl
    | ⟨1, _⟩ => rfl
  refine (congrArg (k0_pay1 (iblk m c 0 t) (iblk m c 1 t) (iblk m c 2 t) (iblk m c 3 t)) hy).trans ?_
  rw [pay]
  have a0 : (((cfg0.win 4).blk t).view.emb y 0).val = 256 * t.val + (y 0).val := by rw [e0, hi.1]; omega
  have a1 : (((cfg0.win 4).blk t).view.emb y 1).val = (y 1).val := by rw [e1, hi.2]; omega
  unfold whole entry
  simp only [blk0, blk1, blk2, blk3, a0, a1]
  have fx : (V m c main_arg0 : Vec Ideal S16384x4096 .f32) = m ((c : Thread nD τ).loc main_arg0) := V_main_arg0 m c
  have fy : (V m c main_arg1 : Vec Ideal S4096x16384 .f32) = m ((c : Thread nD τ).loc main_arg1) := V_main_arg1 m c
  have fw : (fun k : Fin 4096 => (V m c main_v2 : Vec Ideal S1x4096 .f32) (ix2 0 k)) = fun k => m ((c : Thread nD τ).loc main_arg2) (ix2 0 k) := funext (weights m c)
  have fb : (fun k : Fin 4096 => (V m c main_v3 : Vec Ideal S1x4096 .f32) (ix2 0 k)) = fun k => m ((c : Thread nD τ).loc main_arg3) (ix2 0 k) := funext (biases m c)
  exact congrFun (congrArg₂ (fun (f : (Fin 4096 → EReal) × (Fin 4096 → EReal)) (g : Fin 4096 → EReal) => norm f.1 f.2 g)
    (congrArg₂ Prod.mk (funext fun k => congrArg₂ (fun a b => Ideal.ofBits .f32 0x3F9837F0#32 * a + b) (congrFun fx _) (congrFun fy _)) fw) fb) _

end Cert.Kernel4Ideal.Norm

end
-- ==== Proof.OutRuns.lean ====
module

public import proofs.«01_k».proof.Proof.Gen.Kernel5Ideal.Frame
public import proofs.«01_k».proof.Proof.Gen.Kernel5Ideal.Skeleton
public import Idealize.ShloMosaic.Lib.Pipeline.FrameBody
public import Idealize.ShloMosaic.Lib.Ring
public import Idealize.ShloMosaic.Lib.Pipeline.Value
public import Idealize.ShloMosaic.Lib.Tactic

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Contents of an output block with the 512 columns from `o` on replaced by `z`. -/
def put {e : EltTy} (o : Nat) (z : Vec F S512x512 e) (Y : Vec F S512x4096 e) : Vec F S512x4096 e :=
  fun y => if h : o ≤ (y 1).val ∧ (y 1).val < o + 512
    then z (fun a => match a with | 0 => y 0 | 1 => ⟨(y 1).val - o, by show (y 1).val - o < 512; omega⟩) else Y y

/-- The 512 columns from `o` on of a block of 4096 columns. -/
def col {e : EltTy} (o : Nat) (h : ∀ a, (![0, o] : Fin 2 → Nat) a + S512x512.size a ≤ S512x4096.size a) (Y : Vec F S512x4096 e) :
    Vec F S512x512 e := View.ld Y (Rect.unit (s := S512x4096) ![0, o] S512x512.size h)

/-- The 512 entries from `o` on of a row of 4096. -/
def part (o : Nat) (h : ∀ a, (![0, o] : Fin 2 → Nat) a + S1x512.size a ≤ S1x4096.size a) (w : Vec F S1x4096 .f32) :
    Vec F S1x512 .f32 := View.ld w (Rect.unit (s := S1x4096) ![0, o] S1x512.size h)

theorem read_put {e : EltTy} {m : Memref sig .tc .vmem S512x4096 e} (o : Nat)
    (h : ∀ a, (![0, o] : Fin 2 → Nat) a + S512x512.size a ≤ S512x4096.size a) (z : Vec F S512x512 e)
    (f : m.view.ty.Contents (Elt F)) (L : List (View.Piece (Elt F) S512x4096 e)) :
    m.view.read (Elt F) (m.view.writes (Elt F) f (⟨Rect.unit (s := S512x4096) ![0, o] S512x512.size h, z⟩ :: L))
      = put o z (m.view.read (Elt F) (m.view.writes (Elt F) f L)) := by
  funext y
  by_cases hy : o ≤ (y 1).val ∧ (y 1).val < o + 512
  · refine Eq.trans ?_ (dif_pos hy).symm
    refine View.read_writes_cons_hit_of_coords _ f _ _ L _ y fun a => ?_
    fin_cases a
    · show (y 0).val = 0 + 1 * (y 0).val; omega
    · show (y 1).val = o + 1 * ((y 1).val - o); omega
  · refine Eq.trans ?_ (dif_neg hy).symm
    refine View.read_writes_cons_miss_of_axis _ f _ L y 1 o 512 rfl rfl rfl ?_
    omega

theorem readCov_hit {e : EltTy} (m : Memref sig .tc .vmem S512x4096 e) (o : Nat)
    (h : ∀ a, (![0, o] : Fin 2 → Nat) a + S512x512.size a ≤ S512x4096.size a) (z : Vec F S512x512 e)
    (L : List (View.Piece (Elt F) S512x4096 e)) :
    m.view.readCov (⟨Rect.unit (s := S512x4096) ![0, o] S512x512.size h, z⟩ :: L)
      (Rect.unit (s := S512x4096) ![0, o] S512x512.size h).toLoadRect = z :=
  View.readCov_cons_toLoadRect _ _ _ _

theorem readCov_miss {e : EltTy} (m : Memref sig .tc .vmem S512x4096 e) (o o' : Nat)
    (h : ∀ a, (![0, o] : Fin 2 → Nat) a + S512x512.size a ≤ S512x4096.size a)
    (h' : ∀ a, (![0, o'] : Fin 2 → Nat) a + S512x512.size a ≤ S512x4096.size a) (z : Vec F S512x512 e)
    (L : List (View.Piece (Elt F) S512x4096 e)) (hne : o + 512 ≤ o') :
    m.view.readCov (⟨Rect.unit (s := S512x4096) ![0, o] S512x512.size h, z⟩ :: L)
      (Rect.unit (s := S512x4096) ![0, o'] S512x512.size h').toLoadRect
      = m.view.readCov L (Rect.unit (s := S512x4096) ![0, o'] S512x512.size h').toLoadRect := by
  unfold View.readCov
  funext x
  refine View.read_writes_cons_miss_of_axis _ _ _ L _ 1 o 512 rfl rfl rfl (Or.inr ?_)
  show o + 512 ≤ o' + 1 * (x 1).val
  omega

theorem readCov_hit' {e : EltTy} (m : Memref sig .tc .vmem S512x4096 e) (o : Nat)
    (h : ∀ a, (![0, o] : Fin 2 → Nat) a + ![512, 512] a ≤ S512x4096.size a) (z : Vec F S512x512 e)
    (L : List (View.Piece (Elt F) S512x4096 e)) :
    m.view.readCov (⟨Rect.unit (s := S512x4096) ![0, o] ![512, 512] h, z⟩ :: L)
      (Rect.unit (s := S512x4096) ![0, o] ![512, 512] h).toLoadRect = z :=
  View.readCov_cons_toLoadRect _ _ _ _

theorem readCov_miss' {e : EltTy} (m : Memref sig .tc .vmem S512x4096 e) (o o' : Nat)
    (h : ∀ a, (![0, o] : Fin 2 → Nat) a + ![512, 512] a ≤ S512x4096.size a)
    (h' : ∀ a, (![0, o'] : Fin 2 → Nat) a + ![512, 512] a ≤ S512x4096.size a) (z : Vec F S512x512 e)
    (L : List (View.Piece (Elt F) S512x4096 e)) (hne : o + 512 ≤ o') :
    m.view.readCov (⟨Rect.unit (s := S512x4096) ![0, o] ![512, 512] h, z⟩ :: L)
      (Rect.unit (s := S512x4096) ![0, o'] ![512, 512] h').toLoadRect
      = m.view.readCov L (Rect.unit (s := S512x4096) ![0, o'] ![512, 512] h').toLoadRect := by
  unfold View.readCov
  funext x
  refine View.read_writes_cons_miss_of_axis _ _ _ L _ 1 o 512 rfl rfl rfl (Or.inr ?_)
  show o + 512 ≤ o' + 1 * (x 1).val
  omega

section Rows

variable (Y : Vec F S512x4096 .f32) (z : Vec F S512x512 .f32) (w b : Vec F S1x4096 .f32)

/-- A row block's sum over the first seven column blocks. -/
def sum7 : FVec F S512x1 .f32 :=
  k0_pay4 (col 0 inb_S512x4096_S512x512_0_0 Y) (col 512 inb_S512x4096_S512x512_0_512 Y) (col 1024 inb_S512x4096_S512x512_0_1024 Y)
    (col 1536 inb_S512x4096_S512x512_0_1536 Y) (col 2048 inb_S512x4096_S512x512_0_2048 Y) (col 2560 inb_S512x4096_S512x512_0_2560 Y)
    (col 3072 inb_S512x4096_S512x512_0_3072 Y)

/-- The rows' means. -/
def mean : FVec F S512x1 .f32 := k0_pay6 (sum7 Y) (k0_pay5 z)

/-- The rows' sums of squares over the first five column blocks. -/
def square5 : FVec F S512x1 .f32 :=
  k0_pay7 (sum7 Y) (k0_pay5 z) (col 0 inb_S512x4096_S512x512_0_0 Y) (col 512 inb_S512x4096_S512x512_0_512 Y)
    (col 1024 inb_S512x4096_S512x512_0_1024 Y) (col 1536 inb_S512x4096_S512x512_0_1536 Y) (col 2048 inb_S512x4096_S512x512_0_2048 Y)

/-- The rows' reciprocal standard deviations. -/
def scale : FVec F S512x1 .f32 :=
  k0_pay8 (mean Y z) (square5 Y z) (col 2560 inb_S512x4096_S512x512_0_2560 Y) (col 3072 inb_S512x4096_S512x512_0_3072 Y) z

/-- The first column block, normed. -/
def first : FVec F S512x512 .f32 :=
  k0_pay9 (mean Y z) (square5 Y z) (col 2560 inb_S512x4096_S512x512_0_2560 Y) (col 3072 inb_S512x4096_S512x512_0_3072 Y) z
    (col 0 inb_S512x4096_S512x512_0_0 Y) (part 0 inb_S1x4096_S1x512_0_0 w) (part 0 inb_S1x4096_S1x512_0_0 b)

/-- What a row block's last grid point leaves in the first output: every column block normed. -/
def normed : Vec F S512x4096 .f32 :=
  put 3584 (k0_pay2 (mean Y z) (scale Y z) z (part 3584 inb_S1x4096_S1x512_0_3584 w) (part 3584 inb_S1x4096_S1x512_0_3584 b))
  (put 3072 (k0_pay21 (mean Y z) (scale Y z) (col 3072 inb_S512x4096_S512x512_0_3072 Y) (part 3072 inb_S1x4096_S1x512_0_3072 w) (part 3072 inb_S1x4096_S1x512_0_3072 b))
  (put 2560 (k0_pay19 (mean Y z) (scale Y z) (col 2560 inb_S512x4096_S512x512_0_2560 Y) (part 2560 inb_S1x4096_S1x512_0_2560 w) (part 2560 inb_S1x4096_S1x512_0_2560 b))
  (put 2048 (k0_pay17 (mean Y z) (scale Y z) (col 2048 inb_S512x4096_S512x512_0_2048 Y) (part 2048 inb_S1x4096_S1x512_0_2048 w) (part 2048 inb_S1x4096_S1x512_0_2048 b))
  (put 1536 (k0_pay15 (mean Y z) (scale Y z) (col 1536 inb_S512x4096_S512x512_0_1536 Y) (part 1536 inb_S1x4096_S1x512_0_1536 w) (part 1536 inb_S1x4096_S1x512_0_1536 b))
  (put 1024 (k0_pay13 (mean Y z) (scale Y z) (col 1024 inb_S512x4096_S512x512_0_1024 Y) (part 1024 inb_S1x4096_S1x512_0_1024 w) (part 1024 inb_S1x4096_S1x512_0_1024 b))
  (put 512 (k0_pay11 (mean Y z) (scale Y z) (col 512 inb_S512x4096_S512x512_0_512 Y) (part 512 inb_S1x4096_S1x512_0_512 w) (part 512 inb_S1x4096_S1x512_0_512 b))
  (put 0 (first Y z w b) (put 3584 z Y))))))))

/-- What it leaves in the second output, which held `Y'`. -/
def rounded (Y' : Vec F S512x4096 .bf16) : Vec F S512x4096 .bf16 :=
  put 3584 (k0_pay3 (mean Y z) (scale Y z) z (part 3584 inb_S1x4096_S1x512_0_3584 w) (part 3584 inb_S1x4096_S1x512_0_3584 b))
  (put 3072 (k0_pay22 (mean Y z) (scale Y z) (col 3072 inb_S512x4096_S512x512_0_3072 Y) (part 3072 inb_S1x4096_S1x512_0_3072 w) (part 3072 inb_S1x4096_S1x512_0_3072 b))
  (put 2560 (k0_pay20 (mean Y z) (scale Y z) (col 2560 inb_S512x4096_S512x512_0_2560 Y) (part 2560 inb_S1x4096_S1x512_0_2560 w) (part 2560 inb_S1x4096_S1x512_0_2560 b))
  (put 2048 (k0_pay18 (k0_pay17 (mean Y z) (scale Y z) (col 2048 inb_S512x4096_S512x512_0_2048 Y) (part 2048 inb_S1x4096_S1x512_0_2048 w) (part 2048 inb_S1x4096_S1x512_0_2048 b)))
  (put 1536 (k0_pay16 (mean Y z) (scale Y z) (col 1536 inb_S512x4096_S512x512_0_1536 Y) (part 1536 inb_S1x4096_S1x512_0_1536 w) (part 1536 inb_S1x4096_S1x512_0_1536 b))
  (put 1024 (k0_pay14 (k0_pay13 (mean Y z) (scale Y z) (col 1024 inb_S512x4096_S512x512_0_1024 Y) (part 1024 inb_S1x4096_S1x512_0_1024 w) (part 1024 inb_S1x4096_S1x512_0_1024 b)))
  (put 512 (k0_pay12 (mean Y z) (scale Y z) (col 512 inb_S512x4096_S512x512_0_512 Y) (part 512 inb_S1x4096_S1x512_0_512 w) (part 512 inb_S1x4096_S1x512_0_512 b))
  (put 0 (k0_pay10 (first Y z w b)) Y')))))))

end Rows

theorem zero2 : (![0, 0] : Fin 2 → Nat) = fun _ => 0 := by
  funext a; fin_cases a <;> rfl

theorem ld_whole0 {e : EltTy} (X : Vec F S512x512 e) (h : ∀ a, (![0, 0] : Fin 2 → Nat) a + (![512, 512] : Fin 2 → Nat) a ≤ S512x512.size a) :
    View.ld X (Rect.unit (s := S512x512) ![0, 0] ![512, 512] h) = X := View.ld_unit_zero zero2 _ X

theorem ld_whole1 {e : EltTy} (X : Vec F S512x4096 e) (h : ∀ a, (![0, 0] : Fin 2 → Nat) a + (![512, 4096] : Fin 2 → Nat) a ≤ S512x4096.size a) :
    View.ld X (Rect.unit (s := S512x4096) ![0, 0] ![512, 4096] h) = X := View.ld_unit_zero zero2 _ X

theorem ld_whole2 {e : EltTy} (X : Vec F S4096x512 e) (h : ∀ a, (![0, 0] : Fin 2 → Nat) a + (![4096, 512] : Fin 2 → Nat) a ≤ S4096x512.size a) :
    View.ld X (Rect.unit (s := S4096x512) ![0, 0] ![4096, 512] h) = X := View.ld_unit_zero zero2 _ X

set_option maxHeartbeats 2000000 in
/-- The body at a grid point whose second coordinate is 0. -/
theorem run0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : ¬k0_cond1 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 0 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 0 _ _ _ _).trans (congrArg₂ (put 0) rfl (harg7.read_unread Y5))
  iexists _; isplitr; · ipureintro; exact harg8.read_unread _
  iexact H6

set_option maxHeartbeats 2000000 in
/-- The body at a grid point whose second coordinate is 1. -/
theorem run1 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : ¬k0_cond2 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 512 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 512 _ _ _ _).trans (congrArg₂ (put 512) rfl (harg7.read_unread Y5))
  iexists _; isplitr; · ipureintro; exact harg8.read_unread _
  iexact H6

set_option maxHeartbeats 2000000 in
/-- The body at a grid point whose second coordinate is 2. -/
theorem run2 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : ¬k0_cond3 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 1024 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 1024 _ _ _ _).trans (congrArg₂ (put 1024) rfl (harg7.read_unread Y5))
  iexists _; isplitr; · ipureintro; exact harg8.read_unread _
  iexact H6

set_option maxHeartbeats 2000000 in
/-- The body at a grid point whose second coordinate is 3. -/
theorem run3 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : k0_cond3 i = 1#1) (hc4 : ¬k0_cond4 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 1536 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc4 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 1536 _ _ _ _).trans (congrArg₂ (put 1536) rfl (harg7.read_unread Y5))
  iexists _; isplitr; · ipureintro; exact harg8.read_unread _
  iexact H6

set_option maxHeartbeats 2000000 in
/-- The body at a grid point whose second coordinate is 4. -/
theorem run4 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : k0_cond3 i = 1#1) (hc4 : k0_cond4 i = 1#1) (hc5 : ¬k0_cond5 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 2048 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc4 | sl_exact hc5 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 2048 _ _ _ _).trans (congrArg₂ (put 2048) rfl (harg7.read_unread Y5))
  iexists _; isplitr; · ipureintro; exact harg8.read_unread _
  iexact H6

set_option maxHeartbeats 2000000 in
/-- The body at a grid point whose second coordinate is 5. -/
theorem run5 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : k0_cond3 i = 1#1) (hc4 : k0_cond4 i = 1#1) (hc5 : k0_cond5 i = 1#1) (hc6 : ¬k0_cond6 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 2560 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc4 | sl_exact hc5 | sl_exact hc6 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 2560 _ _ _ _).trans (congrArg₂ (put 2560) rfl (harg7.read_unread Y5))
  iexists _; isplitr; · ipureintro; exact harg8.read_unread _
  iexact H6

set_option maxHeartbeats 2000000 in
/-- The body at a grid point whose second coordinate is 6. -/
theorem run6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : k0_cond3 i = 1#1) (hc4 : k0_cond4 i = 1#1) (hc5 : k0_cond5 i = 1#1) (hc6 : k0_cond6 i = 1#1) (hc7 : ¬k0_cond7 i = 1#1) (hc8 : ¬k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put 3072 (k0_pay1 x2 x0 x1) Y5) ∗ owns (c : Thread nD τ) arg8 fullShare Y6) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    simp only [View.readAt_eq_ld, harg2.read_unread, harg3.read_unread, harg4.read_unread, harg7.read_unread, ld_whole0, ld_whole1, ld_whole2]
    exact (read_put 3072 _ _ _ _).trans (congrArg₂ (put 3072) rfl (harg7.read_unread Y5))
  iexists _; isplitr; · ipureintro; exact harg8.read_unread _
  iexact H6

set_option maxHeartbeats 2000000 in
/-- The body at a grid point whose second coordinate is 7. -/
theorem run7 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc1 : k0_cond1 i = 1#1) (hc2 : k0_cond2 i = 1#1) (hc3 : k0_cond3 i = 1#1) (hc4 : k0_cond4 i = 1#1) (hc5 : k0_cond5 i = 1#1) (hc6 : k0_cond6 i = 1#1) (hc7 : k0_cond7 i = 1#1) (hc8 : k0_cond8 i = 1#1)
    (x0 : Vec F S512x4096 .bf16) (x1 : Vec F S4096x512 .bf16) (x2 : Vec F S512x512 .f32) (x3 x4 : Vec F S1x4096 .f32) (Y5 : Vec F S512x4096 .f32) (Y6 : Vec F S512x4096 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y5 ∗ owns (c : Thread nD τ) arg8 fullShare Y6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (normed Y5 (k0_pay1 x2 x0 x1) x3 x4) ∗ owns (c : Thread nD τ) arg8 fullShare (rounded Y5 (k0_pay1 x2 x0 x1) x3 x4 Y6)) -∗ K ⟨⟩))
      ⊢ wp frame (wpE (defs₀ (F := F)) Variants.none c none) E (cc0_outln i arg2 harg2 arg3 harg3 arg4 harg4 arg5 harg5 arg6 harg6 arg7 harg7 arg8 harg8) K := by
  simp only [cc0_outln_eq_skeleton]; unfold cc0_outln_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec (disch := first | sl_exact hc1 | sl_exact hc2 | sl_exact hc3 | sl_exact hc4 | sl_exact hc5 | sl_exact hc6 | sl_exact hc7 | sl_exact hc8)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    simp only [View.readAt_eq_ld, harg2.read_unread, harg3.read_unread, harg4.read_unread, harg5.read_unread, harg6.read_unread, harg7.read_unread, readCov_hit, readCov_miss, readCov_hit', readCov_miss', ld_whole0, ld_whole1, ld_whole2]
    unfold normed
    refine (read_put 3584 _ _ _ _).trans (congrArg₂ (put 3584) (congrArg (fun u => k0_pay2 (mean Y5 (k0_pay1 x2 x0 x1)) (scale Y5 (k0_pay1 x2 x0 x1)) u (part 3584 inb_S1x4096_S1x512_0_3584 x3) (part 3584 inb_S1x4096_S1x512_0_3584 x4)) <| (readCov_miss arg7 3072 3584 _ _ _ _ (by omega)).trans <| (readCov_miss arg7 2560 3584 _ _ _ _ (by omega)).trans <| (readCov_miss arg7 2048 3584 _ _ _ _ (by omega)).trans <| (readCov_miss arg7 1536 3584 _ _ _ _ (by omega)).trans <| (readCov_miss arg7 1024 3584 _ _ _ _ (by omega)).trans <| (readCov_miss arg7 512 3584 _ _ _ _ (by omega)).trans <| (readCov_miss arg7 0 3584 _ _ _ _ (by omega)).trans <| readCov_hit arg7 3584 _ _ _) ?_)
    refine (read_put 3072 _ _ _ _).trans (congrArg₂ (put 3072) rfl ?_)
    refine (read_put 2560 _ _ _ _).trans (congrArg₂ (put 2560) rfl ?_)
    refine (read_put 2048 _ _ _ _).trans (congrArg₂ (put 2048) rfl ?_)
    refine (read_put 1536 _ _ _ _).trans (congrArg₂ (put 1536) rfl ?_)
    refine (read_put 1024 _ _ _ _).trans (congrArg₂ (put 1024) rfl ?_)
    refine (read_put 512 _ _ _ _).trans (congrArg₂ (put 512) rfl ?_)
    refine (read_put 0 _ _ _ _).trans (congrArg₂ (put 0) rfl ?_)
    refine (read_put 3584 _ _ _ _).trans (congrArg₂ (put 3584) rfl ?_)
    exact harg7.read_unread Y5
  iexists _; isplitr; swap; · iexact H6
  ipureintro
  sl_unfold_words
  simp only [View.readAt_eq_ld, harg2.read_unread, harg3.read_unread, harg4.read_unread, harg5.read_unread, harg6.read_unread, harg7.read_unread, readCov_hit, readCov_miss, readCov_hit', readCov_miss', ld_whole0, ld_whole1, ld_whole2]
  unfold rounded
  refine (read_put 3584 _ _ _ _).trans (congrArg₂ (put 3584) (congrArg (fun u => k0_pay3 (mean Y5 (k0_pay1 x2 x0 x1)) (scale Y5 (k0_pay1 x2 x0 x1)) u (part 3584 inb_S1x4096_S1x512_0_3584 x3) (part 3584 inb_S1x4096_S1x512_0_3584 x4)) <| (readCov_miss arg7 3072 3584 _ _ _ _ (by omega)).trans <| (readCov_miss arg7 2560 3584 _ _ _ _ (by omega)).trans <| (readCov_miss arg7 2048 3584 _ _ _ _ (by omega)).trans <| (readCov_miss arg7 1536 3584 _ _ _ _ (by omega)).trans <| (readCov_miss arg7 1024 3584 _ _ _ _ (by omega)).trans <| (readCov_miss arg7 512 3584 _ _ _ _ (by omega)).trans <| (readCov_miss arg7 0 3584 _ _ _ _ (by omega)).trans <| readCov_hit arg7 3584 _ _ _) ?_)
  refine (read_put 3072 _ _ _ _).trans (congrArg₂ (put 3072) rfl ?_)
  refine (read_put 2560 _ _ _ _).trans (congrArg₂ (put 2560) rfl ?_)
  refine (read_put 2048 _ _ _ _).trans (congrArg₂ (put 2048) rfl ?_)
  refine (read_put 1536 _ _ _ _).trans (congrArg₂ (put 1536) rfl ?_)
  refine (read_put 1024 _ _ _ _).trans (congrArg₂ (put 1024) rfl ?_)
  refine (read_put 512 _ _ _ _).trans (congrArg₂ (put 512) rfl ?_)
  refine (read_put 0 _ _ _ _).trans (congrArg₂ (put 0) rfl ?_)
  exact harg8.read_unread Y6

end Cert.Kernel5Ideal.Hand

end
-- ==== Proof.OutBody.lean ====
module

public import proofs.«01_k».proof.Proof.OutRuns
public import Idealize.ShloMosaic.Lib.Pipeline.Frame
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

theorem cond1_at (t : Fin cfg0.N) : k0_cond1 (grid0.coords t) = 1#1 ↔ t.val % 8 ≠ 0 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond1, e]
  revert hn
  generalize t.val % 8 = n
  revert n
  decide

theorem cond2_at (t : Fin cfg0.N) : k0_cond2 (grid0.coords t) = 1#1 ↔ t.val % 8 ≠ 1 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond2, e]
  revert hn
  generalize t.val % 8 = n
  revert n
  decide

theorem cond3_at (t : Fin cfg0.N) : k0_cond3 (grid0.coords t) = 1#1 ↔ t.val % 8 ≠ 2 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond3, e]
  revert hn
  generalize t.val % 8 = n
  revert n
  decide

theorem cond4_at (t : Fin cfg0.N) : k0_cond4 (grid0.coords t) = 1#1 ↔ t.val % 8 ≠ 3 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond4, e]
  revert hn
  generalize t.val % 8 = n
  revert n
  decide

theorem cond5_at (t : Fin cfg0.N) : k0_cond5 (grid0.coords t) = 1#1 ↔ t.val % 8 ≠ 4 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond5, e]
  revert hn
  generalize t.val % 8 = n
  revert n
  decide

theorem cond6_at (t : Fin cfg0.N) : k0_cond6 (grid0.coords t) = 1#1 ↔ t.val % 8 ≠ 5 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond6, e]
  revert hn
  generalize t.val % 8 = n
  revert n
  decide

theorem cond7_at (t : Fin cfg0.N) : k0_cond7 (grid0.coords t) = 1#1 ↔ t.val % 8 ≠ 6 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond7, e]
  revert hn
  generalize t.val % 8 = n
  revert n
  decide

theorem cond8_at (t : Fin cfg0.N) : k0_cond8 (grid0.coords t) = 1#1 ↔ t.val % 8 = 7 := by
  have e1 : (grid0.coords t 1).val = t.val / 1 % 8 := Pipeline.Grid.coords_val t 1 (by decide) rfl
  have e : (grid0.coords t 1).val = t.val % 8 := by rw [e1, Nat.div_one]
  have hn : t.val % 8 < 8 := Nat.mod_lt _ (by omega)
  simp only [k0_cond8, e]
  revert hn
  generalize t.val % 8 = n
  revert n
  decide

/-- What the body leaves in the first output at a row block's point `j`: one more column block of sums, and at the last point
    the normed rows. -/
def left5 (j : Nat) (Y : Vec F S512x4096 .f32) (z : Vec F S512x512 .f32) (w b : Vec F S1x4096 .f32) : Vec F S512x4096 .f32 :=
  if j = 7 then normed Y z w b else put (512 * j) z Y

/-- What it leaves in the second output: nothing new until the last point. -/
def left6 (j : Nat) (Y : Vec F S512x4096 .f32) (z : Vec F S512x512 .f32) (w b : Vec F S1x4096 .f32) (Y' : Vec F S512x4096 .bf16) :
    Vec F S512x4096 .bf16 := if j = 7 then rounded Y z w b Y' else Y'

theorem left5_0 (Y : Vec F S512x4096 .f32) (z : Vec F S512x512 .f32) (w b : Vec F S1x4096 .f32) : left5 0 Y z w b = put 0 z Y := if_neg (by decide)

theorem left6_0 (Y : Vec F S512x4096 .f32) (z : Vec F S512x512 .f32) (w b : Vec F S1x4096 .f32) (Y' : Vec F S512x4096 .bf16) : left6 0 Y z w b Y' = Y' := if_neg (by decide)

theorem left5_1 (Y : Vec F S512x4096 .f32) (z : Vec F S512x512 .f32) (w b : Vec F S1x4096 .f32) : left5 1 Y z w b = put 512 z Y := if_neg (by decide)

theorem left6_1 (Y : Vec F S512x4096 .f32) (z : Vec F S512x512 .f32) (w b : Vec F S1x4096 .f32) (Y' : Vec F S512x4096 .bf16) : left6 1 Y z w b Y' = Y' := if_neg (by decide)

theorem left5_2 (Y : Vec F S512x4096 .f32) (z : Vec F S512x512 .f32) (w b : Vec F S1x4096 .f32) : left5 2 Y z w b = put 1024 z Y := if_neg (by decide)

theorem left6_2 (Y : Vec F S512x4096 .f32) (z : Vec F S512x512 .f32) (w b : Vec F S1x4096 .f32) (Y' : Vec F S512x4096 .bf16) : left6 2 Y z w b Y' = Y' := if_neg (by decide)

theorem left5_3 (Y : Vec F S512x4096 .f32) (z : Vec F S512x512 .f32) (w b : Vec F S1x4096 .f32) : left5 3 Y z w b = put 1536 z Y := if_neg (by decide)

theorem left6_3 (Y : Vec F S512x4096 .f32) (z : Vec F S512x512 .f32) (w b : Vec F S1x4096 .f32) (Y' : Vec F S512x4096 .bf16) : left6 3 Y z w b Y' = Y' := if_neg (by decide)

theorem left5_4 (Y : Vec F S512x4096 .f32) (z : Vec F S512x512 .f32) (w b : Vec F S1x4096 .f32) : left5 4 Y z w b = put 2048 z Y := if_neg (by decide)

theorem left6_4 (Y : Vec F S512x4096 .f32) (z : Vec F S512x512 .f32) (w b : Vec F S1x4096 .f32) (Y' : Vec F S512x4096 .bf16) : left6 4 Y z w b Y' = Y' := if_neg (by decide)

theorem left5_5 (Y : Vec F S512x4096 .f32) (z : Vec F S512x512 .f32) (w b : Vec F S1x4096 .f32) : left5 5 Y z w b = put 2560 z Y := if_neg (by decide)

theorem left6_5 (Y : Vec F S512x4096 .f32) (z : Vec F S512x512 .f32) (w b : Vec F S1x4096 .f32) (Y' : Vec F S512x4096 .bf16) : left6 5 Y z w b Y' = Y' := if_neg (by decide)

theorem left5_6 (Y : Vec F S512x4096 .f32) (z : Vec F S512x512 .f32) (w b : Vec F S1x4096 .f32) : left5 6 Y z w b = put 3072 z Y := if_neg (by decide)

theorem left6_6 (Y : Vec F S512x4096 .f32) (z : Vec F S512x512 .f32) (w b : Vec F S1x4096 .f32) (Y' : Vec F S512x4096 .bf16) : left6 6 Y z w b Y' = Y' := if_neg (by decide)

theorem left5_7 (Y : Vec F S512x4096 .f32) (z : Vec F S512x512 .f32) (w b : Vec F S1x4096 .f32) : left5 7 Y z w b = normed Y z w b := if_pos rfl

theorem left6_7 (Y : Vec F S512x4096 .f32) (z : Vec F S512x512 .f32) (w b : Vec F S1x4096 .f32) (Y' : Vec F S512x4096 .bf16) : left6 7 Y z w b Y' = rounded Y z w b Y' := if_pos rfl

set_option maxHeartbeats 1000000 in
/-- The body at a grid point. -/
theorem run_at (c : Dev nD) (t : Fin cfg0.N) (x0 : Vec F S512x4096 .bf16) (x1 : Vec F S4096x512 .bf16) (x2 : Vec F S512x512 .f32)
    (x3 x4 : Vec F S1x4096 .f32) (Y5 : Vec F S512x4096 .f32) (Y6 : Vec F S512x4096 .bf16) (K : PUnit → sProp (MT nD τ sig Unit (Elt F) ℕ (UR sig nD τ) ℕ)) :
    iprop(owns (c : Thread nD τ) (win0_0.stage (cfg0.slots t 0)) fullShare x0 ∗ owns (c : Thread nD τ) (win0_1.stage (cfg0.slots t 1)) fullShare x1 ∗ owns (c : Thread nD τ) (win0_2.stage (cfg0.slots t 2)) fullShare x2 ∗ owns (c : Thread nD τ) (win0_3.stage (cfg0.slots t 3)) fullShare x3 ∗ owns (c : Thread nD τ) (win0_4.stage (cfg0.slots t 4)) fullShare x4 ∗ owns (c : Thread nD τ) (win0_5.stage (cfg0.slots t 5)) fullShare Y5 ∗ owns (c : Thread nD τ) (win0_6.stage (cfg0.slots t 6)) fullShare Y6
        ∗ (iprop(owns (c : Thread nD τ) (win0_0.stage (cfg0.slots t 0)) fullShare x0 ∗ owns (c : Thread nD τ) (win0_1.stage (cfg0.slots t 1)) fullShare x1 ∗ owns (c : Thread nD τ) (win0_2.stage (cfg0.slots t 2)) fullShare x2 ∗ owns (c : Thread nD τ) (win0_3.stage (cfg0.slots t 3)) fullShare x3 ∗ owns (c : Thread nD τ) (win0_4.stage (cfg0.slots t 4)) fullShare x4 ∗ owns (c : Thread nD τ) (win0_5.stage (cfg0.slots t 5)) fullShare (left5 (t.val % 8) Y5 (k0_pay1 x2 x0 x1) x3 x4) ∗ owns (c : Thread nD τ) (win0_6.stage (cfg0.slots t 6)) fullShare (left6 (t.val % 8) Y5 (k0_pay1 x2 x0 x1) x3 x4 Y6)) -∗ K ⟨⟩))
      ⊢ wp frame (wpE (defs₀ (F := F)) Variants.none c none) Set.univ (bodyAt0 t) K := by
  have hlt : t.val % 8 < 8 := Nat.mod_lt _ (by omega)
  unfold bodyAt0
  obtain h0 | h1 | h2 | h3 | h4 | h5 | h6 | h7 : t.val % 8 = 0 ∨ t.val % 8 = 1 ∨ t.val % 8 = 2 ∨ t.val % 8 = 3 ∨ t.val % 8 = 4 ∨ t.val % 8 = 5 ∨ t.val % 8 = 6 ∨ t.val % 8 = 7 := by omega
  · rw [h0]
    rw [left5_0, left6_0]
    exact run0 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) (fun h => absurd ((cond1_at t).mp h) (by omega)) (fun h => absurd ((cond8_at t).mp h) (by omega)) x0 x1 x2 x3 x4 Y5 Y6 Set.univ K
  · rw [h1]
    rw [left5_1, left6_1]
    exact run1 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) (fun h => absurd ((cond2_at t).mp h) (by omega)) (fun h => absurd ((cond8_at t).mp h) (by omega)) x0 x1 x2 x3 x4 Y5 Y6 Set.univ K
  · rw [h2]
    rw [left5_2, left6_2]
    exact run2 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) (fun h => absurd ((cond3_at t).mp h) (by omega)) (fun h => absurd ((cond8_at t).mp h) (by omega)) x0 x1 x2 x3 x4 Y5 Y6 Set.univ K
  · rw [h3]
    rw [left5_3, left6_3]
    exact run3 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) ((cond3_at t).mpr (by omega)) (fun h => absurd ((cond4_at t).mp h) (by omega)) (fun h => absurd ((cond8_at t).mp h) (by omega)) x0 x1 x2 x3 x4 Y5 Y6 Set.univ K
  · rw [h4]
    rw [left5_4, left6_4]
    exact run4 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) ((cond3_at t).mpr (by omega)) ((cond4_at t).mpr (by omega)) (fun h => absurd ((cond5_at t).mp h) (by omega)) (fun h => absurd ((cond8_at t).mp h) (by omega)) x0 x1 x2 x3 x4 Y5 Y6 Set.univ K
  · rw [h5]
    rw [left5_5, left6_5]
    exact run5 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) ((cond3_at t).mpr (by omega)) ((cond4_at t).mpr (by omega)) ((cond5_at t).mpr (by omega)) (fun h => absurd ((cond6_at t).mp h) (by omega)) (fun h => absurd ((cond8_at t).mp h) (by omega)) x0 x1 x2 x3 x4 Y5 Y6 Set.univ K
  · rw [h6]
    rw [left5_6, left6_6]
    exact run6 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) ((cond3_at t).mpr (by omega)) ((cond4_at t).mpr (by omega)) ((cond5_at t).mpr (by omega)) ((cond6_at t).mpr (by omega)) (fun h => absurd ((cond7_at t).mp h) (by omega)) (fun h => absurd ((cond8_at t).mp h) (by omega)) x0 x1 x2 x3 x4 Y5 Y6 Set.univ K
  · rw [h7]
    rw [left5_7, left6_7]
    exact run7 c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) ((cond1_at t).mpr (by omega)) ((cond2_at t).mpr (by omega)) ((cond3_at t).mpr (by omega)) ((cond4_at t).mpr (by omega)) ((cond5_at t).mpr (by omega)) ((cond6_at t).mpr (by omega)) ((cond7_at t).mpr (by omega)) ((cond8_at t).mpr (by omega)) x0 x1 x2 x3 x4 Y5 Y6 Set.univ K

variable (m : (ℓ : Loc nD τ sig) → Buf (Elt F) ℓ) (ρ : Dev nD → PrngReg)

/-- The new column block of sums at grid point `t`. -/
def sums (c : Dev nD) (t : Fin cfg0.N) : Vec F S512x512 .f32 := k0_pay1 (iblk m c 2 t) (iblk m c 0 t) (iblk m c 1 t)

/-- Proof data that name the input windows' contents: the body leaves an input's block as it is. -/
def named (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => Dat.unnamed (cfg := cfg0) 5 t | 6 => Dat.unnamed (cfg := cfg0) 6 t
  Φ _ := Pipeline.ΦA spec0 c
  q _ := fullShare
  owed _ := 0

/-- The first output: what the body leaves there is what it found with this point's columns put in. -/
def first5 (c : Dev nD) (t : Fin cfg0.N) (Y X : Vec F S512x4096 .f32) : Prop :=
  X = left5 (t.val % 8) Y (sums m c t) (iblk m c 3 t) (iblk m c 4 t)

/-- The data with the first output's contents related from point to point. -/
def rel5 (c : Dev nD) : RDat τ (Elt F) Unit ℕ (UR sig nD τ) ℕ cfg0 c :=
  (named m c).toR.override fun w => match w with
    | 0 => none | 1 => none | 2 => none | 3 => none | 4 => none | 5 => some (first5 m c) | 6 => none

/-- The second output: at a row block's last point the rounding of what the first output's contents give. -/
def second6 (c : Dev nD) (t : Fin cfg0.N) (Y X : Vec F S512x4096 .bf16) : Prop :=
  ∃ Y5 : Vec F S512x4096 .f32, (rel5 m c).Finds 5 t Y5
    ∧ X = left6 (t.val % 8) Y5 (sums m c t) (iblk m c 3 t) (iblk m c 4 t) Y

/-- The data with both outputs related. -/
def rel (c : Dev nD) : RDat τ (Elt F) Unit ℕ (UR sig nD τ) ℕ cfg0 c :=
  (rel5 m c).override fun w => match w with
    | 0 => none | 1 => none | 2 => none | 3 => none | 4 => none | 5 => none | 6 => some (second6 m c)

theorem rel_A (c : Dev nD) (w : Fin cfg0.W) : (rel m c).A w = V m c (Pipeline.arrRef spec0 w) := rfl

theorem finds0 (c : Dev nD) (t : Fin cfg0.N) (Y) (h : (rel m c).Finds 0 t Y) : Y = iblk m c 0 t := by
  obtain ⟨d, hd⟩ := (named m c).toR_finds 0 t Y (((named m c).toR.override_finds rfl t Y).mp (((rel5 m c).override_finds rfl t Y).mp h))
  rw [hd]; exact before0_0_of m (named m c) rfl (fun _ => rfl) t d

theorem after0 (c : Dev nD) (t : Fin cfg0.N) (Y) : (rel m c).after 0 t Y (iblk m c 0 t) := rfl

theorem finds1 (c : Dev nD) (t : Fin cfg0.N) (Y) (h : (rel m c).Finds 1 t Y) : Y = iblk m c 1 t := by
  obtain ⟨d, hd⟩ := (named m c).toR_finds 1 t Y (((named m c).toR.override_finds rfl t Y).mp (((rel5 m c).override_finds rfl t Y).mp h))
  rw [hd]; exact before0_1_of m (named m c) rfl (fun _ => rfl) t d

theorem after1 (c : Dev nD) (t : Fin cfg0.N) (Y) : (rel m c).after 1 t Y (iblk m c 1 t) := rfl

theorem finds2 (c : Dev nD) (t : Fin cfg0.N) (Y) (h : (rel m c).Finds 2 t Y) : Y = iblk m c 2 t := by
  obtain ⟨d, hd⟩ := (named m c).toR_finds 2 t Y (((named m c).toR.override_finds rfl t Y).mp (((rel5 m c).override_finds rfl t Y).mp h))
  rw [hd]; exact before0_2_of m (named m c) rfl (fun _ => rfl) t d

theorem after2 (c : Dev nD) (t : Fin cfg0.N) (Y) : (rel m c).after 2 t Y (iblk m c 2 t) := rfl

theorem finds3 (c : Dev nD) (t : Fin cfg0.N) (Y) (h : (rel m c).Finds 3 t Y) : Y = iblk m c 3 t := by
  obtain ⟨d, hd⟩ := (named m c).toR_finds 3 t Y (((named m c).toR.override_finds rfl t Y).mp (((rel5 m c).override_finds rfl t Y).mp h))
  rw [hd]; exact before0_3_of m (named m c) rfl (fun _ => rfl) t d

theorem after3 (c : Dev nD) (t : Fin cfg0.N) (Y) : (rel m c).after 3 t Y (iblk m c 3 t) := rfl

theorem finds4 (c : Dev nD) (t : Fin cfg0.N) (Y) (h : (rel m c).Finds 4 t Y) : Y = iblk m c 4 t := by
  obtain ⟨d, hd⟩ := (named m c).toR_finds 4 t Y (((named m c).toR.override_finds rfl t Y).mp (((rel5 m c).override_finds rfl t Y).mp h))
  rw [hd]; exact before0_4_of m (named m c) rfl (fun _ => rfl) t d

theorem after4 (c : Dev nD) (t : Fin cfg0.N) (Y) : (rel m c).after 4 t Y (iblk m c 4 t) := rfl

theorem sound_body (c : Dev nD) (t : Fin cfg0.N) (Y : (w : Fin cfg0.W) → (cfg0.win w).block.Idx → Elt F (cfg0.win w).elt)
    (hY : ∀ w, (rel m c).Finds w t (Y w)) :
    iprop((rel m c).Φ t.castSucc ∗ (rel m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6))
      ⊢ wp frame (wpE (defs₀ (F := F)) Variants.none c none) Set.univ (bodyAt0 t) fun _ =>
        iprop((rel m c).Φ t.succ ∗ (rel m c).owesAt () t.succ ∗ (∃ X, ⌜(rel m c).after 0 t (Y 0) X⌝ ∗ owns (c : Thread nD τ) (win0_0.stage (cfg0.slots t 0)) fullShare X) ∗ (∃ X, ⌜(rel m c).after 1 t (Y 1) X⌝ ∗ owns (c : Thread nD τ) (win0_1.stage (cfg0.slots t 1)) fullShare X) ∗ (∃ X, ⌜(rel m c).after 2 t (Y 2) X⌝ ∗ owns (c : Thread nD τ) (win0_2.stage (cfg0.slots t 2)) fullShare X) ∗ (∃ X, ⌜(rel m c).after 3 t (Y 3) X⌝ ∗ owns (c : Thread nD τ) (win0_3.stage (cfg0.slots t 3)) fullShare X) ∗ (∃ X, ⌜(rel m c).after 4 t (Y 4) X⌝ ∗ owns (c : Thread nD τ) (win0_4.stage (cfg0.slots t 4)) fullShare X) ∗ (∃ X, ⌜(rel m c).after 5 t (Y 5) X⌝ ∗ owns (c : Thread nD τ) (win0_5.stage (cfg0.slots t 5)) fullShare X) ∗ (∃ X, ⌜(rel m c).after 6 t (Y 6) X⌝ ∗ owns (c : Thread nD τ) (win0_6.stage (cfg0.slots t 6)) fullShare X)) := by
  rw [show (rel m c).Φ t.succ = (rel m c).Φ t.castSucc from rfl,
    show (rel m c).owesAt () t.succ = (rel m c).owesAt () t.castSucc from rfl,
    finds0 m c t (Y 0) (hY 0), finds1 m c t (Y 1) (hY 1), finds2 m c t (Y 2) (hY 2), finds3 m c t (Y 3) (hY 3), finds4 m c t (Y 4) (hY 4)]
  iintro ⟨HΦ, HO, H0, H1, H2, H3, H4, H5, H6⟩
  iapply (run_at c t (iblk m c 0 t) (iblk m c 1 t) (iblk m c 2 t) (iblk m c 3 t) (iblk m c 4 t) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [HO]; · iexact HO
  isplitl [H0]
  · iexists (iblk m c 0 t); isplitr; · ipureintro; exact after0 m c t _
    iexact H0
  isplitl [H1]
  · iexists (iblk m c 1 t); isplitr; · ipureintro; exact after1 m c t _
    iexact H1
  isplitl [H2]
  · iexists (iblk m c 2 t); isplitr; · ipureintro; exact after2 m c t _
    iexact H2
  isplitl [H3]
  · iexists (iblk m c 3 t); isplitr; · ipureintro; exact after3 m c t _
    iexact H3
  isplitl [H4]
  · iexists (iblk m c 4 t); isplitr; · ipureintro; exact after4 m c t _
    iexact H4
  isplitl [H5]
  · iexists _; isplitr; swap; · iexact H5
    ipureintro
    rfl
  iexists _; isplitr; swap; · iexact H6
  ipureintro
  exact ⟨Y 5, ((rel5 m c).override_finds rfl t (Y 5)).mp (hY 5), rfl⟩

/-- The body table's row at the point is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rel m c).BodyObligation (defs₀ (F := F)) Variants.none () Set.univ := fun t Y hY => by
  rw [bigSep_W0, bigSep_W0, defs₀_row]
  exact sound_body m c t Y hY

set_option backward.isDefEq.respectTransparency.types false in
/-- Every run ends, every semaphore at zero, the arrays as the related data say. -/
theorem run_main :
    θ_run defs (onTc (τ := τ) (main (F := F))) (s₀ m ρ)
      (fun r => RDat.FramePost (cfgs 0) (fun c => rel m c) (V m) r ∧ r.2.sem = fun _ => 0) :=
  RDat.θ_run_frame (Q' := _) cfgs (0 : Fin 1) launch0 defs₀ Variants.none (fun c => rel m c) m ρ main
    (hbody := fun c => body_obligation m c) (hshare := fun c => (named m c).share_full fun _ => rfl)
    (howed := fun _ _ => rfl) (V := V m) (hmain := hmain m Variants.none) (hA := rel_A m) (hΦ := fun _ _ => rfl)

variable {m ρ}

/-- What a run leaves in the arguments' buffers. -/
theorem args_of {r : PUnit × MemSt nD τ sig (Elt F)} (h : RDat.FramePost (cfgs 0) (fun c => rel m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(show _ = _ from Eq.mp (congrFun ((rel m c).ArrAt_in 0 rfl cfg0.N) _) ((h c).1 0)).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel5Ideal.Hand

end
-- ==== Proof.OutBlocks.lean ====
module

public import proofs.«01_k».proof.Proof.OutBody
public import proofs.«01_k».proof.Proof.NormBlocks
public import proofs.«01_k».proof.Proof.Gen.Reference5Ideal.Run
public import proofs.«01_k».proof.Proof.Gen.Reference5Ideal
public import Idealize.ShloMosaic.Lib.Pipeline.ArrRel

@[expose] public section

set_option maxRecDepth 16384

noncomputable section

namespace Cert.Kernel5Ideal.Rows

open Idealize.ShloMosaic Idealize.ShloMosaic.TcCoe Cert.Kernel5Ideal Cert.Kernel5Ideal.Gen Cert.Kernel5Ideal.Hand

/-- A sum over 4096 channels as the sum of its eight blocks of 512. -/
theorem sum8 (f : Fin 4096 → EReal) : ∑ k : Fin 4096, f k
    = (∑ d : Fin 512, f ⟨0 + d.val, by omega⟩) + (∑ d : Fin 512, f ⟨512 + d.val, by omega⟩) + (∑ d : Fin 512, f ⟨1024 + d.val, by omega⟩)
      + (∑ d : Fin 512, f ⟨1536 + d.val, by omega⟩) + (∑ d : Fin 512, f ⟨2048 + d.val, by omega⟩) + (∑ d : Fin 512, f ⟨2560 + d.val, by omega⟩)
      + (∑ d : Fin 512, f ⟨3072 + d.val, by omega⟩) + (∑ d : Fin 512, f ⟨3584 + d.val, by omega⟩) := by
  have h (n : Nat) (hn : n + 512 ≤ 4096) : ∑ k : Fin (n + 512), f ⟨k.val, by omega⟩
      = (∑ k : Fin n, f ⟨k.val, by omega⟩) + ∑ d : Fin 512, f ⟨n + d.val, by omega⟩ :=
    Fin.sum_univ_add (a := n) (b := 512) fun k => f ⟨k.val, by omega⟩
  refine (h 3584 (by omega)).trans (congrArg₂ (· + ·) ?_ rfl)
  refine (h 3072 (by omega)).trans (congrArg₂ (· + ·) ?_ rfl)
  refine (h 2560 (by omega)).trans (congrArg₂ (· + ·) ?_ rfl)
  refine (h 2048 (by omega)).trans (congrArg₂ (· + ·) ?_ rfl)
  refine (h 1536 (by omega)).trans (congrArg₂ (· + ·) ?_ rfl)
  refine (h 1024 (by omega)).trans (congrArg₂ (· + ·) ?_ rfl)
  refine (h 512 (by omega)).trans (congrArg₂ (· + ·) ?_ rfl)
  exact Finset.sum_congr rfl fun d _ => congrArg f (Fin.ext (Nat.zero_add _).symm)

theorem mean8 (f : Fin 4096 → EReal) : Cert.Norm.mean f = Ideal.div
    ((∑ d : Fin 512, f ⟨0 + d.val, by omega⟩) + (∑ d : Fin 512, f ⟨512 + d.val, by omega⟩) + (∑ d : Fin 512, f ⟨1024 + d.val, by omega⟩)
      + (∑ d : Fin 512, f ⟨1536 + d.val, by omega⟩) + (∑ d : Fin 512, f ⟨2048 + d.val, by omega⟩) + (∑ d : Fin 512, f ⟨2560 + d.val, by omega⟩)
      + (∑ d : Fin 512, f ⟨3072 + d.val, by omega⟩) + (∑ d : Fin 512, f ⟨3584 + d.val, by omega⟩)) (Ideal.ofBits .f32 0x45800000#32) :=
  congrArg (fun s => Ideal.div s (Ideal.ofBits .f32 0x45800000#32)) (sum8 f)

theorem put_hit {e : EltTy} (o : Nat) (z : Vec Ideal S512x512 e) (Y : Vec Ideal S512x4096 e) (i d : Fin 512) (h : o + d.val < 4096) :
    put o z Y (ix2 i ⟨o + d.val, h⟩) = z (ix2 i d) := by
  have hy : o ≤ ((ix2 i ⟨o + d.val, h⟩ : S512x4096.Idx) 1).val ∧ ((ix2 i ⟨o + d.val, h⟩ : S512x4096.Idx) 1).val < o + 512 := by
    show o ≤ o + d.val ∧ o + d.val < o + 512
    omega
  refine (dif_pos hy).trans (congrArg z ?_)
  funext a
  apply Fin.ext
  match a with
  | ⟨0, _⟩ => rfl
  | ⟨1, _⟩ => show o + d.val - o = d.val; omega

theorem put_miss {e : EltTy} (o : Nat) (z : Vec Ideal S512x512 e) (Y : Vec Ideal S512x4096 e) (i : Fin 512) (k : Fin 4096)
    (h : k.val < o ∨ o + 512 ≤ k.val) : put o z Y (ix2 i k) = Y (ix2 i k) := by
  refine dif_neg ?_
  show ¬(o ≤ k.val ∧ k.val < o + 512)
  omega

theorem col_apply (o : Nat) (h) (Y : Vec Ideal S512x4096 .f32) (i d : Fin 512) (hd : o + d.val < 4096) :
    col o h Y (ix2 i d) = Y (ix2 i ⟨o + d.val, hd⟩) := by
  refine congrArg Y ?_
  funext a
  apply Fin.ext
  match a with
  | ⟨0, _⟩ => show 0 + 1 * i.val = i.val; omega
  | ⟨1, _⟩ => show o + 1 * d.val = o + d.val; omega

theorem part_apply (o : Nat) (h) (w : Vec Ideal S1x4096 .f32) (d : Fin 512) (hd : o + d.val < 4096) :
    part o h w (ix2 0 d) = w (ix2 0 ⟨o + d.val, hd⟩) := by
  refine congrArg w ?_
  funext a
  apply Fin.ext
  match a with
  | ⟨0, _⟩ => rfl
  | ⟨1, _⟩ => show o + 1 * d.val = o + d.val; omega

theorem pay1_apply (x : Vec Ideal S512x512 .f32) (a : Vec Ideal S512x4096 .bf16) (w : Vec Ideal S4096x512 .bf16) (i d : Fin 512) :
    k0_pay1 x a w (ix2 i d) = Ideal.ofBits .f32 0x3F9837F0#32 * x (ix2 i d) + ∑ l : Fin 4096, a (ix2 i l) * w (ix2 l d) := by
  pointwise [k0_pay1]

theorem pay46_apply (c0 c1 c2 c3 c4 c5 c6 c7 : Vec Ideal S512x512 .f32) (i : Fin 512) :
    k0_pay6 (k0_pay4 c0 c1 c2 c3 c4 c5 c6) (k0_pay5 c7) (ix2 i 0)
      = Ideal.div ((∑ d : Fin 512, c0 (ix2 i d)) + (∑ d : Fin 512, c1 (ix2 i d)) + (∑ d : Fin 512, c2 (ix2 i d)) + (∑ d : Fin 512, c3 (ix2 i d)) + (∑ d : Fin 512, c4 (ix2 i d)) + (∑ d : Fin 512, c5 (ix2 i d)) + (∑ d : Fin 512, c6 (ix2 i d)) + (∑ d : Fin 512, c7 (ix2 i d))) (Ideal.ofBits .f32 0x45800000#32) := by
  pointwise [k0_pay4, k0_pay5, k0_pay6]

theorem pay7_apply (s : FVec Ideal S512x1 .f32) (z c0 c1 c2 c3 c4 : Vec Ideal S512x512 .f32) (i : Fin 512) :
    k0_pay7 s z c0 c1 c2 c3 c4 (ix2 i 0)
      = (∑ d : Fin 512, (c0 (ix2 i d) - k0_pay6 s z (ix2 i 0)) * (c0 (ix2 i d) - k0_pay6 s z (ix2 i 0))) + (∑ d : Fin 512, (c1 (ix2 i d) - k0_pay6 s z (ix2 i 0)) * (c1 (ix2 i d) - k0_pay6 s z (ix2 i 0))) + (∑ d : Fin 512, (c2 (ix2 i d) - k0_pay6 s z (ix2 i 0)) * (c2 (ix2 i d) - k0_pay6 s z (ix2 i 0))) + (∑ d : Fin 512, (c3 (ix2 i d) - k0_pay6 s z (ix2 i 0)) * (c3 (ix2 i d) - k0_pay6 s z (ix2 i 0))) + (∑ d : Fin 512, (c4 (ix2 i d) - k0_pay6 s z (ix2 i 0)) * (c4 (ix2 i d) - k0_pay6 s z (ix2 i 0))) := by
  pointwise [k0_pay7]

theorem pay8_apply (u v : FVec Ideal S512x1 .f32) (c5 c6 c7 : Vec Ideal S512x512 .f32) (i : Fin 512) :
    k0_pay8 u v c5 c6 c7 (ix2 i 0)
      = Ideal.rsqrt (Ideal.div (v (ix2 i 0) + (∑ d : Fin 512, (c5 (ix2 i d) - u (ix2 i 0)) * (c5 (ix2 i d) - u (ix2 i 0))) + (∑ d : Fin 512, (c6 (ix2 i d) - u (ix2 i 0)) * (c6 (ix2 i d) - u (ix2 i 0))) + (∑ d : Fin 512, (c7 (ix2 i d) - u (ix2 i 0)) * (c7 (ix2 i d) - u (ix2 i 0))))
          (Ideal.ofBits .f32 0x45800000#32) + Ideal.ofBits .f32 0x3727C5AC#32) := by
  pointwise [k0_pay8]

theorem pay9_apply (u v : FVec Ideal S512x1 .f32) (c5 c6 c7 c0 : Vec Ideal S512x512 .f32) (w b : Vec Ideal S1x512 .f32) (i d : Fin 512) :
    k0_pay9 u v c5 c6 c7 c0 w b (ix2 i d)
      = (c0 (ix2 i d) - u (ix2 i 0)) * k0_pay8 u v c5 c6 c7 (ix2 i 0) * w (ix2 0 d) + b (ix2 0 d) := by
  pointwise [k0_pay9]

theorem pay11_apply (u r : FVec Ideal S512x1 .f32) (z : Vec Ideal S512x512 .f32) (w b : Vec Ideal S1x512 .f32) (i d : Fin 512) :
    k0_pay11 u r z w b (ix2 i d) = (z (ix2 i d) - u (ix2 i 0)) * r (ix2 i 0) * w (ix2 0 d) + b (ix2 0 d) := by
  pointwise [k0_pay11]

theorem pay13_apply (u r : FVec Ideal S512x1 .f32) (z : Vec Ideal S512x512 .f32) (w b : Vec Ideal S1x512 .f32) (i d : Fin 512) :
    k0_pay13 u r z w b (ix2 i d) = (z (ix2 i d) - u (ix2 i 0)) * r (ix2 i 0) * w (ix2 0 d) + b (ix2 0 d) := by
  pointwise [k0_pay13]

theorem pay15_apply (u r : FVec Ideal S512x1 .f32) (z : Vec Ideal S512x512 .f32) (w b : Vec Ideal S1x512 .f32) (i d : Fin 512) :
    k0_pay15 u r z w b (ix2 i d) = (z (ix2 i d) - u (ix2 i 0)) * r (ix2 i 0) * w (ix2 0 d) + b (ix2 0 d) := by
  pointwise [k0_pay15]

theorem pay17_apply (u r : FVec Ideal S512x1 .f32) (z : Vec Ideal S512x512 .f32) (w b : Vec Ideal S1x512 .f32) (i d : Fin 512) :
    k0_pay17 u r z w b (ix2 i d) = (z (ix2 i d) - u (ix2 i 0)) * r (ix2 i 0) * w (ix2 0 d) + b (ix2 0 d) := by
  pointwise [k0_pay17]

theorem pay19_apply (u r : FVec Ideal S512x1 .f32) (z : Vec Ideal S512x512 .f32) (w b : Vec Ideal S1x512 .f32) (i d : Fin 512) :
    k0_pay19 u r z w b (ix2 i d) = (z (ix2 i d) - u (ix2 i 0)) * r (ix2 i 0) * w (ix2 0 d) + b (ix2 0 d) := by
  pointwise [k0_pay19]

theorem pay21_apply (u r : FVec Ideal S512x1 .f32) (z : Vec Ideal S512x512 .f32) (w b : Vec Ideal S1x512 .f32) (i d : Fin 512) :
    k0_pay21 u r z w b (ix2 i d) = (z (ix2 i d) - u (ix2 i 0)) * r (ix2 i 0) * w (ix2 0 d) + b (ix2 0 d) := by
  pointwise [k0_pay21]

theorem pay2_apply (u r : FVec Ideal S512x1 .f32) (z : Vec Ideal S512x512 .f32) (w b : Vec Ideal S1x512 .f32) (i d : Fin 512) :
    k0_pay2 u r z w b (ix2 i d) = (z (ix2 i d) - u (ix2 i 0)) * r (ix2 i 0) * w (ix2 0 d) + b (ix2 0 d) := by
  pointwise [k0_pay2]

theorem pay12_apply (u r : FVec Ideal S512x1 .f32) (z : Vec Ideal S512x512 .f32) (w b : Vec Ideal S1x512 .f32) (i d : Fin 512) :
    k0_pay12 u r z w b (ix2 i d) = k0_pay11 u r z w b (ix2 i d) := by
  pointwise [k0_pay12]

theorem pay14_apply (y : FVec Ideal S512x512 .f32) (i d : Fin 512) : k0_pay14 y (ix2 i d) = y (ix2 i d) := by
  pointwise [k0_pay14]

theorem pay16_apply (u r : FVec Ideal S512x1 .f32) (z : Vec Ideal S512x512 .f32) (w b : Vec Ideal S1x512 .f32) (i d : Fin 512) :
    k0_pay16 u r z w b (ix2 i d) = k0_pay15 u r z w b (ix2 i d) := by
  pointwise [k0_pay16]

theorem pay18_apply (y : FVec Ideal S512x512 .f32) (i d : Fin 512) : k0_pay18 y (ix2 i d) = y (ix2 i d) := by
  pointwise [k0_pay18]

theorem pay20_apply (u r : FVec Ideal S512x1 .f32) (z : Vec Ideal S512x512 .f32) (w b : Vec Ideal S1x512 .f32) (i d : Fin 512) :
    k0_pay20 u r z w b (ix2 i d) = k0_pay19 u r z w b (ix2 i d) := by
  pointwise [k0_pay20]

theorem pay22_apply (u r : FVec Ideal S512x1 .f32) (z : Vec Ideal S512x512 .f32) (w b : Vec Ideal S1x512 .f32) (i d : Fin 512) :
    k0_pay22 u r z w b (ix2 i d) = k0_pay21 u r z w b (ix2 i d) := by
  pointwise [k0_pay22]

theorem pay3_apply (u r : FVec Ideal S512x1 .f32) (z : Vec Ideal S512x512 .f32) (w b : Vec Ideal S1x512 .f32) (i d : Fin 512) :
    k0_pay3 u r z w b (ix2 i d) = k0_pay2 u r z w b (ix2 i d) := by
  pointwise [k0_pay3]

theorem pay10_apply (y : FVec Ideal S512x512 .f32) (i d : Fin 512) : k0_pay10 y (ix2 i d) = y (ix2 i d) := by
  pointwise [k0_pay10]

section Block

variable (Y : Vec Ideal S512x4096 .f32) (z : Vec Ideal S512x512 .f32) (w b : Vec Ideal S1x4096 .f32) (i : Fin 512) (r : Fin 4096 → EReal)
  (hY : ∀ k : Fin 4096, k.val < 3584 → Y (ix2 i k) = r k) (hz : ∀ d : Fin 512, z (ix2 i d) = r ⟨3584 + d.val, by omega⟩)

include hY in
theorem col_eq (o : Nat) (h) (ho : o + 512 ≤ 3584) (d : Fin 512) : col o h Y (ix2 i d) = r ⟨o + d.val, by omega⟩ :=
  (col_apply o h Y i d (by omega)).trans (hY _ (by show o + d.val < 3584; omega))

include hY hz in
theorem mean_apply : Hand.mean Y z (ix2 i 0) = Cert.Norm.mean r := by
  unfold Hand.mean sum7
  rw [pay46_apply]
  unfold Cert.Norm.mean
  rw [sum8 r]
  simp only [col_eq Y i r hY 0 inb_S512x4096_S512x512_0_0 (by omega), col_eq Y i r hY 512 inb_S512x4096_S512x512_0_512 (by omega), col_eq Y i r hY 1024 inb_S512x4096_S512x512_0_1024 (by omega), col_eq Y i r hY 1536 inb_S512x4096_S512x512_0_1536 (by omega), col_eq Y i r hY 2048 inb_S512x4096_S512x512_0_2048 (by omega), col_eq Y i r hY 2560 inb_S512x4096_S512x512_0_2560 (by omega), col_eq Y i r hY 3072 inb_S512x4096_S512x512_0_3072 (by omega), hz]

include hY hz in
theorem scale_apply : scale Y z (ix2 i 0)
    = Ideal.rsqrt (Cert.Norm.mean (fun k => (r k - Cert.Norm.mean r) * (r k - Cert.Norm.mean r)) + Ideal.ofBits .f32 0x3727C5AC#32) := by
  unfold scale
  rw [pay8_apply, mean_apply Y z i r hY hz]
  unfold square5
  rw [pay7_apply]
  have e : k0_pay6 (sum7 Y) (k0_pay5 z) (ix2 i 0) = Cert.Norm.mean r := mean_apply Y z i r hY hz
  rw [e]
  rw [mean8 fun k => (r k - Cert.Norm.mean r) * (r k - Cert.Norm.mean r)]
  simp only [col_eq Y i r hY 0 inb_S512x4096_S512x512_0_0 (by omega), col_eq Y i r hY 512 inb_S512x4096_S512x512_0_512 (by omega), col_eq Y i r hY 1024 inb_S512x4096_S512x512_0_1024 (by omega), col_eq Y i r hY 1536 inb_S512x4096_S512x512_0_1536 (by omega), col_eq Y i r hY 2048 inb_S512x4096_S512x512_0_2048 (by omega), col_eq Y i r hY 2560 inb_S512x4096_S512x512_0_2560 (by omega), col_eq Y i r hY 3072 inb_S512x4096_S512x512_0_3072 (by omega), hz]

include hY hz in
theorem normed_apply (k : Fin 4096) : normed Y z w b (ix2 i k) = Cert.Norm.norm r (fun k => w (ix2 0 k)) (fun k => b (ix2 0 k)) k := by
  obtain ⟨k, hk⟩ := k
  have hm := mean_apply Y z i r hY hz
  have hs := scale_apply Y z i r hY hz
  unfold normed Cert.Norm.norm
  by_cases h0 : k < 512
  · obtain ⟨d, rfl⟩ : ∃ d : Fin 512, k = 0 + d.val := ⟨⟨k - 0, by omega⟩, by show k = 0 + (k - 0); omega⟩
    rw [put_miss 3584 _ _ _ _ (by show 0 + d.val < 3584 ∨ 3584 + 512 ≤ 0 + d.val; omega)]
    rw [put_miss 3072 _ _ _ _ (by show 0 + d.val < 3072 ∨ 3072 + 512 ≤ 0 + d.val; omega)]
    rw [put_miss 2560 _ _ _ _ (by show 0 + d.val < 2560 ∨ 2560 + 512 ≤ 0 + d.val; omega)]
    rw [put_miss 2048 _ _ _ _ (by show 0 + d.val < 2048 ∨ 2048 + 512 ≤ 0 + d.val; omega)]
    rw [put_miss 1536 _ _ _ _ (by show 0 + d.val < 1536 ∨ 1536 + 512 ≤ 0 + d.val; omega)]
    rw [put_miss 1024 _ _ _ _ (by show 0 + d.val < 1024 ∨ 1024 + 512 ≤ 0 + d.val; omega)]
    rw [put_miss 512 _ _ _ _ (by show 0 + d.val < 512 ∨ 512 + 512 ≤ 0 + d.val; omega)]
    rw [put_hit 0 _ _ i d (by omega)]
    unfold first
    rw [pay9_apply]
    rw [show k0_pay8 (Hand.mean Y z) (square5 Y z) (col 2560 inb_S512x4096_S512x512_0_2560 Y) (col 3072 inb_S512x4096_S512x512_0_3072 Y) z (ix2 i 0) = _ from hs]
    rw [hm, col_eq Y i r hY 0 inb_S512x4096_S512x512_0_0 (by omega), part_apply 0 _ _ d (by omega), part_apply 0 _ _ d (by omega)]
  by_cases h1 : k < 1024
  · obtain ⟨d, rfl⟩ : ∃ d : Fin 512, k = 512 + d.val := ⟨⟨k - 512, by omega⟩, by show k = 512 + (k - 512); omega⟩
    rw [put_miss 3584 _ _ _ _ (by show 512 + d.val < 3584 ∨ 3584 + 512 ≤ 512 + d.val; omega)]
    rw [put_miss 3072 _ _ _ _ (by show 512 + d.val < 3072 ∨ 3072 + 512 ≤ 512 + d.val; omega)]
    rw [put_miss 2560 _ _ _ _ (by show 512 + d.val < 2560 ∨ 2560 + 512 ≤ 512 + d.val; omega)]
    rw [put_miss 2048 _ _ _ _ (by show 512 + d.val < 2048 ∨ 2048 + 512 ≤ 512 + d.val; omega)]
    rw [put_miss 1536 _ _ _ _ (by show 512 + d.val < 1536 ∨ 1536 + 512 ≤ 512 + d.val; omega)]
    rw [put_miss 1024 _ _ _ _ (by show 512 + d.val < 1024 ∨ 1024 + 512 ≤ 512 + d.val; omega)]
    rw [put_hit 512 _ _ i d (by omega)]
    rw [pay11_apply, hm, hs, col_eq Y i r hY 512 inb_S512x4096_S512x512_0_512 (by omega), part_apply 512 _ _ d (by omega), part_apply 512 _ _ d (by omega)]
  by_cases h2 : k < 1536
  · obtain ⟨d, rfl⟩ : ∃ d : Fin 512, k = 1024 + d.val := ⟨⟨k - 1024, by omega⟩, by show k = 1024 + (k - 1024); omega⟩
    rw [put_miss 3584 _ _ _ _ (by show 1024 + d.val < 3584 ∨ 3584 + 512 ≤ 1024 + d.val; omega)]
    rw [put_miss 3072 _ _ _ _ (by show 1024 + d.val < 3072 ∨ 3072 + 512 ≤ 1024 + d.val; omega)]
    rw [put_miss 2560 _ _ _ _ (by show 1024 + d.val < 2560 ∨ 2560 + 512 ≤ 1024 + d.val; omega)]
    rw [put_miss 2048 _ _ _ _ (by show 1024 + d.val < 2048 ∨ 2048 + 512 ≤ 1024 + d.val; omega)]
    rw [put_miss 1536 _ _ _ _ (by show 1024 + d.val < 1536 ∨ 1536 + 512 ≤ 1024 + d.val; omega)]
    rw [put_hit 1024 _ _ i d (by omega)]
    rw [pay13_apply, hm, hs, col_eq Y i r hY 1024 inb_S512x4096_S512x512_0_1024 (by omega), part_apply 1024 _ _ d (by omega), part_apply 1024 _ _ d (by omega)]
  by_cases h3 : k < 2048
  · obtain ⟨d, rfl⟩ : ∃ d : Fin 512, k = 1536 + d.val := ⟨⟨k - 1536, by omega⟩, by show k = 1536 + (k - 1536); omega⟩
    rw [put_miss 3584 _ _ _ _ (by show 1536 + d.val < 3584 ∨ 3584 + 512 ≤ 1536 + d.val; omega)]
    rw [put_miss 3072 _ _ _ _ (by show 1536 + d.val < 3072 ∨ 3072 + 512 ≤ 1536 + d.val; omega)]
    rw [put_miss 2560 _ _ _ _ (by show 1536 + d.val < 2560 ∨ 2560 + 512 ≤ 1536 + d.val; omega)]
    rw [put_miss 2048 _ _ _ _ (by show 1536 + d.val < 2048 ∨ 2048 + 512 ≤ 1536 + d.val; omega)]
    rw [put_hit 1536 _ _ i d (by omega)]
    rw [pay15_apply, hm, hs, col_eq Y i r hY 1536 inb_S512x4096_S512x512_0_1536 (by omega), part_apply 1536 _ _ d (by omega), part_apply 1536 _ _ d (by omega)]
  by_cases h4 : k < 2560
  · obtain ⟨d, rfl⟩ : ∃ d : Fin 512, k = 2048 + d.val := ⟨⟨k - 2048, by omega⟩, by show k = 2048 + (k - 2048); omega⟩
    rw [put_miss 3584 _ _ _ _ (by show 2048 + d.val < 3584 ∨ 3584 + 512 ≤ 2048 + d.val; omega)]
    rw [put_miss 3072 _ _ _ _ (by show 2048 + d.val < 3072 ∨ 3072 + 512 ≤ 2048 + d.val; omega)]
    rw [put_miss 2560 _ _ _ _ (by show 2048 + d.val < 2560 ∨ 2560 + 512 ≤ 2048 + d.val; omega)]
    rw [put_hit 2048 _ _ i d (by omega)]
    rw [pay17_apply, hm, hs, col_eq Y i r hY 2048 inb_S512x4096_S512x512_0_2048 (by omega), part_apply 2048 _ _ d (by omega), part_apply 2048 _ _ d (by omega)]
  by_cases h5 : k < 3072
  · obtain ⟨d, rfl⟩ : ∃ d : Fin 512, k = 2560 + d.val := ⟨⟨k - 2560, by omega⟩, by show k = 2560 + (k - 2560); omega⟩
    rw [put_miss 3584 _ _ _ _ (by show 2560 + d.val < 3584 ∨ 3584 + 512 ≤ 2560 + d.val; omega)]
    rw [put_miss 3072 _ _ _ _ (by show 2560 + d.val < 3072 ∨ 3072 + 512 ≤ 2560 + d.val; omega)]
    rw [put_hit 2560 _ _ i d (by omega)]
    rw [pay19_apply, hm, hs, col_eq Y i r hY 2560 inb_S512x4096_S512x512_0_2560 (by omega), part_apply 2560 _ _ d (by omega), part_apply 2560 _ _ d (by omega)]
  by_cases h6 : k < 3584
  · obtain ⟨d, rfl⟩ : ∃ d : Fin 512, k = 3072 + d.val := ⟨⟨k - 3072, by omega⟩, by show k = 3072 + (k - 3072); omega⟩
    rw [put_miss 3584 _ _ _ _ (by show 3072 + d.val < 3584 ∨ 3584 + 512 ≤ 3072 + d.val; omega)]
    rw [put_hit 3072 _ _ i d (by omega)]
    rw [pay21_apply, hm, hs, col_eq Y i r hY 3072 inb_S512x4096_S512x512_0_3072 (by omega), part_apply 3072 _ _ d (by omega), part_apply 3072 _ _ d (by omega)]
  obtain ⟨d, rfl⟩ : ∃ d : Fin 512, k = 3584 + d.val := ⟨⟨k - 3584, by omega⟩, by show k = 3584 + (k - 3584); omega⟩
  rw [put_hit 3584 _ _ i d (by omega)]
  rw [pay2_apply, hm, hs, hz, part_apply 3584 _ _ d (by omega), part_apply 3584 _ _ d (by omega)]
include hY hz in
theorem rounded_apply (Y' : Vec Ideal S512x4096 .bf16) (k : Fin 4096) : rounded Y z w b Y' (ix2 i k) = Cert.Norm.norm r (fun k => w (ix2 0 k)) (fun k => b (ix2 0 k)) k := by
  obtain ⟨k, hk⟩ := k
  have hm := mean_apply Y z i r hY hz
  have hs := scale_apply Y z i r hY hz
  unfold rounded Cert.Norm.norm
  by_cases h0 : k < 512
  · obtain ⟨d, rfl⟩ : ∃ d : Fin 512, k = 0 + d.val := ⟨⟨k - 0, by omega⟩, by show k = 0 + (k - 0); omega⟩
    rw [put_miss 3584 _ _ _ _ (by show 0 + d.val < 3584 ∨ 3584 + 512 ≤ 0 + d.val; omega)]
    rw [put_miss 3072 _ _ _ _ (by show 0 + d.val < 3072 ∨ 3072 + 512 ≤ 0 + d.val; omega)]
    rw [put_miss 2560 _ _ _ _ (by show 0 + d.val < 2560 ∨ 2560 + 512 ≤ 0 + d.val; omega)]
    rw [put_miss 2048 _ _ _ _ (by show 0 + d.val < 2048 ∨ 2048 + 512 ≤ 0 + d.val; omega)]
    rw [put_miss 1536 _ _ _ _ (by show 0 + d.val < 1536 ∨ 1536 + 512 ≤ 0 + d.val; omega)]
    rw [put_miss 1024 _ _ _ _ (by show 0 + d.val < 1024 ∨ 1024 + 512 ≤ 0 + d.val; omega)]
    rw [put_miss 512 _ _ _ _ (by show 0 + d.val < 512 ∨ 512 + 512 ≤ 0 + d.val; omega)]
    rw [put_hit 0 _ _ i d (by omega)]
    rw [pay10_apply]
    unfold first
    rw [pay9_apply]
    rw [show k0_pay8 (Hand.mean Y z) (square5 Y z) (col 2560 inb_S512x4096_S512x512_0_2560 Y) (col 3072 inb_S512x4096_S512x512_0_3072 Y) z (ix2 i 0) = _ from hs]
    rw [hm, col_eq Y i r hY 0 inb_S512x4096_S512x512_0_0 (by omega), part_apply 0 _ _ d (by omega), part_apply 0 _ _ d (by omega)]
  by_cases h1 : k < 1024
  · obtain ⟨d, rfl⟩ : ∃ d : Fin 512, k = 512 + d.val := ⟨⟨k - 512, by omega⟩, by show k = 512 + (k - 512); omega⟩
    rw [put_miss 3584 _ _ _ _ (by show 512 + d.val < 3584 ∨ 3584 + 512 ≤ 512 + d.val; omega)]
    rw [put_miss 3072 _ _ _ _ (by show 512 + d.val < 3072 ∨ 3072 + 512 ≤ 512 + d.val; omega)]
    rw [put_miss 2560 _ _ _ _ (by show 512 + d.val < 2560 ∨ 2560 + 512 ≤ 512 + d.val; omega)]
    rw [put_miss 2048 _ _ _ _ (by show 512 + d.val < 2048 ∨ 2048 + 512 ≤ 512 + d.val; omega)]
    rw [put_miss 1536 _ _ _ _ (by show 512 + d.val < 1536 ∨ 1536 + 512 ≤ 512 + d.val; omega)]
    rw [put_miss 1024 _ _ _ _ (by show 512 + d.val < 1024 ∨ 1024 + 512 ≤ 512 + d.val; omega)]
    rw [put_hit 512 _ _ i d (by omega)]
    rw [pay12_apply, pay11_apply, hm, hs, col_eq Y i r hY 512 inb_S512x4096_S512x512_0_512 (by omega), part_apply 512 _ _ d (by omega), part_apply 512 _ _ d (by omega)]
  by_cases h2 : k < 1536
  · obtain ⟨d, rfl⟩ : ∃ d : Fin 512, k = 1024 + d.val := ⟨⟨k - 1024, by omega⟩, by show k = 1024 + (k - 1024); omega⟩
    rw [put_miss 3584 _ _ _ _ (by show 1024 + d.val < 3584 ∨ 3584 + 512 ≤ 1024 + d.val; omega)]
    rw [put_miss 3072 _ _ _ _ (by show 1024 + d.val < 3072 ∨ 3072 + 512 ≤ 1024 + d.val; omega)]
    rw [put_miss 2560 _ _ _ _ (by show 1024 + d.val < 2560 ∨ 2560 + 512 ≤ 1024 + d.val; omega)]
    rw [put_miss 2048 _ _ _ _ (by show 1024 + d.val < 2048 ∨ 2048 + 512 ≤ 1024 + d.val; omega)]
    rw [put_miss 1536 _ _ _ _ (by show 1024 + d.val < 1536 ∨ 1536 + 512 ≤ 1024 + d.val; omega)]
    rw [put_hit 1024 _ _ i d (by omega)]
    rw [pay14_apply, pay13_apply, hm, hs, col_eq Y i r hY 1024 inb_S512x4096_S512x512_0_1024 (by omega), part_apply 1024 _ _ d (by omega), part_apply 1024 _ _ d (by omega)]
  by_cases h3 : k < 2048
  · obtain ⟨d, rfl⟩ : ∃ d : Fin 512, k = 1536 + d.val := ⟨⟨k - 1536, by omega⟩, by show k = 1536 + (k - 1536); omega⟩
    rw [put_miss 3584 _ _ _ _ (by show 1536 + d.val < 3584 ∨ 3584 + 512 ≤ 1536 + d.val; omega)]
    rw [put_miss 3072 _ _ _ _ (by show 1536 + d.val < 3072 ∨ 3072 + 512 ≤ 1536 + d.val; omega)]
    rw [put_miss 2560 _ _ _ _ (by show 1536 + d.val < 2560 ∨ 2560 + 512 ≤ 1536 + d.val; omega)]
    rw [put_miss 2048 _ _ _ _ (by show 1536 + d.val < 2048 ∨ 2048 + 512 ≤ 1536 + d.val; omega)]
    rw [put_hit 1536 _ _ i d (by omega)]
    rw [pay16_apply, pay15_apply, hm, hs, col_eq Y i r hY 1536 inb_S512x4096_S512x512_0_1536 (by omega), part_apply 1536 _ _ d (by omega), part_apply 1536 _ _ d (by omega)]
  by_cases h4 : k < 2560
  · obtain ⟨d, rfl⟩ : ∃ d : Fin 512, k = 2048 + d.val := ⟨⟨k - 2048, by omega⟩, by show k = 2048 + (k - 2048); omega⟩
    rw [put_miss 3584 _ _ _ _ (by show 2048 + d.val < 3584 ∨ 3584 + 512 ≤ 2048 + d.val; omega)]
    rw [put_miss 3072 _ _ _ _ (by show 2048 + d.val < 3072 ∨ 3072 + 512 ≤ 2048 + d.val; omega)]
    rw [put_miss 2560 _ _ _ _ (by show 2048 + d.val < 2560 ∨ 2560 + 512 ≤ 2048 + d.val; omega)]
    rw [put_hit 2048 _ _ i d (by omega)]
    rw [pay18_apply, pay17_apply, hm, hs, col_eq Y i r hY 2048 inb_S512x4096_S512x512_0_2048 (by omega), part_apply 2048 _ _ d (by omega), part_apply 2048 _ _ d (by omega)]
  by_cases h5 : k < 3072
  · obtain ⟨d, rfl⟩ : ∃ d : Fin 512, k = 2560 + d.val := ⟨⟨k - 2560, by omega⟩, by show k = 2560 + (k - 2560); omega⟩
    rw [put_miss 3584 _ _ _ _ (by show 2560 + d.val < 3584 ∨ 3584 + 512 ≤ 2560 + d.val; omega)]
    rw [put_miss 3072 _ _ _ _ (by show 2560 + d.val < 3072 ∨ 3072 + 512 ≤ 2560 + d.val; omega)]
    rw [put_hit 2560 _ _ i d (by omega)]
    rw [pay20_apply, pay19_apply, hm, hs, col_eq Y i r hY 2560 inb_S512x4096_S512x512_0_2560 (by omega), part_apply 2560 _ _ d (by omega), part_apply 2560 _ _ d (by omega)]
  by_cases h6 : k < 3584
  · obtain ⟨d, rfl⟩ : ∃ d : Fin 512, k = 3072 + d.val := ⟨⟨k - 3072, by omega⟩, by show k = 3072 + (k - 3072); omega⟩
    rw [put_miss 3584 _ _ _ _ (by show 3072 + d.val < 3584 ∨ 3584 + 512 ≤ 3072 + d.val; omega)]
    rw [put_hit 3072 _ _ i d (by omega)]
    rw [pay22_apply, pay21_apply, hm, hs, col_eq Y i r hY 3072 inb_S512x4096_S512x512_0_3072 (by omega), part_apply 3072 _ _ d (by omega), part_apply 3072 _ _ d (by omega)]
  obtain ⟨d, rfl⟩ : ∃ d : Fin 512, k = 3584 + d.val := ⟨⟨k - 3584, by omega⟩, by show k = 3584 + (k - 3584); omega⟩
  rw [put_hit 3584 _ _ i d (by omega)]
  rw [pay3_apply, pay2_apply, hm, hs, hz, part_apply 3584 _ _ d (by omega), part_apply 3584 _ _ d (by omega)]

end Block

end Cert.Kernel5Ideal.Rows

namespace Cert.OutNorm

open Idealize.ShloMosaic

variable (a : FVec Ideal Cert.Kernel5Ideal.S16384x4096 .bf16) (v : FVec Ideal Cert.Kernel5Ideal.S1x4096x4096 .f32)
  (x : FVec Ideal Cert.Kernel5Ideal.S8x2048x4096 .f32) (w b : FVec Ideal Cert.Kernel5Ideal.S1x4096 .f32)

/-- The residual sum at row `s` (counted over all batches): the input's alpha-fold plus the merged row with a column of the output weight. -/
def row (s : Fin 16384) (k : Fin 4096) : EReal :=
  Ideal.ofBits .f32 0x3F9837F0#32 * x (ix3 ⟨s.val / 2048, by omega⟩ ⟨s.val % 2048, by omega⟩ k) + ∑ l : Fin 4096, a (ix2 s l) * v (ix3 0 l k)

/-- The first norm at row `s` and channel `d`. -/
def entry (s : Fin 16384) (d : Fin 4096) : EReal :=
  Cert.Norm.norm (row a v x s) (fun k => w (ix2 0 k)) (fun k => b (ix2 0 k)) d

def whole (j : Cert.Kernel5Ideal.S16384x4096.Idx) : EReal :=
  entry a v x w b ⟨(j 0).val, (j 0).isLt⟩ ⟨(j 1).val, (j 1).isLt⟩

end Cert.OutNorm

namespace Cert.Reference5Ideal.OutNorm

open Idealize.ShloMosaic Cert.Reference5Ideal.Gen Cert.OutNorm

variable (a : FVec Ideal S16384x4096 .bf16) (v : FVec Ideal S1x4096x4096 .f32)
  (x : FVec Ideal S8x2048x4096 .f32) (w b : FVec Ideal S1x4096 .f32)

def sum : FVec Ideal S8x2048x4096 .f32 :=
  addf (mulf (broadcastInDim S8x2048x4096 ![] bcast_S_S8x2048x4096 (constant S_ .f32 0x3F9837F0#32)) x)
    (shapeCast _ (Host.dotGeneral dot_S16384x4096_S4096x4096_S16384x4096_1_0_0_1_n_n none (extf .f32 a bitsLt_bf16_f32)
      (shapeCast _ v shapeCasts_S1x4096x4096_S4096x4096)) shapeCasts_S16384x4096_S8x2048x4096)

def means (z : FVec Ideal S8x2048x4096 .f32) : FVec Ideal S8x2048x1 .f32 :=
  Host.divf (broadcastInDim S8x2048x1 ![0, 1] bcast_S8x2048_S8x2048x1_0_1 (Host.reduceAdd z (constant S_ .f32 0x00000000#32) reducesTo_S8x2048x4096_S8x2048_d2 h_S_))
    (broadcastInDim S8x2048x1 ![] bcast_S_S8x2048x1 (constant S_ .f32 0x45800000#32))

def centred (z : FVec Ideal S8x2048x4096 .f32) : FVec Ideal S8x2048x4096 .f32 :=
  subf z (broadcastInDim S8x2048x4096 ![0, 1, 2] bcast_S8x2048x1_S8x2048x4096_0_1_2 (means z))

def channels (v : FVec Ideal S1x4096 .f32) : FVec Ideal S8x2048x4096 .f32 :=
  broadcastInDim S8x2048x4096 ![0, 1, 2] bcast_S1x1x4096_S8x2048x4096_0_1_2
    (broadcastInDim S1x1x4096 ![2] bcast_S4096_S1x1x4096_2 (shapeCast _ v shapeCasts_S1x4096_S4096))

def total : FVec Ideal S16384x4096 .f32 :=
  shapeCast _ (addf (mulf (mulf (centred (sum a v x))
    (broadcastInDim S8x2048x4096 ![0, 1, 2] bcast_S8x2048x1_S8x2048x4096_0_1_2
      (Host.rsqrt (addf (means (mulf (centred (sum a v x)) (centred (sum a v x)))) (broadcastInDim S8x2048x1 ![] bcast_S_S8x2048x1 (constant S_ .f32 0x3727C5AC#32))))))
    (channels w)) (channels b)) shapeCasts_S8x2048x4096_S16384x4096

def rounded : FVec Ideal S16384x4096 .bf16 := truncf .bf16 (total a v x w b) bitsLt_bf16_f32

theorem means_apply (z : FVec Ideal S8x2048x4096 .f32) (c : Fin 8) (i : Fin 2048) (u : Fin 1) :
    means z (ix3 c i u) = Cert.Norm.mean (fun k => z (ix3 c i k)) := by
  pointwise [means]
  rfl

theorem centred_apply (z : FVec Ideal S8x2048x4096 .f32) (c : Fin 8) (i : Fin 2048) (d : Fin 4096) :
    centred z (ix3 c i d) = z (ix3 c i d) - Cert.Norm.mean (fun k => z (ix3 c i k)) := by
  pointwise [centred, means_apply]

theorem sum_apply (c : Fin 8) (i : Fin 2048) (d : Fin 4096) :
    sum a v x (ix3 c i d) = Ideal.ofBits .f32 0x3F9837F0#32 * x (ix3 c i d)
      + ∑ l : Fin 4096, a (ix2 ⟨2048 * c.val + i.val, by omega⟩ l) * v (ix3 0 l d) := by
  pointwise [sum]
  simp only [Nat.mul_comm c.val 2048]

theorem channels_apply (v : FVec Ideal S1x4096 .f32) (c : Fin 8) (i : Fin 2048) (d : Fin 4096) :
    channels v (ix3 c i d) = v (ix2 0 d) := by
  pointwise [channels]

theorem row_eq (c : Fin 8) (i : Fin 2048) (d : Fin 4096) : sum a v x (ix3 c i d) = row a v x ⟨2048 * c.val + i.val, by omega⟩ d := by
  rw [sum_apply]
  unfold row
  have e0 : c = ⟨(2048 * c.val + i.val) / 2048, by omega⟩ := Fin.ext (by show c.val = (2048 * c.val + i.val) / 2048; omega)
  have e1 : i = ⟨(2048 * c.val + i.val) % 2048, by omega⟩ := Fin.ext (by show i.val = (2048 * c.val + i.val) % 2048; omega)
  exact congrArg₂ (fun p q => Ideal.ofBits .f32 0x3F9837F0#32 * x (ix3 p q d)
    + ∑ l : Fin 4096, a (ix2 ⟨2048 * c.val + i.val, by omega⟩ l) * v (ix3 0 l d)) e0 e1

theorem total_apply (c : Fin 8) (i : Fin 2048) (d : Fin 4096) :
    total a v x w b (ix2 ⟨2048 * c.val + i.val, by omega⟩ d) = entry a v x w b ⟨2048 * c.val + i.val, by omega⟩ d := by
  pointwise [total, centred_apply, means_apply, row_eq, channels_apply]
  rfl

theorem total_eq : total a v x w b = whole a v x w b := by
  funext j
  have h0 : (j 0).val < 16384 := (j 0).isLt
  have h (s : Fin 16384) (d : Fin 4096) : total a v x w b (ix2 s d) = entry a v x w b s d := by
    have e : s = ⟨2048 * (s.val / 2048) + s.val % 2048, by omega⟩ := Fin.ext (by show s.val = 2048 * (s.val / 2048) + s.val % 2048; omega)
    rw [e]
    exact total_apply a v x w b ⟨s.val / 2048, by omega⟩ ⟨s.val % 2048, by omega⟩ d
  have e : j = ix2 ⟨(j 0).val, (j 0).isLt⟩ ⟨(j 1).val, (j 1).isLt⟩ := by
    funext a
    apply Fin.ext
    match a with
    | ⟨0, _⟩ => rfl
    | ⟨1, _⟩ => rfl
  refine (congrArg _ e).trans ?_
  exact h _ _

theorem rounded_eq : rounded a v x w b = whole a v x w b := total_eq a v x w b

theorem res33 (m : (ℓ : Loc nD τ sig) → Buf (Elt Ideal) ℓ) (c : Dev nD) : Cert.Reference5Ideal.Value.res_main_v33 m c
    = total (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem res34 (m : (ℓ : Loc nD τ sig) → Buf (Elt Ideal) ℓ) (c : Dev nD) : Cert.Reference5Ideal.Value.res_main_v34 m c
    = rounded (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Reference5Ideal.OutNorm

namespace Cert.Kernel5Ideal.Rows

open Idealize.ShloMosaic Idealize.ShloMosaic.TcCoe Idealize.ShloMosaic.Pipeline Idealize.ShloMosaic.Rounds Cert.Kernel5Ideal Cert.Kernel5Ideal.Gen Cert.Kernel5Ideal.Hand

variable (m : (ℓ : Loc nD τ sig) → Buf (Elt Ideal) ℓ) (c : Dev nD)

theorem outWeight (l k : Fin 4096) : (V m c main_v1 : Vec Ideal S4096x4096 .bf16) (ix2 l k) = m ((c : Thread nD τ).loc main_arg1) (ix3 0 l k) := by
  unfold V
  after_reads_at

theorem input (s : Fin 16384) (k : Fin 4096) : (V m c main_v2 : Vec Ideal S16384x4096 .f32) (ix2 s k)
    = m ((c : Thread nD τ).loc main_arg2) (ix3 ⟨s.val / 2048, by omega⟩ ⟨s.val % 2048, by omega⟩ k) := by
  unfold V
  after_reads_at

theorem weights (d : Fin 4096) : (V m c main_v5 : Vec Ideal S1x4096 .f32) (ix2 0 d) = m ((c : Thread nD τ).loc main_arg3) (ix2 0 d) := by
  unfold V
  after_reads_at

theorem biases (d : Fin 4096) : (V m c main_v6 : Vec Ideal S1x4096 .f32) (ix2 0 d) = m ((c : Thread nD τ).loc main_arg4) (ix2 0 d) := by
  unfold V
  after_reads_at

theorem covers5 : (cfg0.win 5).Covers := by decide +kernel
theorem covers6 : (cfg0.win 6).Covers := by decide +kernel
theorem index0 : ∀ t : Fin grid0.N, win0_0.index t 0 = t.val / 8 ∧ win0_0.index t 1 = 0 := by decide +kernel
theorem index1 : ∀ t : Fin grid0.N, win0_1.index t 0 = 0 ∧ win0_1.index t 1 = t.val % 8 := by decide +kernel
theorem index2 : ∀ t : Fin grid0.N, win0_2.index t 0 = t.val / 8 ∧ win0_2.index t 1 = t.val % 8 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 8 ∧ win0_5.index t 1 = 0 := by decide +kernel
theorem index6 : ∀ t : Fin grid0.N, win0_6.index t 0 = t.val / 8 ∧ win0_6.index t 1 = 0 := by decide +kernel

variable (t : Fin cfg0.N)

theorem tN : t.val < 256 := lt_of_lt_of_eq t.isLt (show cfg0.N = 256 from N_0)

theorem blk0 (r : Fin 512) (k : Fin 4096) : (iblk m c 0 t : Vec Ideal S512x4096 .bf16) (ix2 r k)
    = (V m c main_arg0 : Vec Ideal S16384x4096 .bf16) (ix2 ⟨512 * (t.val / 8) + r.val, by have := tN t; omega⟩ ⟨k.val, by have := tN t; omega⟩) := by
  unfold iblk
  rw [View.read_apply]
  show V m c main_arg0 _ = _
  congr 1
  have hi := index0 t
  funext a
  apply Fin.ext
  match a with
  | ⟨0, _⟩ => show win0_0.index t 0 * 512 + 1 * r.val = _; rw [hi.1]; show _ = 512 * (t.val / 8) + r.val; omega
  | ⟨1, _⟩ => show win0_0.index t 1 * 4096 + 1 * k.val = _; rw [hi.2]; show _ = k.val; omega

theorem blk1 (r : Fin 4096) (k : Fin 512) : (iblk m c 1 t : Vec Ideal S4096x512 .bf16) (ix2 r k)
    = (V m c main_v1 : Vec Ideal S4096x4096 .bf16) (ix2 ⟨r.val, by have := tN t; omega⟩ ⟨512 * (t.val % 8) + k.val, by have := tN t; omega⟩) := by
  unfold iblk
  rw [View.read_apply]
  show V m c main_v1 _ = _
  congr 1
  have hi := index1 t
  funext a
  apply Fin.ext
  match a with
  | ⟨0, _⟩ => show win0_1.index t 0 * 4096 + 1 * r.val = _; rw [hi.1]; show _ = r.val; omega
  | ⟨1, _⟩ => show win0_1.index t 1 * 512 + 1 * k.val = _; rw [hi.2]; show _ = 512 * (t.val % 8) + k.val; omega

theorem blk2 (r : Fin 512) (k : Fin 512) : (iblk m c 2 t : Vec Ideal S512x512 .f32) (ix2 r k)
    = (V m c main_v2 : Vec Ideal S16384x4096 .f32) (ix2 ⟨512 * (t.val / 8) + r.val, by have := tN t; omega⟩ ⟨512 * (t.val % 8) + k.val, by have := tN t; omega⟩) := by
  unfold iblk
  rw [View.read_apply]
  show V m c main_v2 _ = _
  congr 1
  have hi := index2 t
  funext a
  apply Fin.ext
  match a with
  | ⟨0, _⟩ => show win0_2.index t 0 * 512 + 1 * r.val = _; rw [hi.1]; show _ = 512 * (t.val / 8) + r.val; omega
  | ⟨1, _⟩ => show win0_2.index t 1 * 512 + 1 * k.val = _; rw [hi.2]; show _ = 512 * (t.val % 8) + k.val; omega

theorem blk3 (r : Fin 1) (k : Fin 4096) : (iblk m c 3 t : Vec Ideal S1x4096 .f32) (ix2 r k)
    = (V m c main_v5 : Vec Ideal S1x4096 .f32) (ix2 ⟨r.val, by have := tN t; omega⟩ ⟨k.val, by have := tN t; omega⟩) := by
  unfold iblk
  rw [View.read_apply]
  show V m c main_v5 _ = _
  congr 1
  have hi := index3 t
  funext a
  apply Fin.ext
  match a with
  | ⟨0, _⟩ => show win0_3.index t 0 * 1 + 1 * r.val = _; rw [hi.1]; show _ = r.val; omega
  | ⟨1, _⟩ => show win0_3.index t 1 * 4096 + 1 * k.val = _; rw [hi.2]; show _ = k.val; omega

theorem blk4 (r : Fin 1) (k : Fin 4096) : (iblk m c 4 t : Vec Ideal S1x4096 .f32) (ix2 r k)
    = (V m c main_v6 : Vec Ideal S1x4096 .f32) (ix2 ⟨r.val, by have := tN t; omega⟩ ⟨k.val, by have := tN t; omega⟩) := by
  unfold iblk
  rw [View.read_apply]
  show V m c main_v6 _ = _
  congr 1
  have hi := index4 t
  funext a
  apply Fin.ext
  match a with
  | ⟨0, _⟩ => show win0_4.index t 0 * 1 + 1 * r.val = _; rw [hi.1]; show _ = r.val; omega
  | ⟨1, _⟩ => show win0_4.index t 1 * 4096 + 1 * k.val = _; rw [hi.2]; show _ = k.val; omega

/-- The residual sum's row as the launch's arguments give it. -/
def rowOf (s : Fin 16384) : Fin 4096 → EReal :=
  OutNorm.row (m ((c : Thread nD τ).loc main_arg0)) (m ((c : Thread nD τ).loc main_arg1)) (m ((c : Thread nD τ).loc main_arg2)) s

/-- A point's sums are a column block of the rows of its row block. -/
theorem sums_apply (r k : Fin 512) : sums m c t (ix2 r k)
    = rowOf m c ⟨512 * (t.val / 8) + r.val, by have := tN t; omega⟩ ⟨512 * (t.val % 8) + k.val, by omega⟩ := by
  unfold sums rowOf OutNorm.row
  rw [pay1_apply]
  have fx : (V m c main_arg0 : Vec Ideal S16384x4096 .bf16) = m ((c : Thread nD τ).loc main_arg0) := V_main_arg0 m c
  simp only [blk0, blk1, blk2, input, outWeight]
  exact congrArg₂ (· + ·) (congrArg (Ideal.ofBits .f32 0x3F9837F0#32 * ·) (input m c _ _)) (Finset.sum_congr rfl fun l _ => congrArg₂ (· * ·) (congrFun fx _) (outWeight m c _ _))

/-- What a point finds in the first output's buffer: the column blocks of the row block's earlier points are their sums. -/
theorem finds5 (n : Nat) : ∀ (hn : n < cfg0.N) (Y : Vec Ideal S512x4096 .f32), (rel5 m c).Finds 5 ⟨n, hn⟩ Y →
    ∀ (r : Fin 512) (k : Fin 4096), k.val < 512 * (n % 8) →
      Y (ix2 r k) = rowOf m c ⟨512 * (n / 8) + r.val, by have := tN ⟨n, hn⟩; have : n < 256 := this; omega⟩ k := by
  induction n with
  | zero => intro hn Y h r k hk; omega
  | succ n ih =>
    intro hn Y h r k hk
    have hN : n + 1 < 256 := tN ⟨n + 1, hn⟩
    have hs := ((rel5 m c).finds_of_pos (w := 5) (t := ⟨n + 1, hn⟩) rfl (Nat.succ_ne_zero n) Y).mp h
    have hnn : n < cfg0.N := Nat.lt_of_succ_lt hn
    have hq : n % 8 ≠ 7 := by omega
    have hL : (rel5 m c).Leaves 5 ⟨n, hnn⟩ Y := hs.resolve_left fun hf => hq ((flush0_5 ⟨n, hnn⟩).mp hf)
    obtain ⟨Y', hf, ha⟩ := hL
    have hX : Y = left5 (n % 8) Y' (sums m c ⟨n, hnn⟩) (iblk m c 3 ⟨n, hnn⟩) (iblk m c 4 ⟨n, hnn⟩) := ha
    have hl : left5 (n % 8) Y' (sums m c ⟨n, hnn⟩) (iblk m c 3 ⟨n, hnn⟩) (iblk m c 4 ⟨n, hnn⟩) = put (512 * (n % 8)) (sums m c ⟨n, hnn⟩) Y' := if_neg hq
    rw [hX, hl]
    have hd : (n + 1) / 8 = n / 8 := by omega
    have hm : (n + 1) % 8 = n % 8 + 1 := by omega
    simp only [hd]
    rw [hm] at hk
    by_cases hb : k.val < 512 * (n % 8)
    · rw [put_miss _ _ _ _ _ (Or.inl hb)]
      exact ih hnn Y' hf r k hb
    · obtain ⟨d, hd'⟩ : ∃ d : Fin 512, k = ⟨512 * (n % 8) + d.val, by omega⟩ :=
        ⟨⟨k.val - 512 * (n % 8), by omega⟩, Fin.ext (by show k.val = 512 * (n % 8) + (k.val - 512 * (n % 8)); omega)⟩
      rw [hd', put_hit _ _ _ r d (by omega)]
      exact sums_apply m c ⟨n, hnn⟩ r d

theorem wholeOf (r : Fin 512) (k : Fin 4096) : Cert.Norm.norm (rowOf m c ⟨512 * (t.val / 8) + r.val, by have := tN t; omega⟩)
      (fun k => (iblk m c 3 t : Vec Ideal S1x4096 .f32) (ix2 0 k)) (fun k => (iblk m c 4 t : Vec Ideal S1x4096 .f32) (ix2 0 k)) k
    = OutNorm.entry (m ((c : Thread nD τ).loc main_arg0)) (m ((c : Thread nD τ).loc main_arg1)) (m ((c : Thread nD τ).loc main_arg2))
        (m ((c : Thread nD τ).loc main_arg3)) (m ((c : Thread nD τ).loc main_arg4)) ⟨512 * (t.val / 8) + r.val, by have := tN t; omega⟩ k := by
  have fw : (fun k : Fin 4096 => (iblk m c 3 t : Vec Ideal S1x4096 .f32) (ix2 0 k)) = fun k => m ((c : Thread nD τ).loc main_arg3) (ix2 0 k) :=
    funext fun k => (blk3 m c t 0 k).trans (weights m c k)
  have fb : (fun k : Fin 4096 => (iblk m c 4 t : Vec Ideal S1x4096 .f32) (ix2 0 k)) = fun k => m ((c : Thread nD τ).loc main_arg4) (ix2 0 k) :=
    funext fun k => (blk4 m c t 0 k).trans (biases m c k)
  rw [fw, fb]
  rfl

theorem closing (h7 : t.val % 8 = 7) (Y : Vec Ideal S512x4096 .f32) (h : (rel5 m c).Finds 5 t Y) (r : Fin 512) (k : Fin 4096) :
    normed Y (sums m c t) (iblk m c 3 t) (iblk m c 4 t) (ix2 r k)
      = OutNorm.entry (m ((c : Thread nD τ).loc main_arg0)) (m ((c : Thread nD τ).loc main_arg1)) (m ((c : Thread nD τ).loc main_arg2))
          (m ((c : Thread nD τ).loc main_arg3)) (m ((c : Thread nD τ).loc main_arg4)) ⟨512 * (t.val / 8) + r.val, by have := tN t; omega⟩ k
    ∧ ∀ Y', rounded Y (sums m c t) (iblk m c 3 t) (iblk m c 4 t) Y' (ix2 r k)
      = OutNorm.entry (m ((c : Thread nD τ).loc main_arg0)) (m ((c : Thread nD τ).loc main_arg1)) (m ((c : Thread nD τ).loc main_arg2))
          (m ((c : Thread nD τ).loc main_arg3)) (m ((c : Thread nD τ).loc main_arg4)) ⟨512 * (t.val / 8) + r.val, by have := tN t; omega⟩ k := by
  have hY (k : Fin 4096) (hk : k.val < 3584) : Y (ix2 r k) = rowOf m c ⟨512 * (t.val / 8) + r.val, by have := tN t; omega⟩ k :=
    finds5 m c t.val t.isLt Y h r k (by omega)
  have hz (d : Fin 512) : sums m c t (ix2 r d) = rowOf m c ⟨512 * (t.val / 8) + r.val, by have := tN t; omega⟩ ⟨3584 + d.val, by omega⟩ :=
    (sums_apply m c t r d).trans (congrArg (rowOf m c _) (Fin.ext (by show 512 * (t.val % 8) + d.val = 3584 + d.val; omega)))
  exact ⟨(normed_apply _ _ _ _ r _ hY hz k).trans (wholeOf m c t r k), fun Y' => (rounded_apply _ _ _ _ r _ hY hz Y' k).trans (wholeOf m c t r k)⟩

theorem leaves5 (hf : (cfg0.win 5).flush t = true) (X : Vec Ideal S512x4096 .f32) (h : (rel m c).Leaves 5 t X) (r : Fin 512) (k : Fin 4096) : X (ix2 r k)
    = OutNorm.entry (m ((c : Thread nD τ).loc main_arg0)) (m ((c : Thread nD τ).loc main_arg1)) (m ((c : Thread nD τ).loc main_arg2))
        (m ((c : Thread nD τ).loc main_arg3)) (m ((c : Thread nD τ).loc main_arg4)) ⟨512 * (t.val / 8) + r.val, by have := tN t; omega⟩ k := by
  have h7 : t.val % 8 = 7 := (flush0_5 t).mp hf
  obtain ⟨Y, hY, ha⟩ := h
  have hX : X = left5 (t.val % 8) Y (sums m c t) (iblk m c 3 t) (iblk m c 4 t) := ha
  have hl : left5 (t.val % 8) Y (sums m c t) (iblk m c 3 t) (iblk m c 4 t) = normed Y (sums m c t) (iblk m c 3 t) (iblk m c 4 t) := if_pos h7
  rw [hX, hl]
  exact (closing m c t h7 Y (((rel5 m c).override_finds rfl t Y).mp hY) r k).1

theorem leaves6 (hf : (cfg0.win 6).flush t = true) (X : Vec Ideal S512x4096 .bf16) (h : (rel m c).Leaves 6 t X) (r : Fin 512) (k : Fin 4096) : X (ix2 r k)
    = OutNorm.entry (m ((c : Thread nD τ).loc main_arg0)) (m ((c : Thread nD τ).loc main_arg1)) (m ((c : Thread nD τ).loc main_arg2))
        (m ((c : Thread nD τ).loc main_arg3)) (m ((c : Thread nD τ).loc main_arg4)) ⟨512 * (t.val / 8) + r.val, by have := tN t; omega⟩ k := by
  have h7 : t.val % 8 = 7 := (flush0_6 t).mp hf
  obtain ⟨Y, hY, ha⟩ := h
  have hX : second6 m c t Y X := ha
  obtain ⟨Y5, h5, e⟩ := hX
  have hl : left6 (t.val % 8) Y5 (sums m c t) (iblk m c 3 t) (iblk m c 4 t) Y = rounded Y5 (sums m c t) (iblk m c 3 t) (iblk m c 4 t) Y := if_pos h7
  rw [e, hl]
  exact (closing m c t h7 Y5 h5 r k).2 Y

variable (after : (w : Fin cfg0.W) → Fin cfg0.N → (cfg0.win w).block.Idx → Elt Ideal (cfg0.win w).elt)
  (hL : ∀ (w : Fin cfg0.W) (u : Fin cfg0.N), (cfg0.win w).flush u = true → (rel m c).Leaves w u (after w u))

include hL in
/-- After the run an output array holds the normed rows. -/
theorem final5 : ((rel m c).withAfter after).arrAt 5 cfg0.N
    = (OutNorm.whole (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S16384x4096 .f32) := by
  refine ((rel m c).withAfter after).arrAt_eq_of_covers 5 _ covers5 fun t hf y => ?_
  have hi := index5 t
  have ht := tN t
  have e0 : (((cfg0.win 5).blk t).view.emb y 0).val = win0_5.index t 0 * 512 + 1 * (y 0).val := rfl
  have e1 : (((cfg0.win 5).blk t).view.emb y 1).val = win0_5.index t 1 * 4096 + 1 * (y 1).val := rfl
  have h0 : (y 0).val < 512 := (y 0).isLt
  have h1 : (y 1).val < 4096 := (y 1).isLt
  show (after 5 t : Vec Ideal S512x4096 .f32) _ = _
  have hy : (fun a => ⟨(y a).val, by
      match a with
      | ⟨0, _⟩ => exact h0
      | ⟨1, _⟩ => exact h1⟩ : S512x4096.Idx) = ix2 ⟨(y 0).val, h0⟩ ⟨(y 1).val, h1⟩ := by
    funext a
    apply Fin.ext
    match a with
    | ⟨0, _⟩ => rfl
    | ⟨1, _⟩ => rfl
  refine (congrArg (after 5 t : Vec Ideal S512x4096 .f32) hy).trans ?_
  rw [leaves5 m c t hf (after 5 t) (hL 5 t hf)]
  have a0 : (((cfg0.win 5).blk t).view.emb y 0).val = 512 * (t.val / 8) + (y 0).val := by rw [e0, hi.1]; omega
  have a1 : (((cfg0.win 5).blk t).view.emb y 1).val = (y 1).val := by rw [e1, hi.2]; omega
  unfold OutNorm.whole
  simp only [a0, a1]

include hL in
/-- After the run an output array holds the normed rows. -/
theorem final6 : ((rel m c).withAfter after).arrAt 6 cfg0.N
    = (OutNorm.whole (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S16384x4096 .bf16) := by
  refine ((rel m c).withAfter after).arrAt_eq_of_covers 6 _ covers6 fun t hf y => ?_
  have hi := index6 t
  have ht := tN t
  have e0 : (((cfg0.win 6).blk t).view.emb y 0).val = win0_6.index t 0 * 512 + 1 * (y 0).val := rfl
  have e1 : (((cfg0.win 6).blk t).view.emb y 1).val = win0_6.index t 1 * 4096 + 1 * (y 1).val := rfl
  have h0 : (y 0).val < 512 := (y 0).isLt
  have h1 : (y 1).val < 4096 := (y 1).isLt
  show (after 6 t : Vec Ideal S512x4096 .bf16) _ = _
  have hy : (fun a => ⟨(y a).val, by
      match a with
      | ⟨0, _⟩ => exact h0
      | ⟨1, _⟩ => exact h1⟩ : S512x4096.Idx) = ix2 ⟨(y 0).val, h0⟩ ⟨(y 1).val, h1⟩ := by
    funext a
    apply Fin.ext
    match a with
    | ⟨0, _⟩ => rfl
    | ⟨1, _⟩ => rfl
  refine (congrArg (after 6 t : Vec Ideal S512x4096 .bf16) hy).trans ?_
  rw [leaves6 m c t hf (after 6 t) (hL 6 t hf)]
  have a0 : (((cfg0.win 6).blk t).view.emb y 0).val = 512 * (t.val / 8) + (y 0).val := by rw [e0, hi.1]; omega
  have a1 : (((cfg0.win 6).blk t).view.emb y 1).val = (y 1).val := by rw [e1, hi.2]; omega
  unfold OutNorm.whole
  simp only [a0, a1]

end Cert.Kernel5Ideal.Rows

end
-- ==== Proof.RetMath.lean ====
module

public import Idealize.ShloMosaic.PureOps.Ideal

@[expose] public section

noncomputable section

namespace Cert.Ret

open Finset

/-! # Retention in chunks of 128 positions is retention at once -/

/-- The decay from position `j` to position `i`, nothing where `j` comes later. -/
def fall (lg : ℝ) (i j : Nat) : ℝ := if j ≤ i then Real.exp (lg * max ((i : ℝ) - j) 0) else 0

variable (lg σ : ℝ) (q k : Nat → Fin 128 → ℝ) (v : Nat → ℝ)

/-- The state before chunk `c`. -/
def state (c : Nat) (d : Fin 128) : ℝ := ∑ j ∈ range (128 * c), k j d * (Real.exp (lg * (128 * c - 1 - j)) * σ) * v j

/-- A row of the retention over all 2048 positions. -/
def full (s : Nat) : ℝ := ∑ j : Fin 2048, v j.val * ((∑ d, q s d * (k j.val d * σ)) * fall lg s j.val)

/-- The same row, within its chunk and from the state. -/
def split (c r : Nat) : ℝ :=
  (∑ j : Fin 128, ((∑ d, q (128 * c + r) d * k (128 * c + j.val) d) * (fall lg r j.val * σ)) * v (128 * c + j.val))
    + (∑ d, q (128 * c + r) d * state lg σ k v c d) * Real.exp (lg * (r + 1))

theorem state_zero (d : Fin 128) : state lg σ k v 0 d = 0 := by
  simp [state]

theorem state_next (c : Nat) (d : Fin 128) : state lg σ k v (c + 1) d
    = state lg σ k v c d * Real.exp (lg * 128)
      + ∑ j : Fin 128, (k (128 * c + j.val) d * (Real.exp (lg * (127 - j.val)) * σ)) * v (128 * c + j.val) := by
  unfold state
  rw [show 128 * (c + 1) = 128 * c + 128 by ring, sum_range_add, sum_mul, ← Fin.sum_univ_eq_sum_range (fun x => _ ) 128]
  congr 1
  · refine sum_congr rfl fun j _ => ?_
    have : Real.exp (lg * (128 * ((c + 1 : ℕ) : ℝ) - 1 - j)) = Real.exp (lg * (128 * c - 1 - j)) * Real.exp (lg * 128) := by
      rw [← Real.exp_add]; congr 1; push_cast; ring
    rw [this]; ring
  · refine sum_congr rfl fun j _ => ?_
    have : (128 * ((c + 1 : ℕ) : ℝ) - 1 - ((128 * c + j.val : ℕ) : ℝ)) = 127 - j.val := by push_cast; ring
    rw [this]

theorem full_eq_split (c r : Nat) (hr : r < 128) (hc : c < 16) : full lg σ q k v (128 * c + r) = split lg σ q k v c r := by
  unfold full split
  rw [Fin.sum_univ_eq_sum_range (fun j => v j * ((∑ d, q (128 * c + r) d * (k j d * σ)) * fall lg (128 * c + r) j)) 2048,
    show 2048 = 128 * c + 128 + (2048 - 128 * c - 128) by omega, sum_range_add, sum_range_add]
  have z : ∑ j ∈ range (2048 - 128 * c - 128), v (128 * c + 128 + j) * ((∑ d, q (128 * c + r) d * (k (128 * c + 128 + j) d * σ))
      * fall lg (128 * c + r) (128 * c + 128 + j)) = 0 := by
    refine sum_eq_zero fun j _ => ?_
    unfold fall
    rw [if_neg (by omega)]; ring
  rw [z, add_zero, add_comm, ← Fin.sum_univ_eq_sum_range (fun j => v (128 * c + j) * ((∑ d, q (128 * c + r) d * (k (128 * c + j) d * σ))
      * fall lg (128 * c + r) (128 * c + j))) 128]
  congr 1
  · refine sum_congr rfl fun j _ => ?_
    have e : fall lg (128 * c + r) (128 * c + j.val) = fall lg r j.val := by
      unfold fall
      have : ((128 * c + r : ℕ) : ℝ) - ((128 * c + j.val : ℕ) : ℝ) = (r : ℝ) - j.val := by push_cast; ring
      rw [this]
      by_cases h : j.val ≤ r
      · rw [if_pos h, if_pos (by omega)]
      · rw [if_neg h, if_neg (by omega)]
    rw [e]
    have : ∑ d, q (128 * c + r) d * (k (128 * c + j.val) d * σ) = (∑ d, q (128 * c + r) d * k (128 * c + j.val) d) * σ := by
      rw [sum_mul]; exact sum_congr rfl fun d _ => by ring
    rw [this]; ring
  · unfold state
    have : ∀ d, q (128 * c + r) d * ∑ j ∈ range (128 * c), k j d * (Real.exp (lg * (128 * c - 1 - j)) * σ) * v j
        = ∑ j ∈ range (128 * c), q (128 * c + r) d * (k j d * (Real.exp (lg * (128 * c - 1 - j)) * σ) * v j) := fun d => mul_sum _ _ _
    simp only [this]
    rw [sum_comm, sum_mul]
    refine sum_congr rfl fun j hj => ?_
    have hj' : j < 128 * c := mem_range.mp hj
    have e : fall lg (128 * c + r) j = Real.exp (lg * (128 * c - 1 - j)) * Real.exp (lg * (r + 1)) := by
      unfold fall
      rw [if_pos (by omega), ← Real.exp_add]
      have hm : max (((128 * c + r : ℕ) : ℝ) - (j : ℝ)) 0 = ((128 * c + r : ℕ) : ℝ) - (j : ℝ) :=
        max_eq_left (sub_nonneg.mpr (by exact_mod_cast (by omega : j ≤ 128 * c + r)))
      rw [hm]
      congr 1; push_cast; ring
    rw [e]
    rw [sum_mul, sum_mul, mul_sum]
    refine sum_congr rfl fun d _ => by ring

end Cert.Ret
-- ==== Proof.RetForm.lean ====
module

public import proofs.«01_k».proof.Proof.Gen.Kernel6Ideal.Value

@[expose] public section

set_option maxRecDepth 16384

noncomputable section

namespace Cert.Kernel6Ideal.Ret

open Idealize.ShloMosaic Idealize.ShloMosaic.TcCoe Cert.Kernel6Ideal.Gen

/-! # One grid point of the retention, head by head -/

variable {F : FTy → Type} [FloatOps F]

/-- The state a head leaves. -/
def next (st : Vec F S1x128x256 .f32) (cd : F .f32) (k : Vec F S128x128 .bf16) (sd : Vec F S1x128x1 .f32) (v : Vec F S128x256 .bf16) :
    FVec F S1x128x256 .f32 :=
  shapeCast S1x128x256 (addf (mulf (shapeCast S128x256 st shapeCasts_S1x128x256_S128x256) (broadcast S128x256 cd))
    (matmul dot_S128x128_S128x256_S128x256_0_0_1_1_n_n none
      (truncf .bf16 (mulf (extf .f32 k bitsLt_bf16_f32) (broadcastTo S128x128 (shapeCast S128x1 sd shapeCasts_S1x128x1_S128x1) broadcasts_S128x1_S128x128)) bitsLt_bf16_f32)
      v (constant S128x256 .f32 0x00000000#32))) shapeCasts_S128x256_S1x128x256

/-- A head's sums before the norm: within the chunk, and from the state. -/
def raw (st : Vec F S1x128x256 .f32) (q k : Vec F S128x128 .bf16) (v : Vec F S128x256 .bf16) (dm : Vec F S1x128x128 .f32) (cr : Vec F S1x128x1 .f32) :
    FVec F S128x256 .f32 :=
  addf (matmul dot_S128x128_S128x256_S128x256_1_0_0_1_n_n none
      (truncf .bf16 (mulf (matmul dot_S128x128_S128x128_S128x128_1_1_0_0_n_n none q k (constant S128x128 .f32 0x00000000#32))
        (shapeCast S128x128 dm shapeCasts_S1x128x128_S128x128)) bitsLt_bf16_f32) v (constant S128x256 .f32 0x00000000#32))
    (mulf (matmul dot_S128x128_S128x256_S128x256_1_0_0_1_n_n none q
        (truncf .bf16 (shapeCast S128x256 st shapeCasts_S1x128x256_S128x256) bitsLt_bf16_f32) (constant S128x256 .f32 0x00000000#32))
      (broadcastTo S128x256 (shapeCast S128x1 cr shapeCasts_S1x128x1_S128x1) broadcasts_S128x1_S128x256))

def mean (x : FVec F S128x256 .f32) : FVec F S128x1 .f32 :=
  divf (shapeCast S128x1 (multiReduction .add [1] S128 x 0x00000000#32 reduces_S128x256_S128 (.inl rfl) rfl) shapeCasts_S128_S128x1)
    (broadcast S128x1 (Scalar.ofBits .f32 0x43800000#32))

def away (x : FVec F S128x256 .f32) : FVec F S128x256 .f32 :=
  subf x (broadcastTo S128x256 (mean x) broadcasts_S128x1_S128x256)

def gate (g : Vec F S128x256 .bf16) : FVec F S128x256 .f32 :=
  mulf (extf .f32 g bitsLt_bf16_f32)
    (addf (mulf (broadcast S128x256 (Scalar.ofBits .f32 0x3F000000#32))
        (tanh (mulf (broadcast S128x256 (Scalar.ofBits .f32 0x3F000000#32)) (extf .f32 g bitsLt_bf16_f32))))
      (broadcast S128x256 (Scalar.ofBits .f32 0x3F000000#32)))

/-- A head's block: the norm over its 256 columns, the weights and the gate. -/
def normed (x : FVec F S128x256 .f32) (w b : Vec F S1x256 .f32) (g : Vec F S128x256 .bf16) : FVec F S128x256 .bf16 :=
  truncf .bf16 (mulf (addf (mulf (mulf (away x)
      (broadcastTo S128x256 (rsqrt (addf (mean (mulf (away x) (away x))) (broadcast S128x1 (Scalar.ofBits .f32 0x3727C5AC#32)))) broadcasts_S128x1_S128x256))
      (broadcastTo S128x256 (shapeCast S1x256 w shapeCasts_S1x256_S1x256) broadcasts_S1x256_S128x256)) (broadcastTo S128x256 (shapeCast S1x256 b shapeCasts_S1x256_S1x256) broadcasts_S1x256_S128x256)) (gate g)) bitsLt_bf16_f32

theorem inQ : ∀ h : Fin 8, ∀ a, (![0, 128 * h.val] : Fin 2 → Nat) a + S128x128.size a ≤ S128x1024.size a := by decide
theorem inV : ∀ h : Fin 8, ∀ a, (![0, 256 * h.val] : Fin 2 → Nat) a + S128x256.size a ≤ S128x2048.size a := by decide
theorem inW : ∀ h : Fin 8, ∀ a, (![0, 256 * h.val] : Fin 2 → Nat) a + S1x256.size a ≤ S1x2048.size a := by decide
theorem inD : ∀ h : Fin 8, ∀ a, (![h.val, 0, 0] : Fin 3 → Nat) a + S1x128x128.size a ≤ S8x128x128.size a := by decide
theorem inC : ∀ h : Fin 8, ∀ a, (![h.val, 0, 0] : Fin 3 → Nat) a + S1x128x1.size a ≤ S8x128x1.size a := by decide
theorem inS : ∀ h : Fin 8, ∀ a, (![h.val, 0, 0] : Fin 3 → Nat) a + S1x128x256.size a ≤ S8x128x256.size a := by decide

def down : List (Fin 8) := [7, 6, 5, 4, 3, 2, 1, 0]

abbrev rS (h : Fin 8) : Rect S8x128x256 := Rect.unit (s := S8x128x256) ![h.val, 0, 0] S1x128x256.size (inS h)

variable (i : grid0.Coords) (arg3 : Memref sig .tc .smem S16 .f32) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S8x128x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S128x2048 .bf16) (harg13 : arg13.IsWhole) (arg14 : Memref sig .tc .vmem S8x128x256 .f32) (harg14 : arg14.IsWhole)
    (x0 : Vec F S16 .f32) (x1 : Vec F S128x1024 .bf16) (x2 : Vec F S128x1024 .bf16) (x3 : Vec F S128x2048 .bf16) (x4 : Vec F S128x2048 .bf16) (x5 : Vec F S8x128x128 .f32) (x6 : Vec F S8x128x1 .f32) (x7 : Vec F S8x128x1 .f32) (x8 : Vec F S1x2048 .f32) (x9 : Vec F S1x2048 .f32)

/-! ## The reads of one head -/

def rD (arg3 : Memref sig .tc .smem S16 .f32) (harg3 : arg3.IsWhole) (x0 : Vec F S16 .f32) (h : Fin 8) : F .f32 :=
  arg3.view.readAt (Elt F) (Rect.unit (s := S16) (k0_off1 i (BitVec.ofNat 32 h.val)) S1.size (k0_off1_inb i h)).toLoadRect (harg3.unread x0) (Shape.Idx.first (s := S1) (by decide))
def rQ (a : Memref sig .tc .vmem S128x1024 .bf16) (ha : a.IsWhole) (x : Vec F S128x1024 .bf16) (h : Fin 8) : Vec F S128x128 .bf16 :=
  a.view.readAt (Elt F) (Rect.unit (s := S128x1024) ![0, 128 * h.val] S128x128.size (inQ h)).toLoadRect (ha.unread x)
def rV (a : Memref sig .tc .vmem S128x2048 .bf16) (ha : a.IsWhole) (x : Vec F S128x2048 .bf16) (h : Fin 8) : Vec F S128x256 .bf16 :=
  a.view.readAt (Elt F) (Rect.unit (s := S128x2048) ![0, 256 * h.val] S128x256.size (inV h)).toLoadRect (ha.unread x)
def rM (a : Memref sig .tc .vmem S8x128x128 .f32) (ha : a.IsWhole) (x : Vec F S8x128x128 .f32) (h : Fin 8) : Vec F S1x128x128 .f32 :=
  a.view.readAt (Elt F) (Rect.unit (s := S8x128x128) ![h.val, 0, 0] S1x128x128.size (inD h)).toLoadRect (ha.unread x)
def rC (a : Memref sig .tc .vmem S8x128x1 .f32) (ha : a.IsWhole) (x : Vec F S8x128x1 .f32) (h : Fin 8) : Vec F S1x128x1 .f32 :=
  a.view.readAt (Elt F) (Rect.unit (s := S8x128x1) ![h.val, 0, 0] S1x128x1.size (inC h)).toLoadRect (ha.unread x)
def rW (a : Memref sig .tc .vmem S1x2048 .f32) (ha : a.IsWhole) (x : Vec F S1x2048 .f32) (h : Fin 8) : Vec F S1x256 .f32 :=
  a.view.readAt (Elt F) (Rect.unit (s := S1x2048) ![0, 256 * h.val] S1x256.size (inW h)).toLoadRect (ha.unread x)
def rT (a : Memref sig .tc .vmem S8x128x256 .f32) (ha : a.IsWhole) (x : Vec F S8x128x256 .f32) (h : Fin 8) : Vec F S1x128x256 .f32 :=
  a.view.readAt (Elt F) (rS h).toLoadRect (ha.unread x)

/-! ## The stores of all heads -/

def sPiece (N : Fin 8 → FVec F S1x128x256 .f32) (h : Fin 8) : View.Piece (Elt F) S8x128x256 .f32 := ⟨rS h, N h⟩
def oPiece (O : Fin 8 → FVec F S128x256 .bf16) (h : Fin 8) : View.Piece (Elt F) S128x2048 .bf16 :=
  ⟨Rect.unit (s := S128x2048) ![0, 256 * h.val] S128x256.size (inV h), O h⟩

abbrev nexts (st : Fin 8 → Vec F S1x128x256 .f32) (h : Fin 8) : FVec F S1x128x256 .f32 :=
  next (st h) (rD i arg3 harg3 x0 h) (rQ arg5 harg5 x2 h) (rC arg10 harg10 x7 h) (rV arg6 harg6 x3 h)
abbrev outs (st : Fin 8 → Vec F S1x128x256 .f32) (h : Fin 8) : FVec F S128x256 .bf16 :=
  normed (raw (st h) (rQ arg4 harg4 x1 h) (rQ arg5 harg5 x2 h) (rV arg6 harg6 x3 h) (rM arg8 harg8 x5 h) (rC arg9 harg9 x6 h))
    (rW arg11 harg11 x8 h) (rW arg12 harg12 x9 h) (rV arg7 harg7 x4 h)

theorem run_B_out (c : Dev nD) (hc0 : ¬cond0_0 i) (xs0 : Vec F S8x128x256 .f32) :
    (kernelRun0_B (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).1
      = down.map (oPiece (outs arg4 harg4 arg5 harg5 arg6 harg6 arg7 harg7 arg8 harg8 arg9 harg9 arg11 harg11 arg12 harg12 x1 x2 x3 x4 x5 x6 x8 x9 (rT arg14 harg14 xs0))) := rfl

theorem run_B_state (c : Dev nD) (hc0 : ¬cond0_0 i) (xs0 : Vec F S8x128x256 .f32) :
    (kernelRun0_B (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).2.1
      = down.map (sPiece (nexts i arg3 harg3 arg5 harg5 arg6 harg6 arg10 harg10 x0 x2 x3 x7 (rT arg14 harg14 xs0))) := rfl

/-- The states the first chunk's heads read: what is stored before them gives zero back. -/
def firsts (c : Dev nD) : Fin 8 → Vec F S1x128x256 .f32 :=
  ![arg14.view.readCov kernelRun0_A.sl.HS0_1 (rS 0).toLoadRect,
    kernelRun0_A.sl.v78 c i arg3 harg3 arg5 harg5 arg6 harg6 arg10 harg10 arg14 x0 x2 x3 x7,
    kernelRun0_A.sl.v150 c i arg3 harg3 arg5 harg5 arg6 harg6 arg10 harg10 arg14 x0 x2 x3 x7,
    kernelRun0_A.sl.v222 c i arg3 harg3 arg5 harg5 arg6 harg6 arg10 harg10 arg14 x0 x2 x3 x7,
    kernelRun0_A.sl.v294 c i arg3 harg3 arg5 harg5 arg6 harg6 arg10 harg10 arg14 x0 x2 x3 x7,
    kernelRun0_A.sl.v366 c i arg3 harg3 arg5 harg5 arg6 harg6 arg10 harg10 arg14 x0 x2 x3 x7,
    kernelRun0_A.sl.v438 c i arg3 harg3 arg5 harg5 arg6 harg6 arg10 harg10 arg14 x0 x2 x3 x7,
    kernelRun0_A.sl.v510 c i arg3 harg3 arg5 harg5 arg6 harg6 arg10 harg10 arg14 x0 x2 x3 x7]

theorem run_A_out (c : Dev nD) (hc0 : cond0_0 i) :
    (kernelRun0_A (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
      = down.map (oPiece (outs arg4 harg4 arg5 harg5 arg6 harg6 arg7 harg7 arg8 harg8 arg9 harg9 arg11 harg11 arg12 harg12 x1 x2 x3 x4 x5 x6 x8 x9 (firsts i arg3 harg3 arg5 harg5 arg6 harg6 arg10 harg10 arg14 x0 x2 x3 x7 c))) := rfl

theorem run_A_state (c : Dev nD) (hc0 : cond0_0 i) :
    (kernelRun0_A (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1
      = down.map (sPiece (nexts i arg3 harg3 arg5 harg5 arg6 harg6 arg10 harg10 x0 x2 x3 x7 (firsts i arg3 harg3 arg5 harg5 arg6 harg6 arg10 harg10 arg14 x0 x2 x3 x7 c)))
        ++ [⟨Rect.unit (s := S8x128x256) ![0, 0, 0] S8x128x256.size inb_S8x128x256_S8x128x256_0_0_0, k0_pay1⟩] := rfl

/-- The state before the first chunk. -/
def none0 : Vec F S1x128x256 .f32 := fun _ => Scalar.ofBits .f32 0x00000000#32

abbrev clear : View.Piece (Elt F) S8x128x256 .f32 :=
  ⟨Rect.unit (s := S8x128x256) ![0, 0, 0] S8x128x256.size inb_S8x128x256_S8x128x256_0_0_0, k0_pay1⟩

theorem clear_apply (y : S8x128x256.Idx) : View.canon [clear (F := F)] y = Scalar.ofBits .f32 0x00000000#32 :=
  (congrFun (View.canon_cons_unit_zero (S := S8x128x256) (by decide) _ _ []) y).trans rfl

theorem canon_skip (N : Fin 8 → FVec F S1x128x256 .f32) (T : List (View.Piece (Elt F) S8x128x256 .f32)) (y : S8x128x256.Idx) :
    ∀ L : List (Fin 8), (∀ g ∈ L, g.val ≠ (y 0).val) → View.canon (L.map (sPiece N) ++ T) y = View.canon T y
  | [], _ => rfl
  | g :: L, hg => by
    refine (View.canon_cons_of_not_mem (sPiece N g) (L.map (sPiece N) ++ T) ?_).trans
      (canon_skip N T y L fun k hk => hg k (List.mem_cons_of_mem _ hk))
    intro hy
    have hy' : y ∈ (Rect.unit (s := S8x128x256) ![g.val, 0, 0] S1x128x256.size (inS g)).set := hy
    have := Rect.mem_set_unit.mp hy' 0
    have h1 : g.val ≤ (y 0).val := this.1
    have h2 : (y 0).val < g.val + 1 := this.2
    exact hg g List.mem_cons_self (by omega)

/-- A head that nothing has been stored for reads zero. -/
theorem back (v : View sig .tc .vmem S8x128x256 .f32) (N : Fin 8 → FVec F S1x128x256 .f32) (h : Fin 8) (L : List (Fin 8)) (hL : h ∉ L) :
    v.readCov (L.map (sPiece N) ++ [clear]) (rS h).toLoadRect = none0 := by
  rw [View.readCov_eq_canon']
  funext j
  refine (canon_skip N _ _ L fun g hg e => hL ?_).trans (clear_apply _)
  have h0 : (j 0).val < 1 := (j 0).isLt
  have e1 : ((rS h).toLoadRect.idx j 0).val = h.val := by
    show h.val + 1 * (j 0).val = h.val
    omega
  rw [show g = h from Fin.ext (e.trans e1)] at hg
  exact hg

theorem first0 (c : Dev nD) : firsts i arg3 harg3 arg5 harg5 arg6 harg6 arg10 harg10 arg14 x0 x2 x3 x7 c 0 = none0 :=
  back arg14.view (nexts i arg3 harg3 arg5 harg5 arg6 harg6 arg10 harg10 x0 x2 x3 x7 (firsts i arg3 harg3 arg5 harg5 arg6 harg6 arg10 harg10 arg14 x0 x2 x3 x7 c)) 0 [] (by decide)
theorem first1 (c : Dev nD) : firsts i arg3 harg3 arg5 harg5 arg6 harg6 arg10 harg10 arg14 x0 x2 x3 x7 c 1 = none0 :=
  back arg14.view (nexts i arg3 harg3 arg5 harg5 arg6 harg6 arg10 harg10 x0 x2 x3 x7 (firsts i arg3 harg3 arg5 harg5 arg6 harg6 arg10 harg10 arg14 x0 x2 x3 x7 c)) 1 [0] (by decide)
theorem first2 (c : Dev nD) : firsts i arg3 harg3 arg5 harg5 arg6 harg6 arg10 harg10 arg14 x0 x2 x3 x7 c 2 = none0 :=
  back arg14.view (nexts i arg3 harg3 arg5 harg5 arg6 harg6 arg10 harg10 x0 x2 x3 x7 (firsts i arg3 harg3 arg5 harg5 arg6 harg6 arg10 harg10 arg14 x0 x2 x3 x7 c)) 2 [1, 0] (by decide)
theorem first3 (c : Dev nD) : firsts i arg3 harg3 arg5 harg5 arg6 harg6 arg10 harg10 arg14 x0 x2 x3 x7 c 3 = none0 :=
  back arg14.view (nexts i arg3 harg3 arg5 harg5 arg6 harg6 arg10 harg10 x0 x2 x3 x7 (firsts i arg3 harg3 arg5 harg5 arg6 harg6 arg10 harg10 arg14 x0 x2 x3 x7 c)) 3 [2, 1, 0] (by decide)
theorem first4 (c : Dev nD) : firsts i arg3 harg3 arg5 harg5 arg6 harg6 arg10 harg10 arg14 x0 x2 x3 x7 c 4 = none0 :=
  back arg14.view (nexts i arg3 harg3 arg5 harg5 arg6 harg6 arg10 harg10 x0 x2 x3 x7 (firsts i arg3 harg3 arg5 harg5 arg6 harg6 arg10 harg10 arg14 x0 x2 x3 x7 c)) 4 [3, 2, 1, 0] (by decide)
theorem first5 (c : Dev nD) : firsts i arg3 harg3 arg5 harg5 arg6 harg6 arg10 harg10 arg14 x0 x2 x3 x7 c 5 = none0 :=
  back arg14.view (nexts i arg3 harg3 arg5 harg5 arg6 harg6 arg10 harg10 x0 x2 x3 x7 (firsts i arg3 harg3 arg5 harg5 arg6 harg6 arg10 harg10 arg14 x0 x2 x3 x7 c)) 5 [4, 3, 2, 1, 0] (by decide)
theorem first6 (c : Dev nD) : firsts i arg3 harg3 arg5 harg5 arg6 harg6 arg10 harg10 arg14 x0 x2 x3 x7 c 6 = none0 :=
  back arg14.view (nexts i arg3 harg3 arg5 harg5 arg6 harg6 arg10 harg10 x0 x2 x3 x7 (firsts i arg3 harg3 arg5 harg5 arg6 harg6 arg10 harg10 arg14 x0 x2 x3 x7 c)) 6 [5, 4, 3, 2, 1, 0] (by decide)
theorem first7 (c : Dev nD) : firsts i arg3 harg3 arg5 harg5 arg6 harg6 arg10 harg10 arg14 x0 x2 x3 x7 c 7 = none0 :=
  back arg14.view (nexts i arg3 harg3 arg5 harg5 arg6 harg6 arg10 harg10 x0 x2 x3 x7 (firsts i arg3 harg3 arg5 harg5 arg6 harg6 arg10 harg10 arg14 x0 x2 x3 x7 c)) 7 [6, 5, 4, 3, 2, 1, 0] (by decide)

theorem firsts_eq (c : Dev nD) : firsts i arg3 harg3 arg5 harg5 arg6 harg6 arg10 harg10 arg14 x0 x2 x3 x7 c = fun _ => none0 := by
  funext h
  match h with
  | 0 => exact first0 i arg3 harg3 arg5 harg5 arg6 harg6 arg10 harg10 arg14 x0 x2 x3 x7 c
  | 1 => exact first1 i arg3 harg3 arg5 harg5 arg6 harg6 arg10 harg10 arg14 x0 x2 x3 x7 c
  | 2 => exact first2 i arg3 harg3 arg5 harg5 arg6 harg6 arg10 harg10 arg14 x0 x2 x3 x7 c
  | 3 => exact first3 i arg3 harg3 arg5 harg5 arg6 harg6 arg10 harg10 arg14 x0 x2 x3 x7 c
  | 4 => exact first4 i arg3 harg3 arg5 harg5 arg6 harg6 arg10 harg10 arg14 x0 x2 x3 x7 c
  | 5 => exact first5 i arg3 harg3 arg5 harg5 arg6 harg6 arg10 harg10 arg14 x0 x2 x3 x7 c
  | 6 => exact first6 i arg3 harg3 arg5 harg5 arg6 harg6 arg10 harg10 arg14 x0 x2 x3 x7 c
  | 7 => exact first7 i arg3 harg3 arg5 harg5 arg6 harg6 arg10 harg10 arg14 x0 x2 x3 x7 c

/-- A head's plane of the stored states. -/
theorem state_apply (N : Fin 8 → FVec F S1x128x256 .f32) (T : List (View.Piece (Elt F) S8x128x256 .f32)) (h : Fin 8) (j : (rS h).shape.Idx) :
    View.canon (down.map (sPiece N) ++ T) ((rS h).emb j) = N h j := by
  obtain ⟨L, R, e, hL⟩ : ∃ L R, down = L ++ h :: R ∧ ∀ g ∈ L, g.val ≠ h.val := by
    match h with
    | 0 => exact ⟨[7, 6, 5, 4, 3, 2, 1], [], rfl, by decide⟩
    | 1 => exact ⟨[7, 6, 5, 4, 3, 2], [0], rfl, by decide⟩
    | 2 => exact ⟨[7, 6, 5, 4, 3], [1, 0], rfl, by decide⟩
    | 3 => exact ⟨[7, 6, 5, 4], [2, 1, 0], rfl, by decide⟩
    | 4 => exact ⟨[7, 6, 5], [3, 2, 1, 0], rfl, by decide⟩
    | 5 => exact ⟨[7, 6], [4, 3, 2, 1, 0], rfl, by decide⟩
    | 6 => exact ⟨[7], [5, 4, 3, 2, 1, 0], rfl, by decide⟩
    | 7 => exact ⟨[], [6, 5, 4, 3, 2, 1, 0], rfl, by decide⟩
  rw [e, List.map_append, List.map_cons, List.append_assoc]
  have h0 : (j 0).val < 1 := (j 0).isLt
  have e1 : ((rS h).emb j 0).val = h.val := by
    show h.val + 1 * (j 0).val = h.val
    omega
  refine (canon_skip N _ _ L fun g hg => by rw [e1]; exact hL g hg).trans ?_
  exact View.canon_cons_emb (Val := Elt F) (e := .f32) (rS h) (N h) _ j

end Cert.Kernel6Ideal.Ret
-- ==== Proof.RetElem.lean ====
module

public import proofs.«01_k».proof.Proof.RetForm
public import proofs.«01_k».proof.Proof.MergeBlocks

@[expose] public section

set_option maxRecDepth 16384

noncomputable section

namespace Cert.Ret

open Idealize.ShloMosaic

/-- The mean of a head's 256 columns. -/
def mean (x : Fin 256 → EReal) : EReal := Ideal.div (∑ y, x y) (Ideal.ofBits .f32 0x43800000#32)

/-- A head's column after the norm, the weights and the gate. -/
def finish (x : Fin 256 → EReal) (w b g : EReal) (e : Fin 256) : EReal :=
  ((x e - mean x) * Ideal.rsqrt (mean (fun y => (x y - mean x) * (x y - mean x)) + Ideal.ofBits .f32 0x3727C5AC#32) * w + b)
    * (g * Ideal.logistic g)

end Cert.Ret

namespace Cert.Kernel6Ideal.Ret

open Idealize.ShloMosaic Idealize.ShloMosaic.TcCoe Cert.Kernel6Ideal.Gen Cert.Ret

/-! # The body's arrays, entry by entry -/

theorem next_apply (st : Vec Ideal S1x128x256 .f32) (cd : Ideal .f32) (k : Vec Ideal S128x128 .bf16) (sd : Vec Ideal S1x128x1 .f32)
    (v : Vec Ideal S128x256 .bf16) (d : Fin 128) (e : Fin 256) :
    next st cd k sd v (ix3 0 d e) = st (ix3 0 d e) * cd + ∑ j : Fin 128, (k (ix2 j d) * sd (ix3 0 j 0)) * v (ix2 j e) := by
  pointwise [next]

theorem raw_apply (st : Vec Ideal S1x128x256 .f32) (q k : Vec Ideal S128x128 .bf16) (v : Vec Ideal S128x256 .bf16)
    (dm : Vec Ideal S1x128x128 .f32) (cr : Vec Ideal S1x128x1 .f32) (r : Fin 128) (e : Fin 256) :
    raw st q k v dm cr (ix2 r e) = (∑ j : Fin 128, ((∑ d : Fin 128, q (ix2 r d) * k (ix2 j d)) * dm (ix3 0 r j)) * v (ix2 j e))
      + (∑ d : Fin 128, q (ix2 r d) * st (ix3 0 d e)) * cr (ix3 0 r 0) := by
  pointwise [raw]

theorem mean_apply (x : FVec Ideal S128x256 .f32) (r : Fin 128) : Ret.mean x (ix2 r 0) = Cert.Ret.mean fun y => x (ix2 r y) := by
  pointwise [Ret.mean]
  rfl

theorem away_apply (x : FVec Ideal S128x256 .f32) (r : Fin 128) (e : Fin 256) :
    away x (ix2 r e) = x (ix2 r e) - Cert.Ret.mean fun y => x (ix2 r y) := by
  pointwise [away, mean_apply]

theorem gate_apply (g : Vec Ideal S128x256 .bf16) (r : Fin 128) (e : Fin 256) :
    gate g (ix2 r e) = g (ix2 r e) * Ideal.logistic (g (ix2 r e)) := by
  rw [← Cert.Merge.sigmoid]
  pointwise [gate]

theorem normed_apply (x : FVec Ideal S128x256 .f32) (w b : Vec Ideal S1x256 .f32) (g : Vec Ideal S128x256 .bf16) (r : Fin 128) (e : Fin 256) :
    normed x w b g (ix2 r e) = finish (fun y => x (ix2 r y)) (w (ix2 0 e)) (b (ix2 0 e)) (g (ix2 r e)) e := by
  pointwise [normed, mean_apply, away_apply, gate_apply]
  rfl

end Cert.Kernel6Ideal.Ret
-- ==== Proof.RetTable.lean ====
module

public import proofs.«01_k».proof.Proof.RetMath
public import proofs.«01_k».proof.Proof.DaPre
public import proofs.«01_k».proof.Proof.RetElem

@[expose] public section

set_option maxRecDepth 16384

noncomputable section

namespace Cert.Ret

open Idealize.ShloMosaic

/-! # The decay tables -/

abbrev pos (n : Nat) : EReal := FloatOps.sitofp (F := Ideal) .f32 (BitVec.ofNat 32 n)

/-- The logarithm of a head's decay, as both programs compute it. -/
def rateE (H : Nat) : EReal :=
  Ideal.log (1 - Ideal.pow (Ideal.ofBits .f32 0x40000000#32) (Ideal.ofBits .f32 0xC0A00000#32 - pos H))

def rate (H : Nat) : ℝ := Real.log (1 - Real.rpow 2 (-5 - (H : ℝ)))

theorem pos_real (n : Nat) (h : n < 2147483648) : pos n = ((n : ℝ) : EReal) := by
  have e : (BitVec.ofNat 32 n).toInt = (n : ℤ) := by
    rw [BitVec.toInt_eq_toNat_cond, BitVec.toNat_ofNat, Nat.mod_eq_of_lt (by omega), if_pos (by omega)]
  show ((((BitVec.ofNat 32 n).toInt : ℝ)) : EReal) = _
  rw [e]
  norm_cast

theorem rate_real (H : Nat) (h : H < 16) : rateE H = ((rate H : ℝ) : EReal) := by
  have h2 : Ideal.ofBits .f32 0x40000000#32 = ((2 : ℝ) : EReal) := by
    simp [Ideal.ofBits, Ideal.ieee, -EReal.coe_mul]; norm_cast; norm_num
  have h5 : Ideal.ofBits .f32 0xC0A00000#32 = ((-5 : ℝ) : EReal) := by
    simp [Ideal.ofBits, Ideal.ieee, -EReal.coe_mul, -EReal.coe_neg]; norm_num
  unfold rateE
  rw [pos_real H (by omega), h2, h5, ← EReal.coe_sub, ← EReal.coe_one, Ideal.pow_coe_coe, ← EReal.coe_sub, Ideal.log_coe, if_neg]
  · rfl
  · have : Real.rpow 2 (-5 - (H : ℝ)) < 1 :=
      Real.rpow_lt_one_of_one_lt_of_neg (by norm_num) (by have : (0 : ℝ) ≤ H := Nat.cast_nonneg H; linarith)
    linarith

/-- The factor on the keys. -/
def unit : ℝ := (Ideal.ofBits .f32 0x3DB504F3#32).toReal

theorem unit_real : Ideal.ofBits .f32 0x3DB504F3#32 = ((unit : ℝ) : EReal) := by
  obtain ⟨w, hw⟩ : ∃ w : ℝ, Ideal.ofBits .f32 0x3DB504F3#32 = (w : EReal) := by
    simp only [Ideal.ofBits, Ideal.ieee]
    exact ⟨_, rfl⟩
  unfold unit
  rw [hw, EReal.toReal_coe]

theorem zero_word : Ideal.ofBits .f32 0x00000000#32 = ((0 : ℝ) : EReal) := by
  simp [Ideal.ofBits, Ideal.ieee]

theorem max_real (a b : ℝ) : max (a : EReal) (b : EReal) = ((max a b : ℝ) : EReal) :=
  (EReal.coe_strictMono.monotone.map_max).symm

/-- An entry of the decay mask, from the logarithm and the two positions. -/
def fallE (l : EReal) (i j : Nat) : EReal :=
  if 0 ≤ pos i - pos j then Ideal.exp (l * max (pos i - pos j) 0) else 0

theorem fall_real (l : ℝ) (i j : Nat) (hi : i < 2048) (hj : j < 2048) : fallE l i j = ((fall l i j : ℝ) : EReal) := by
  unfold fallE fall
  rw [pos_real i (by omega), pos_real j (by omega), ← EReal.coe_zero, ← EReal.coe_sub, max_real, ← EReal.coe_mul, Ideal.exp_coe]
  by_cases h : j ≤ i
  · have : ((0 : ℝ) : EReal) ≤ (((i : ℝ) - j : ℝ) : EReal) := EReal.coe_le_coe_iff.mpr (sub_nonneg.mpr (by exact_mod_cast h))
    rw [if_pos h, if_pos this]
  · have : ¬ ((0 : ℝ) : EReal) ≤ (((i : ℝ) - j : ℝ) : EReal) := by
      rw [EReal.coe_le_coe_iff, sub_nonneg]; exact_mod_cast h
    rw [if_neg h, if_neg this]

end Cert.Ret

namespace Cert.Kernel6Ideal.Ret

open Idealize.ShloMosaic Idealize.ShloMosaic.TcCoe Cert.Kernel6Ideal.Gen Cert.Ret

variable (m : (ℓ : Loc nD τ sig) → Buf (Elt Ideal) ℓ) (c : Dev nD)

theorem V28 (H : Fin 16) (i j : Fin 128) :
    (V m c main_v28 : Vec Ideal S16x128x128 .f32) (ix3 H i j) = fallE (rateE H.val) i.val j.val * Ideal.ofBits .f32 0x3DB504F3#32 := by
  have z : id (constant (F := Ideal) S_ .f32 0x00000000#32) ix0 = (0 : EReal) := zero_word
  unfold V
  after_reads_at
  rw [z]
  refine congrArg (· * Ideal.ofBits .f32 0x3DB504F3#32) ?_
  unfold fallE
  by_cases h : 0 ≤ pos i.val - pos j.val
  · rw [if_pos h]; exact (if_pos h).symm
  · rw [if_neg h]; exact (if_neg h).symm

theorem V37 (H : Fin 16) (r : Fin 128) :
    (V m c main_v37 : Vec Ideal S16x128x1 .f32) (ix3 H r 0) = Ideal.exp (rateE H.val * (pos r.val + 1)) := by
  unfold V
  after_reads_at
  rfl

theorem V48 (H : Fin 16) (r : Fin 128) :
    (V m c main_v48 : Vec Ideal S16x128x1 .f32) (ix3 H r 0)
      = Ideal.exp (rateE H.val * (Ideal.ofBits .f32 0x42FE0000#32 - pos r.val)) * Ideal.ofBits .f32 0x3DB504F3#32 := by
  unfold V
  after_reads_at
  rfl

theorem V51 (H : Fin 16) :
    (V m c main_v51 : Vec Ideal S16 .f32) (ix1 H) = Ideal.exp (rateE H.val * Ideal.ofBits .f32 0x43000000#32) := by
  unfold V
  after_reads_at
  rfl

theorem V52 (e : Fin 4096) : (V m c main_v52 : Vec Ideal S1x4096 .f32) (ix2 0 e) = (m ((c : Thread nD τ).loc main_arg1)) (ix2 0 e) := by
  unfold V
  after_reads_at

theorem V53 (e : Fin 4096) : (V m c main_v53 : Vec Ideal S1x4096 .f32) (ix2 0 e) = (m ((c : Thread nD τ).loc main_arg2)) (ix2 0 e) := by
  unfold V
  after_reads_at

end Cert.Kernel6Ideal.Ret
-- ==== Proof.RetBlocks.lean ====
module

public import proofs.«01_k».proof.Proof.RetTable

@[expose] public section

set_option maxRecDepth 16384

noncomputable section

namespace Cert.Kernel6Ideal.Ret

open Idealize.ShloMosaic Idealize.ShloMosaic.TcCoe Cert.Kernel6Ideal.Gen Cert.Ret

/-! # What each grid point reads -/

variable (m : (ℓ : Loc nD τ sig) → Buf (Elt Ideal) ℓ) (c : Dev nD)

theorem index1 : ∀ t : Fin grid0.N, win0_1.index t 0 = 16 * (t.val / 32) + t.val % 16 ∧ win0_1.index t 1 = 6 + t.val / 16 % 2 := by decide +kernel
theorem index2 : ∀ t : Fin grid0.N, win0_2.index t 0 = 16 * (t.val / 32) + t.val % 16 ∧ win0_2.index t 1 = 8 + t.val / 16 % 2 := by decide +kernel
theorem index3 : ∀ t : Fin grid0.N, win0_3.index t 0 = 16 * (t.val / 32) + t.val % 16 ∧ win0_3.index t 1 = 5 + t.val / 16 % 2 := by decide +kernel
theorem index4 : ∀ t : Fin grid0.N, win0_4.index t 0 = 16 * (t.val / 32) + t.val % 16 ∧ win0_4.index t 1 = 7 + t.val / 16 % 2 := by decide +kernel
theorem index10 : ∀ t : Fin grid0.N, win0_10.index t 0 = 16 * (t.val / 32) + t.val % 16 ∧ win0_10.index t 1 = t.val / 16 % 2 := by decide +kernel
theorem index5 : ∀ t : Fin grid0.N, win0_5.index t 0 = t.val / 16 % 2 := by decide +kernel
theorem index6 : ∀ t : Fin grid0.N, win0_6.index t 0 = t.val / 16 % 2 := by decide +kernel
theorem index7 : ∀ t : Fin grid0.N, win0_7.index t 0 = t.val / 16 % 2 := by decide +kernel
theorem index8 : ∀ t : Fin grid0.N, win0_8.index t 1 = t.val / 16 % 2 := by decide +kernel
theorem index9 : ∀ t : Fin grid0.N, win0_9.index t 1 = t.val / 16 % 2 := by decide +kernel
theorem group : ∀ t : Fin grid0.N, ((grid0.coords t) 1).val = t.val / 16 % 2 := by decide +kernel

variable (t : Fin cfg0.N)

theorem tN : t.val < 256 := lt_of_lt_of_eq t.isLt (show cfg0.N = 256 from N_0)

theorem blk1 (r : Fin 128) (d : Fin 1024) : (iblk m c 1 t : Vec Ideal S128x1024 .bf16) (ix2 r d)
    = m ((c : Thread nD τ).loc main_arg0) (ix2 ⟨2048 * (t.val / 32) + (128 * (t.val % 16) + r.val), by have := tN t; omega⟩
        ⟨6144 + (1024 * (t.val / 16 % 2) + d.val), by omega⟩) := by
  unfold iblk
  rw [View.read_apply]
  show V m c main_arg0 _ = _
  rw [V_main_arg0]
  congr 1
  have hi := index1 t
  funext a
  apply Fin.ext
  match a with
  | ⟨0, _⟩ => show win0_1.index t 0 * 128 + 1 * r.val = _; rw [hi.1]; show _ = 2048 * (t.val / 32) + (128 * (t.val % 16) + r.val); omega
  | ⟨1, _⟩ => show win0_1.index t 1 * 1024 + 1 * d.val = _; rw [hi.2]; show _ = 6144 + (1024 * (t.val / 16 % 2) + d.val); omega

theorem blk2 (r : Fin 128) (d : Fin 1024) : (iblk m c 2 t : Vec Ideal S128x1024 .bf16) (ix2 r d)
    = m ((c : Thread nD τ).loc main_arg0) (ix2 ⟨2048 * (t.val / 32) + (128 * (t.val % 16) + r.val), by have := tN t; omega⟩
        ⟨8192 + (1024 * (t.val / 16 % 2) + d.val), by omega⟩) := by
  unfold iblk
  rw [View.read_apply]
  show V m c main_arg0 _ = _
  rw [V_main_arg0]
  congr 1
  have hi := index2 t
  funext a
  apply Fin.ext
  match a with
  | ⟨0, _⟩ => show win0_2.index t 0 * 128 + 1 * r.val = _; rw [hi.1]; show _ = 2048 * (t.val / 32) + (128 * (t.val % 16) + r.val); omega
  | ⟨1, _⟩ => show win0_2.index t 1 * 1024 + 1 * d.val = _; rw [hi.2]; show _ = 8192 + (1024 * (t.val / 16 % 2) + d.val); omega

theorem blk3 (r : Fin 128) (d : Fin 2048) : (iblk m c 3 t : Vec Ideal S128x2048 .bf16) (ix2 r d)
    = m ((c : Thread nD τ).loc main_arg0) (ix2 ⟨2048 * (t.val / 32) + (128 * (t.val % 16) + r.val), by have := tN t; omega⟩
        ⟨10240 + (2048 * (t.val / 16 % 2) + d.val), by omega⟩) := by
  unfold iblk
  rw [View.read_apply]
  show V m c main_arg0 _ = _
  rw [V_main_arg0]
  congr 1
  have hi := index3 t
  funext a
  apply Fin.ext
  match a with
  | ⟨0, _⟩ => show win0_3.index t 0 * 128 + 1 * r.val = _; rw [hi.1]; show _ = 2048 * (t.val / 32) + (128 * (t.val % 16) + r.val); omega
  | ⟨1, _⟩ => show win0_3.index t 1 * 2048 + 1 * d.val = _; rw [hi.2]; show _ = 10240 + (2048 * (t.val / 16 % 2) + d.val); omega

theorem blk4 (r : Fin 128) (d : Fin 2048) : (iblk m c 4 t : Vec Ideal S128x2048 .bf16) (ix2 r d)
    = m ((c : Thread nD τ).loc main_arg0) (ix2 ⟨2048 * (t.val / 32) + (128 * (t.val % 16) + r.val), by have := tN t; omega⟩
        ⟨14336 + (2048 * (t.val / 16 % 2) + d.val), by omega⟩) := by
  unfold iblk
  rw [View.read_apply]
  show V m c main_arg0 _ = _
  rw [V_main_arg0]
  congr 1
  have hi := index4 t
  funext a
  apply Fin.ext
  match a with
  | ⟨0, _⟩ => show win0_4.index t 0 * 128 + 1 * r.val = _; rw [hi.1]; show _ = 2048 * (t.val / 32) + (128 * (t.val % 16) + r.val); omega
  | ⟨1, _⟩ => show win0_4.index t 1 * 2048 + 1 * d.val = _; rw [hi.2]; show _ = 14336 + (2048 * (t.val / 16 % 2) + d.val); omega

theorem blk5 (h : Fin 8) (r : Fin 128) (e : Fin 128) : (iblk m c 5 t : Vec Ideal S8x128x128 .f32) (ix3 h r e)
    = (V m c main_v28 : Vec Ideal S16x128x128 .f32) (ix3 ⟨8 * (t.val / 16 % 2) + h.val, by omega⟩ r e) := by
  unfold iblk
  rw [View.read_apply]
  show V m c main_v28 _ = V m c main_v28 _
  congr 1
  have hi := index5 t
  funext a
  apply Fin.ext
  match a with
  | ⟨0, _⟩ => show win0_5.index t 0 * 8 + 1 * h.val = _; rw [hi]; show _ = 8 * (t.val / 16 % 2) + h.val; omega
  | ⟨1, _⟩ => show 0 * 128 + 1 * r.val = r.val; omega
  | ⟨2, _⟩ => show 0 * 128 + 1 * e.val = e.val; omega

theorem blk6 (h : Fin 8) (r : Fin 128) : (iblk m c 6 t : Vec Ideal S8x128x1 .f32) (ix3 h r 0)
    = (V m c main_v37 : Vec Ideal S16x128x1 .f32) (ix3 ⟨8 * (t.val / 16 % 2) + h.val, by omega⟩ r 0) := by
  unfold iblk
  rw [View.read_apply]
  show V m c main_v37 _ = V m c main_v37 _
  congr 1
  have hi := index6 t
  funext a
  apply Fin.ext
  match a with
  | ⟨0, _⟩ => show win0_6.index t 0 * 8 + 1 * h.val = _; rw [hi]; show _ = 8 * (t.val / 16 % 2) + h.val; omega
  | ⟨1, _⟩ => show 0 * 128 + 1 * r.val = r.val; omega
  | ⟨2, _⟩ => rfl

theorem blk7 (h : Fin 8) (r : Fin 128) : (iblk m c 7 t : Vec Ideal S8x128x1 .f32) (ix3 h r 0)
    = (V m c main_v48 : Vec Ideal S16x128x1 .f32) (ix3 ⟨8 * (t.val / 16 % 2) + h.val, by omega⟩ r 0) := by
  unfold iblk
  rw [View.read_apply]
  show V m c main_v48 _ = V m c main_v48 _
  congr 1
  have hi := index7 t
  funext a
  apply Fin.ext
  match a with
  | ⟨0, _⟩ => show win0_7.index t 0 * 8 + 1 * h.val = _; rw [hi]; show _ = 8 * (t.val / 16 % 2) + h.val; omega
  | ⟨1, _⟩ => show 0 * 128 + 1 * r.val = r.val; omega
  | ⟨2, _⟩ => rfl

theorem blk8 (e : Fin 2048) : (iblk m c 8 t : Vec Ideal S1x2048 .f32) (ix2 0 e)
    = m ((c : Thread nD τ).loc main_arg1) (ix2 0 ⟨2048 * (t.val / 16 % 2) + e.val, by omega⟩) := by
  refine Eq.trans ?_ (V52 m c _)
  unfold iblk
  rw [View.read_apply]
  show V m c main_v52 _ = V m c main_v52 _
  congr 1
  have hi := index8 t
  funext a
  apply Fin.ext
  match a with
  | ⟨0, _⟩ => rfl
  | ⟨1, _⟩ => show win0_8.index t 1 * 2048 + 1 * e.val = _; rw [hi]; show _ = 2048 * (t.val / 16 % 2) + e.val; omega

theorem blk9 (e : Fin 2048) : (iblk m c 9 t : Vec Ideal S1x2048 .f32) (ix2 0 e)
    = m ((c : Thread nD τ).loc main_arg2) (ix2 0 ⟨2048 * (t.val / 16 % 2) + e.val, by omega⟩) := by
  refine Eq.trans ?_ (V53 m c _)
  unfold iblk
  rw [View.read_apply]
  show V m c main_v53 _ = V m c main_v53 _
  congr 1
  have hi := index9 t
  funext a
  apply Fin.ext
  match a with
  | ⟨0, _⟩ => rfl
  | ⟨1, _⟩ => show win0_9.index t 1 * 2048 + 1 * e.val = _; rw [hi]; show _ = 2048 * (t.val / 16 % 2) + e.val; omega

theorem blk0 : (iblk m c 0 t : Vec Ideal S16 .f32) = V m c main_v51 := by
  funext y
  unfold iblk
  rw [View.read_apply]
  show V m c main_v51 _ = V m c main_v51 y
  congr 1
  funext a
  apply Fin.ext
  match a with
  | ⟨0, _⟩ => show 0 * 16 + 1 * (y 0).val = (y 0).val; omega

/-! ## The reads of one head -/

theorem rD_apply (i : grid0.Coords) (a : Memref sig .tc .smem S16 .f32) (ha : a.IsWhole) (x : Vec Ideal S16 .f32) (h : Fin 8) (H : Fin 16)
    (hH : H.val = 8 * (i 1).val + h.val) : rD i a ha x h = x (ix1 H) := by
  unfold rD
  rw [View.readAt_eq_ld, ha.read_unread]
  show x _ = x _
  congr 1
  funext b
  match b with
  | ⟨0, _⟩ =>
    apply Fin.ext
    show k0_off1 i (BitVec.ofNat 32 h.val) 0 + 1 * 0 = H.val
    have h1 : (i 1).val < 2 := (i 1).isLt
    have e : k0_off1 i (BitVec.ofNat 32 h.val) 0 = 8 * (i 1).val + h.val := by
      show (BitVec.ofNat 32 (i 1).val * 8#32 + BitVec.ofNat 32 h.val).toNat = _
      simp only [BitVec.toNat_add, BitVec.toNat_mul, BitVec.toNat_ofNat]
      omega
    rw [e, hH]; omega

theorem rQ_apply (a : Memref sig .tc .vmem S128x1024 .bf16) (ha : a.IsWhole) (x : Vec Ideal S128x1024 .bf16) (h : Fin 8) (r d : Fin 128) :
    rQ a ha x h (ix2 r d) = x (ix2 r ⟨128 * h.val + d.val, by omega⟩) := by
  unfold rQ
  rw [View.readAt_eq_ld, ha.read_unread]
  show x _ = x _
  congr 1
  funext b
  apply Fin.ext
  match b with
  | ⟨0, _⟩ => show 0 + 1 * r.val = r.val; omega
  | ⟨1, _⟩ => show 128 * h.val + 1 * d.val = 128 * h.val + d.val; omega

theorem rV_apply (a : Memref sig .tc .vmem S128x2048 .bf16) (ha : a.IsWhole) (x : Vec Ideal S128x2048 .bf16) (h : Fin 8) (r : Fin 128) (e : Fin 256) :
    rV a ha x h (ix2 r e) = x (ix2 r ⟨256 * h.val + e.val, by omega⟩) := by
  unfold rV
  rw [View.readAt_eq_ld, ha.read_unread]
  show x _ = x _
  congr 1
  funext b
  apply Fin.ext
  match b with
  | ⟨0, _⟩ => show 0 + 1 * r.val = r.val; omega
  | ⟨1, _⟩ => show 256 * h.val + 1 * e.val = 256 * h.val + e.val; omega

theorem rW_apply (a : Memref sig .tc .vmem S1x2048 .f32) (ha : a.IsWhole) (x : Vec Ideal S1x2048 .f32) (h : Fin 8) (e : Fin 256) :
    rW a ha x h (ix2 0 e) = x (ix2 0 ⟨256 * h.val + e.val, by omega⟩) := by
  unfold rW
  rw [View.readAt_eq_ld, ha.read_unread]
  show x _ = x _
  congr 1
  funext b
  apply Fin.ext
  match b with
  | ⟨0, _⟩ => rfl
  | ⟨1, _⟩ => show 256 * h.val + 1 * e.val = 256 * h.val + e.val; omega

theorem rM_apply (a : Memref sig .tc .vmem S8x128x128 .f32) (ha : a.IsWhole) (x : Vec Ideal S8x128x128 .f32) (h : Fin 8) (r : Fin 128) (e : Fin 128) :
    rM a ha x h (ix3 0 r e) = x (ix3 h r e) := by
  unfold rM
  rw [View.readAt_eq_ld, ha.read_unread]
  show x _ = x _
  congr 1
  funext b
  apply Fin.ext
  match b with
  | ⟨0, _⟩ => rfl
  | ⟨1, _⟩ => show 0 + 1 * r.val = r.val; omega
  | ⟨2, _⟩ => show 0 + 1 * e.val = e.val; omega

theorem rC_apply (a : Memref sig .tc .vmem S8x128x1 .f32) (ha : a.IsWhole) (x : Vec Ideal S8x128x1 .f32) (h : Fin 8) (r : Fin 128) :
    rC a ha x h (ix3 0 r 0) = x (ix3 h r 0) := by
  unfold rC
  rw [View.readAt_eq_ld, ha.read_unread]
  show x _ = x _
  congr 1
  funext b
  apply Fin.ext
  match b with
  | ⟨0, _⟩ => rfl
  | ⟨1, _⟩ => show 0 + 1 * r.val = r.val; omega
  | ⟨2, _⟩ => rfl

theorem rT_apply (a : Memref sig .tc .vmem S8x128x256 .f32) (ha : a.IsWhole) (x : Vec Ideal S8x128x256 .f32) (h : Fin 8) (r : Fin 128) (e : Fin 256) :
    rT a ha x h (ix3 0 r e) = x (ix3 h r e) := by
  unfold rT
  rw [View.readAt_eq_ld, ha.read_unread]
  show x _ = x _
  congr 1
  funext b
  apply Fin.ext
  match b with
  | ⟨0, _⟩ => rfl
  | ⟨1, _⟩ => show 0 + 1 * r.val = r.val; omega
  | ⟨2, _⟩ => show 0 + 1 * e.val = e.val; omega

end Cert.Kernel6Ideal.Ret
-- ==== Proof.RetPoint.lean ====
module

public import proofs.«01_k».proof.Proof.RetBlocks
public import proofs.«01_k».proof.Proof.RetMath
public import proofs.«01_k».proof.Proof.RetElem

@[expose] public section

set_option maxRecDepth 16384

noncomputable section

namespace Cert.Ret

open Idealize.ShloMosaic

/-! # The heads' queries, keys and values, by sequence and head -/

def qOf (x : Nat → Nat → ℝ) (b H : Nat) (j : Nat) (d : Fin 128) : ℝ := x (2048 * b + j) (6144 + (128 * H + d.val))
def kOf (x : Nat → Nat → ℝ) (b H : Nat) (j : Nat) (d : Fin 128) : ℝ := x (2048 * b + j) (8192 + (128 * H + d.val))
def vOf (x : Nat → Nat → ℝ) (b H : Nat) (e : Fin 256) (j : Nat) : ℝ := x (2048 * b + j) (10240 + (256 * H + e.val))

/-- The state a chunk finds. -/
def held (x : Nat → Nat → ℝ) (b H c : Nat) (d : Fin 128) (e : Fin 256) : ℝ :=
  state (rate H) unit (kOf x b H) (vOf x b H e) c d

/-- A row of a head's retention. -/
def row (x : Nat → Nat → ℝ) (b H s : Nat) (e : Fin 256) : ℝ :=
  full (rate H) unit (qOf x b H) (kOf x b H) (vOf x b H e) s

theorem word127 : Ideal.ofBits .f32 0x42FE0000#32 = ((127 : ℝ) : EReal) := by
  simp [Ideal.ofBits, Ideal.ieee, -EReal.coe_mul]; norm_cast; norm_num

theorem word128 : Ideal.ofBits .f32 0x43000000#32 = ((128 : ℝ) : EReal) := by
  simp [Ideal.ofBits, Ideal.ieee, -EReal.coe_mul]; norm_cast; norm_num

end Cert.Ret

namespace Cert.Kernel6Ideal.Ret

open Idealize.ShloMosaic Idealize.ShloMosaic.TcCoe Cert.Kernel6Ideal.Gen Cert.Ret

variable (m : (ℓ : Loc nD τ sig) → Buf (Elt Ideal) ℓ) (c : Dev nD) (x : Nat → Nat → ℝ)

/-- The retention's columns of the projection are real. -/
def Reals : Prop := ∀ (i : Fin 16384) (j : Fin 26624), 6144 ≤ j.val → j.val < 14336 →
  m ((c : Thread nD τ).loc main_arg0) (ix2 i j) = ((x i.val j.val : ℝ) : EReal)

variable (t : Fin cfg0.N)

/-- The head a point's `h` stands for. -/
abbrev hd (h : Fin 8) : Nat := 8 * (t.val / 16 % 2) + h.val

abbrev NX (st : Fin 8 → Vec Ideal S1x128x256 .f32) : Fin 8 → FVec Ideal S1x128x256 .f32 :=
  nexts (grid0.coords t) (ms0_0 t) (hs0_0 t) (ms0_2 t) (hs0_2 t) (ms0_3 t) (hs0_3 t) (ms0_7 t) (hs0_7 t)
    (iblk m c 0 t) (iblk m c 2 t) (iblk m c 3 t) (iblk m c 7 t) st

abbrev OT (st : Fin 8 → Vec Ideal S1x128x256 .f32) : Fin 8 → FVec Ideal S128x256 .bf16 :=
  outs (ms0_1 t) (hs0_1 t) (ms0_2 t) (hs0_2 t) (ms0_3 t) (hs0_3 t) (ms0_4 t) (hs0_4 t) (ms0_5 t) (hs0_5 t) (ms0_6 t) (hs0_6 t)
    (ms0_8 t) (hs0_8 t) (ms0_9 t) (hs0_9 t) (iblk m c 1 t) (iblk m c 2 t) (iblk m c 3 t) (iblk m c 4 t) (iblk m c 5 t) (iblk m c 6 t)
    (iblk m c 8 t) (iblk m c 9 t) st

abbrev before : Vec Ideal S8x128x256 .f32 := (outsAt0 m c (t.val - 1) (Nat.lt_of_le_of_lt (Nat.sub_le _ _) t.isLt)).2

theorem first_state (h : t.val % 16 = 0) : (outsAt0 m c t.val t.isLt).2
    = View.canon (down.map (sPiece (NX m c t fun _ => none0)) ++ [clear]) := by
  rw [outsAt0_A m c t h]
  dsimp only
  unfold sout0_A_0
  rw [View.read_writes_junk_eq_canon, run_A_state, firsts_eq]

theorem first_out (h : t.val % 16 = 0) : (outsAt0 m c t.val t.isLt).1
    = View.canon (down.map (oPiece (OT m c t fun _ => none0))) := by
  rw [outsAt0_A m c t h]
  dsimp only
  unfold out0_A_10
  rw [View.read_writes_junk_eq_canon, run_A_out, firsts_eq]

theorem later_state (h : ¬t.val % 16 = 0) : (outsAt0 m c t.val t.isLt).2
    = View.canon (down.map (sPiece (NX m c t (rT scM0_0 (Memref.isWhole_whole _) (before m c t)))) ++ []) := by
  rw [outsAt0_B m c t h, List.append_nil]
  dsimp only
  unfold sout0_B_0
  rw [View.read_writes_junk_eq_canon, run_B_state]

theorem later_out (h : ¬t.val % 16 = 0) : (outsAt0 m c t.val t.isLt).1
    = View.canon (down.map (oPiece (OT m c t (rT scM0_0 (Memref.isWhole_whole _) (before m c t))))) := by
  rw [outsAt0_B m c t h]
  dsimp only
  unfold out0_B_10
  rw [View.read_writes_junk_eq_canon, run_B_out]

theorem out_apply (O : Fin 8 → FVec Ideal S128x256 .bf16) (h : Fin 8) (r : Fin 128) (e : Fin 256) :
    View.canon (down.map (oPiece O)) (ix2 r ⟨256 * h.val + e.val, by omega⟩) = O h (ix2 r e) := by
  let G : S128x2048.Idx → Ideal .bf16 := fun y =>
    O ⟨(y 1).val / 256, by have : (y 1).val < 2048 := (y 1).isLt; omega⟩ (ix2 ⟨(y 0).val, (y 0).isLt⟩ ⟨(y 1).val % 256, by omega⟩)
  have key := View.canon_apply_of_pieces G (down.map (oPiece O)) (by
    intro p hp y
    obtain ⟨g, _, rfl⟩ := List.mem_map.mp hp
    have hy : (y 1).val < 256 := (y 1).isLt
    have e0 : (((Rect.unit (s := S128x2048) ![0, 256 * g.val] S128x256.size (inV g)).emb y) 0).val = (y 0).val := by
      show 0 + 1 * (y 0).val = _; omega
    have e1 : (((Rect.unit (s := S128x2048) ![0, 256 * g.val] S128x256.size (inV g)).emb y) 1).val = 256 * g.val + (y 1).val := by
      show 256 * g.val + 1 * (y 1).val = _; omega
    show O g y = G _
    simp only [G]
    have q1 : (⟨(((Rect.unit (s := S128x2048) ![0, 256 * g.val] S128x256.size (inV g)).emb y) 1).val / 256,
        by rw [e1]; omega⟩ : Fin 8) = g := Fin.ext (by show _ / 256 = g.val; rw [e1]; omega)
    show O g y = O (⟨(((Rect.unit (s := S128x2048) ![0, 256 * g.val] S128x256.size (inV g)).emb y) 1).val / 256, _⟩) _
    rw [q1]
    congr 1
    funext a
    apply Fin.ext
    match a with
    | ⟨0, _⟩ => exact e0.symm
    | ⟨1, _⟩ =>
      show (y 1).val = (((Rect.unit (s := S128x2048) ![0, 256 * g.val] S128x256.size (inV g)).emb y) 1).val % 256
      rw [e1]; omega)
    (ix2 r ⟨256 * h.val + e.val, by omega⟩) (by
      have hm : h ∈ down := by revert h; decide
      refine ⟨oPiece O h, List.mem_map.mpr ⟨h, hm, rfl⟩, ?_⟩
      show _ ∈ (Rect.unit (s := S128x2048) ![0, 256 * h.val] S128x256.size (inV h)).set
      refine Rect.mem_set_unit.mpr fun a => ?_
      match a with
      | ⟨0, _⟩ => exact ⟨Nat.zero_le _, by show r.val < 0 + 128; omega⟩
      | ⟨1, _⟩ => exact ⟨by show 256 * h.val ≤ 256 * h.val + e.val; omega, by show 256 * h.val + e.val < 256 * h.val + 256; omega⟩)
  refine key.trans ?_
  simp only [G]
  have q1 : (⟨(256 * h.val + e.val) / 256, by omega⟩ : Fin 8) = h := Fin.ext (by show _ / 256 = h.val; omega)
  show O ⟨(256 * h.val + e.val) / 256, _⟩ _ = _
  rw [q1]
  congr 1
  funext a
  apply Fin.ext
  match a with
  | ⟨0, _⟩ => rfl
  | ⟨1, _⟩ => show (256 * h.val + e.val) % 256 = e.val; omega

/-! ## The reads, as reals -/

variable {m c x}

theorem qAt (hx : Reals m c x) (h : Fin 8) (r d : Fin 128) : rQ (ms0_1 t) (hs0_1 t) (iblk m c 1 t) h (ix2 r d)
    = ((qOf x (t.val / 32) (hd t h) (128 * (t.val % 16) + r.val) d : ℝ) : EReal) := by
  rw [rQ_apply, blk1, hx _ _ (by dsimp only; omega) (by dsimp only; omega)]
  unfold qOf
  dsimp only [hd]
  congr 2; omega

theorem kAt (hx : Reals m c x) (h : Fin 8) (r d : Fin 128) : rQ (ms0_2 t) (hs0_2 t) (iblk m c 2 t) h (ix2 r d)
    = ((kOf x (t.val / 32) (hd t h) (128 * (t.val % 16) + r.val) d : ℝ) : EReal) := by
  rw [rQ_apply, blk2, hx _ _ (by dsimp only; omega) (by dsimp only; omega)]
  unfold kOf
  dsimp only [hd]
  congr 2; omega

theorem vAt (hx : Reals m c x) (h : Fin 8) (r : Fin 128) (e : Fin 256) : rV (ms0_3 t) (hs0_3 t) (iblk m c 3 t) h (ix2 r e)
    = ((vOf x (t.val / 32) (hd t h) e (128 * (t.val % 16) + r.val) : ℝ) : EReal) := by
  rw [rV_apply, blk3, hx _ _ (by dsimp only; omega) (by dsimp only; omega)]
  unfold vOf
  dsimp only [hd]
  congr 2; omega

theorem mAt (h : Fin 8) (r j : Fin 128) : rM (ms0_5 t) (hs0_5 t) (iblk m c 5 t) h (ix3 0 r j)
    = ((fall (rate (hd t h)) r.val j.val * unit : ℝ) : EReal) := by
  rw [rM_apply, blk5, V28, rate_real _ (by dsimp only; omega), fall_real _ _ _ (by omega) (by omega), unit_real, ← EReal.coe_mul]

theorem cAt (h : Fin 8) (r : Fin 128) : rC (ms0_6 t) (hs0_6 t) (iblk m c 6 t) h (ix3 0 r 0)
    = ((Real.exp (rate (hd t h) * (r.val + 1)) : ℝ) : EReal) := by
  rw [rC_apply, blk6, V37, rate_real _ (by dsimp only; omega), pos_real _ (by omega), ← EReal.coe_one, ← EReal.coe_add, ← EReal.coe_mul,
    Ideal.exp_coe]

theorem sAt (h : Fin 8) (r : Fin 128) : rC (ms0_7 t) (hs0_7 t) (iblk m c 7 t) h (ix3 0 r 0)
    = ((Real.exp (rate (hd t h) * (127 - r.val)) * unit : ℝ) : EReal) := by
  rw [rC_apply, blk7, V48, rate_real _ (by dsimp only; omega), pos_real _ (by omega), word127, unit_real, ← EReal.coe_sub, ← EReal.coe_mul,
    Ideal.exp_coe, ← EReal.coe_mul]

theorem dAt (h : Fin 8) : rD (grid0.coords t) (ms0_0 t) (hs0_0 t) (iblk m c 0 t) h
    = ((Real.exp (rate (hd t h) * 128) : ℝ) : EReal) := by
  rw [rD_apply _ _ _ _ h ⟨hd t h, by dsimp only [hd]; omega⟩ (by rw [group t]), blk0, V51, rate_real _ (by dsimp only [hd]; omega), word128, ← EReal.coe_mul, Ideal.exp_coe]

/-! ## One point -/

theorem step (hx : Reals m c x) (st : Fin 8 → Vec Ideal S1x128x256 .f32)
    (hst : ∀ h d e, st h (ix3 0 d e) = ((held x (t.val / 32) (hd t h) (t.val % 16) d e : ℝ) : EReal)) (h : Fin 8) (d : Fin 128) (e : Fin 256) :
    NX m c t st h (ix3 0 d e) = ((held x (t.val / 32) (hd t h) (t.val % 16 + 1) d e : ℝ) : EReal) := by
  refine (next_apply _ _ _ _ _ d e).trans ?_
  rw [hst, dAt]
  simp only [kAt t hx, sAt, vAt t hx, ← EReal.coe_mul, ← Cert.Da.coe_sum, ← EReal.coe_add]
  unfold held
  rw [state_next]

theorem raws (hx : Reals m c x) (st : Fin 8 → Vec Ideal S1x128x256 .f32)
    (hst : ∀ h d e, st h (ix3 0 d e) = ((held x (t.val / 32) (hd t h) (t.val % 16) d e : ℝ) : EReal)) (h : Fin 8) (r : Fin 128) (e : Fin 256) :
    raw (st h) (rQ (ms0_1 t) (hs0_1 t) (iblk m c 1 t) h) (rQ (ms0_2 t) (hs0_2 t) (iblk m c 2 t) h) (rV (ms0_3 t) (hs0_3 t) (iblk m c 3 t) h)
      (rM (ms0_5 t) (hs0_5 t) (iblk m c 5 t) h) (rC (ms0_6 t) (hs0_6 t) (iblk m c 6 t) h) (ix2 r e)
      = ((row x (t.val / 32) (hd t h) (128 * (t.val % 16) + r.val) e : ℝ) : EReal) := by
  rw [raw_apply]
  simp only [qAt t hx, kAt t hx, vAt t hx, mAt, cAt, hst, ← EReal.coe_mul, ← Cert.Da.coe_sum, ← EReal.coe_add]
  unfold row held
  rw [full_eq_split _ _ _ _ _ _ _ r.isLt (by omega)]
  rfl

theorem made (hx : Reals m c x) (st : Fin 8 → Vec Ideal S1x128x256 .f32)
    (hst : ∀ h d e, st h (ix3 0 d e) = ((held x (t.val / 32) (hd t h) (t.val % 16) d e : ℝ) : EReal)) (h : Fin 8) (r : Fin 128) (e : Fin 256) :
    OT m c t st h (ix2 r e)
      = finish (fun y => ((row x (t.val / 32) (hd t h) (128 * (t.val % 16) + r.val) y : ℝ) : EReal))
          (m ((c : Thread nD τ).loc main_arg1) (ix2 0 ⟨2048 * (t.val / 16 % 2) + (256 * h.val + e.val), by omega⟩))
          (m ((c : Thread nD τ).loc main_arg2) (ix2 0 ⟨2048 * (t.val / 16 % 2) + (256 * h.val + e.val), by omega⟩))
          (m ((c : Thread nD τ).loc main_arg0) (ix2 ⟨2048 * (t.val / 32) + (128 * (t.val % 16) + r.val), by have := tN t; omega⟩
            ⟨14336 + (2048 * (t.val / 16 % 2) + (256 * h.val + e.val)), by omega⟩)) e := by
  refine (normed_apply _ _ _ _ r e).trans ?_
  rw [rW_apply, rW_apply, rV_apply, blk8, blk9, blk4]
  simp only [raws t hx st hst]

variable (m c x)

theorem start (h : Fin 8) (d : Fin 128) (e : Fin 256) (h0 : t.val % 16 = 0) :
    (none0 : Vec Ideal S1x128x256 .f32) (ix3 0 d e) = ((held x (t.val / 32) (hd t h) (t.val % 16) d e : ℝ) : EReal) := by
  unfold held
  rw [h0, state_zero]
  exact zero_word

theorem at_state (h : Fin 8) (d : Fin 128) (e : Fin 256) : (ix3 h d e : S8x128x256.Idx) = (rS h).emb (ix3 0 d e) := by
  funext a
  apply Fin.ext
  match a with
  | ⟨0, _⟩ => show h.val = h.val + 1 * 0; omega
  | ⟨1, _⟩ => show d.val = 0 + 1 * d.val; omega
  | ⟨2, _⟩ => show e.val = 0 + 1 * e.val; omega

/-- After every point the scratch holds the heads' states. -/
theorem carried (hx : Reals m c x) : ∀ (n : Nat) (hn : n < cfg0.N) (h : Fin 8) (d : Fin 128) (e : Fin 256),
    (outsAt0 m c n hn).2 (ix3 h d e) = ((held x (n / 32) (8 * (n / 16 % 2) + h.val) (n % 16 + 1) d e : ℝ) : EReal) := by
  intro n
  induction n with
  | zero =>
    intro hn h d e
    have a := first_state m c ⟨0, hn⟩ rfl
    simp only at a
    rw [a, at_state, state_apply]
    exact step ⟨0, hn⟩ hx _ (fun h d e => start x ⟨0, hn⟩ h d e rfl) h d e
  | succ n ih =>
    intro hn h d e
    by_cases h0 : (n + 1) % 16 = 0
    · have a := first_state m c ⟨n + 1, hn⟩ h0
      simp only at a
      rw [a, at_state, state_apply]
      exact step ⟨n + 1, hn⟩ hx _ (fun h d e => start x ⟨n + 1, hn⟩ h d e h0) h d e
    · have a := later_state m c ⟨n + 1, hn⟩ h0
      simp only at a
      rw [a, at_state, state_apply]
      refine step ⟨n + 1, hn⟩ hx _ (fun h d e => ?_) h d e
      rw [rT_apply]
      have k := ih (Nat.lt_of_succ_lt hn) h d e
      rw [show n / 32 = (n + 1) / 32 by omega, show n / 16 % 2 = (n + 1) / 16 % 2 by omega, show n % 16 + 1 = (n + 1) % 16 by omega] at k
      exact k

/-- Every point's output block, head by head. -/
theorem point (hx : Reals m c x) (h : Fin 8) (r : Fin 128) (e : Fin 256) :
    (outsAt0 m c t.val t.isLt).1 (ix2 r ⟨256 * h.val + e.val, by omega⟩)
      = finish (fun y => ((row x (t.val / 32) (hd t h) (128 * (t.val % 16) + r.val) y : ℝ) : EReal))
          (m ((c : Thread nD τ).loc main_arg1) (ix2 0 ⟨2048 * (t.val / 16 % 2) + (256 * h.val + e.val), by omega⟩))
          (m ((c : Thread nD τ).loc main_arg2) (ix2 0 ⟨2048 * (t.val / 16 % 2) + (256 * h.val + e.val), by omega⟩))
          (m ((c : Thread nD τ).loc main_arg0) (ix2 ⟨2048 * (t.val / 32) + (128 * (t.val % 16) + r.val), by have := tN t; omega⟩
            ⟨14336 + (2048 * (t.val / 16 % 2) + (256 * h.val + e.val)), by omega⟩)) e := by
  by_cases h0 : t.val % 16 = 0
  · rw [first_out m c t h0, out_apply]
    exact made t hx _ (fun h d e => start x t h d e h0) h r e
  · rw [later_out m c t h0, out_apply]
    refine made t hx _ (fun h d e => ?_) h r e
    rw [rT_apply]
    have k := carried m c x hx (t.val - 1) (Nat.lt_of_le_of_lt (Nat.sub_le _ _) t.isLt) h d e
    rw [show (t.val - 1) / 32 = t.val / 32 by omega, show (t.val - 1) / 16 % 2 = t.val / 16 % 2 by omega,
      show (t.val - 1) % 16 + 1 = t.val % 16 by omega] at k
    exact k

end Cert.Kernel6Ideal.Ret
-- ==== Proof.RetFinal.lean ====
module

public import proofs.«01_k».proof.Proof.RetPoint
public import Idealize.ShloMosaic.Lib.Pipeline.ValueKit.Geometry

@[expose] public section

set_option maxRecDepth 16384

noncomputable section

namespace Cert.Ret

open Idealize.ShloMosaic

/-- The whole retention, row by row and head by head: from the projection's real entries `x`, the weights and the gates. -/
def whole (x : Nat → Nat → ℝ) (w b : Fin 4096 → EReal) (g : Fin 16384 → Fin 26624 → EReal) (s : Fin 16384) (d : Fin 4096) : EReal :=
  finish (fun y => ((row x (s.val / 2048) (d.val / 256) (s.val % 2048) y : ℝ) : EReal)) (w d) (b d) (g s ⟨14336 + d.val, by omega⟩)
    ⟨d.val % 256, Nat.mod_lt _ (by decide)⟩

end Cert.Ret

namespace Cert.Kernel6Ideal.Ret

open Idealize.ShloMosaic Idealize.ShloMosaic.TcCoe Cert.Kernel6Ideal.Gen Cert.Ret

variable (m : (ℓ : Loc nD τ sig) → Buf (Elt Ideal) ℓ) (c : Dev nD)

theorem covers10 : (cfg0.win 10).Covers := by decide +kernel

theorem point_whole (x : Nat → Nat → ℝ) (hx : Reals m c x) (t : Fin cfg0.N) (y0 : Fin 128) (y1 : Fin 2048) (s : Fin 16384) (d : Fin 4096)
    (hs : s.val = 2048 * (t.val / 32) + (128 * (t.val % 16) + y0.val)) (hd : d.val = 2048 * (t.val / 16 % 2) + y1.val) :
    (outsAt0 m c t.val t.isLt).1 (ix2 y0 y1)
      = whole x (fun d => m ((c : Thread nD τ).loc main_arg1) (ix2 0 d)) (fun d => m ((c : Thread nD τ).loc main_arg2) (ix2 0 d))
          (fun i j => m ((c : Thread nD τ).loc main_arg0) (ix2 i j)) s d := by
  have ht := tN t
  have hy : y1 = ⟨256 * (⟨y1.val / 256, by omega⟩ : Fin 8).val + (⟨y1.val % 256, by omega⟩ : Fin 256).val, by dsimp only; omega⟩ :=
    Fin.ext (by dsimp only; omega)
  refine (congrArg (fun y => (outsAt0 m c t.val t.isLt).1 (ix2 y0 y)) hy).trans ?_
  refine (point m c x t hx ⟨y1.val / 256, by omega⟩ y0 ⟨y1.val % 256, by omega⟩).trans ?_
  unfold whole
  have a0 : s.val / 2048 = t.val / 32 := by omega
  have a1 : s.val % 2048 = 128 * (t.val % 16) + y0.val := by omega
  have b0 : d.val / 256 = Ret.hd t ⟨y1.val / 256, by omega⟩ := by dsimp only [Ret.hd]; omega
  have b1 : d.val % 256 = y1.val % 256 := by omega
  have es : (⟨2048 * (t.val / 32) + (128 * (t.val % 16) + y0.val), by omega⟩ : Fin 16384) = s := Fin.ext hs.symm
  have ed : (⟨2048 * (t.val / 16 % 2) + (256 * (y1.val / 256) + y1.val % 256), by omega⟩ : Fin 4096) = d := Fin.ext (by dsimp only; omega)
  have eg : (⟨14336 + (2048 * (t.val / 16 % 2) + (256 * (y1.val / 256) + y1.val % 256)), by omega⟩ : Fin 26624) = ⟨14336 + d.val, by omega⟩ :=
    Fin.ext (by dsimp only; omega)
  simp only [a0, a1, b0, b1]
  rw [es, ed, eg]

theorem final (x : Nat → Nat → ℝ) (hx : Reals m c x) :
    (dats m 0 c).arrAt 10 cfg0.N
      = (fun i => whole x (fun d => m ((c : Thread nD τ).loc main_arg1) (ix2 0 d)) (fun d => m ((c : Thread nD τ).loc main_arg2) (ix2 0 d))
          (fun i j => m ((c : Thread nD τ).loc main_arg0) (ix2 i j)) (i 0) (i 1) : Vec Ideal S16384x4096 .bf16) := by
  refine (dats m 0 c).arrAt_eq_of_covers 10 _ covers10 fun t hf y => ?_
  have hi := index10 t
  have e0 : (((cfg0.win 10).blk t).view.emb y 0).val = win0_10.index t 0 * 128 + 1 * (y 0).val := rfl
  have e1 : (((cfg0.win 10).blk t).view.emb y 1).val = win0_10.index t 1 * 2048 + 1 * (y 1).val := rfl
  have h0 : (y 0).val < 128 := (y 0).isLt
  have h1 : (y 1).val < 2048 := (y 1).isLt
  show (dats m 0 c).after 10 t _ = _
  rw [after0_10]
  have hy : (fun a => ⟨(y a).val, by
      match a with
      | ⟨0, _⟩ => exact h0
      | ⟨1, _⟩ => exact h1⟩ : S128x2048.Idx)
      = ix2 ⟨(y 0).val, h0⟩ ⟨(y 1).val, h1⟩ := by
    funext a
    apply Fin.ext
    match a with
    | ⟨0, _⟩ => rfl
    | ⟨1, _⟩ => rfl
  refine (congrArg (outsAt0 m c t.val t.isLt).1 hy).trans ?_
  refine point_whole m c x hx t _ _ _ _ ?_ ?_
  · rw [e0, hi.1]; dsimp only; omega
  · rw [e1, hi.2]; dsimp only; omega

end Cert.Kernel6Ideal.Ret
-- ==== Proof.RetRef.lean ====
module

public import proofs.«01_k».proof.Proof.RetPoint
public import proofs.«01_k».proof.Proof.Gen.Reference6Ideal.Run
public import Idealize.ShloMosaic.Lib.Pointwise

@[expose] public section

set_option maxRecDepth 16384

noncomputable section

namespace Cert.Reference6Ideal.Ret

open Idealize.ShloMosaic Idealize.ShloMosaic.TcCoe Cert.Reference6Ideal.Gen Cert.Ret

/-! # The reference's retention, stage by stage -/

variable (x0 : FVec Ideal S16384x26624 .bf16) (x1 x2 : FVec Ideal S1x4096 .f32)

def val : FVec Ideal S8x2048x16x256 .f32 :=
  shapeCast _ (extf .f32 (extractStridedSlice S16384x4096 ![0, 10240] x0 slices_S16384x26624_S16384x4096_0_10240) bitsLt_bf16_f32) shapeCasts_S16384x4096_S8x2048x16x256

def qry : FVec Ideal S8x2048x16x128 .f32 :=
  shapeCast _ (extf .f32 (extractStridedSlice S16384x2048 ![0, 6144] x0 slices_S16384x26624_S16384x2048_0_6144) bitsLt_bf16_f32) shapeCasts_S16384x2048_S8x2048x16x128

def key : FVec Ideal S8x2048x16x128 .f32 :=
  mulf (shapeCast _ (extf .f32 (extractStridedSlice S16384x2048 ![0, 8192] x0 slices_S16384x26624_S16384x2048_0_8192) bitsLt_bf16_f32) shapeCasts_S16384x2048_S8x2048x16x128) (broadcastInDim S8x2048x16x128 ![] bcast_S_S8x2048x16x128 (constant S_ .f32 0x3DB504F3#32))

def dist : FVec Ideal S2048x2048 .f32 :=
  subf (broadcastInDim S2048x2048 ![0, 1] bcast_S2048x1_S2048x2048_0_1 (broadcastInDim S2048x1 ![0] bcast_S2048_S2048x1_0 (sitofp .f32 (iotaInDim S2048 32 0)))) (broadcastInDim S2048x2048 ![0, 1] bcast_S1x2048_S2048x2048_0_1 (broadcastInDim S1x2048 ![1] bcast_S2048_S1x2048_1 (sitofp .f32 (iotaInDim S2048 32 0))))

def rates : FVec Ideal S16 .f32 :=
  Host.log (subf (broadcastInDim S16 ![] bcast_S_S16 (constant S_ .f32 0x3F800000#32)) (Host.powf (broadcastInDim S16 ![] bcast_S_S16 (constant S_ .f32 0x40000000#32)) (subf (broadcastInDim S16 ![] bcast_S_S16 (constant S_ .f32 0xC0A00000#32)) (sitofp .f32 (iotaInDim S16 32 0)))))

def decay : FVec Ideal S16x2048x2048 .f32 :=
  select (broadcastInDim S16x2048x2048 ![1, 2] bcast_S2048x2048_S16x2048x2048_1_2 (cmpf .oge dist (broadcastInDim S2048x2048 ![] bcast_S_S2048x2048 (constant S_ .f32 0x00000000#32)))) (Host.exp (mulf (broadcastInDim S16x2048x2048 ![0, 1, 2] bcast_S16x1x1_S16x2048x2048_0_1_2 (broadcastInDim S16x1x1 ![0] bcast_S16_S16x1x1_0 rates)) (broadcastInDim S16x2048x2048 ![0, 1, 2] bcast_S1x2048x2048_S16x2048x2048_0_1_2 (broadcastInDim S1x2048x2048 ![1, 2] bcast_S2048x2048_S1x2048x2048_1_2 (maximumf dist (broadcastInDim S2048x2048 ![] bcast_S_S2048x2048 (constant S_ .f32 0x00000000#32))))))) (broadcastInDim S16x2048x2048 ![] bcast_S_S16x2048x2048 (id (constant S_ .f32 0x00000000#32)))

def scores : FVec Ideal S8x16x2048x2048 .f32 :=
  mulf (Host.dotGeneral dot_S8x2048x16x128_S8x2048x16x128_S8x16x2048x2048_3_3_1_1_02_02 none (qry x0) (key x0)) (broadcastInDim S8x16x2048x2048 ![0, 1, 2, 3] bcast_S1x16x2048x2048_S8x16x2048x2048_0_1_2_3 (broadcastInDim S1x16x2048x2048 ![1, 2, 3] bcast_S16x2048x2048_S1x16x2048x2048_1_2_3 decay))

def outs : FVec Ideal S8x2048x16x256 .f32 :=
  transpose S8x2048x16x256 [0, 3, 1, 2] (Host.dotGeneral dot_S8x2048x16x256_S8x16x2048x2048_S8x16x256x2048_1_3_3_2_02_01 none (val x0) (scores x0)) transposes_S8x16x256x2048_S8x2048x16x256_0_3_1_2

def mean (y : FVec Ideal S8x2048x16x256 .f32) : FVec Ideal S8x2048x16x1 .f32 :=
  Host.divf (broadcastInDim S8x2048x16x1 ![0, 1, 2] bcast_S8x2048x16_S8x2048x16x1_0_1_2 (Host.reduceAdd y (constant S_ .f32 0x00000000#32) reducesTo_S8x2048x16x256_S8x2048x16_d3 h_S_)) (broadcastInDim S8x2048x16x1 ![] bcast_S_S8x2048x16x1 (constant S_ .f32 0x43800000#32))

def away (r : FVec Ideal S8x2048x16x256 .f32) : FVec Ideal S8x2048x16x256 .f32 :=
  subf r (broadcastInDim S8x2048x16x256 ![0, 1, 2, 3] bcast_S8x2048x16x1_S8x2048x16x256_0_1_2_3 (mean r))

def gate : FVec Ideal S16384x4096 .f32 :=
  mulf (extf .f32 (extractStridedSlice S16384x4096 ![0, 14336] x0 slices_S16384x26624_S16384x4096_0_14336) bitsLt_bf16_f32) (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extf .f32 (extractStridedSlice S16384x4096 ![0, 14336] x0 slices_S16384x26624_S16384x4096_0_14336) bitsLt_bf16_f32)))))

def total (r : FVec Ideal S8x2048x16x256 .f32) : FVec Ideal S16384x4096 .bf16 :=
  truncf .bf16 (mulf (addf (mulf (shapeCast _ (mulf (away r) (broadcastInDim S8x2048x16x256 ![0, 1, 2, 3] bcast_S8x2048x16x1_S8x2048x16x256_0_1_2_3 (Host.rsqrt (addf (mean (mulf (away r) (away r))) (broadcastInDim S8x2048x16x1 ![] bcast_S_S8x2048x16x1 (constant S_ .f32 0x3727C5AC#32)))))) shapeCasts_S8x2048x16x256_S16384x4096) (broadcastInDim S16384x4096 ![0, 1] bcast_S1x4096_S16384x4096_0_1 (broadcastInDim S1x4096 ![1] bcast_S4096_S1x4096_1 (shapeCast _ x1 shapeCasts_S1x4096_S4096)))) (broadcastInDim S16384x4096 ![0, 1] bcast_S1x4096_S16384x4096_0_1 (broadcastInDim S1x4096 ![1] bcast_S4096_S1x4096_1 (shapeCast _ x2 shapeCasts_S1x4096_S4096)))) (gate x0)) bitsLt_bf16_f32

variable (m : (ℓ : Loc nD τ sig) → Buf (Elt Ideal) ℓ) (c : Dev nD)

theorem res_eq : Value.res_main_v73 m c
    = total (m ((c.tc : Thread nD τ).loc main_arg0)) (m ((c.tc : Thread nD τ).loc main_arg1)) (m ((c.tc : Thread nD τ).loc main_arg2))
        (outs (m ((c.tc : Thread nD τ).loc main_arg0))) := rfl

theorem val_apply (b : Fin 8) (s : Fin 2048) (h : Fin 16) (e : Fin 256) : val x0 (ix4 b s h e)
    = x0 (ix2 ⟨2048 * b.val + s.val, by omega⟩ ⟨10240 + (256 * h.val + e.val), by omega⟩) := by
  pointwise [val]
  congr 2 <;> apply Fin.ext <;> dsimp only <;> omega

theorem qry_apply (b : Fin 8) (s : Fin 2048) (h : Fin 16) (d : Fin 128) : qry x0 (ix4 b s h d)
    = x0 (ix2 ⟨2048 * b.val + s.val, by omega⟩ ⟨6144 + (128 * h.val + d.val), by omega⟩) := by
  pointwise [qry]
  congr 2 <;> apply Fin.ext <;> dsimp only <;> omega

theorem key_apply (b : Fin 8) (s : Fin 2048) (h : Fin 16) (d : Fin 128) : key x0 (ix4 b s h d)
    = x0 (ix2 ⟨2048 * b.val + s.val, by omega⟩ ⟨8192 + (128 * h.val + d.val), by omega⟩) * Ideal.ofBits .f32 0x3DB504F3#32 := by
  pointwise [key]
  congr 3 <;> apply Fin.ext <;> dsimp only <;> omega

theorem dist_apply (i j : Fin 2048) : dist (ix2 i j) = pos i.val - pos j.val := by
  pointwise [dist]

theorem rates_apply (h : Fin 16) : rates (ix1 h) = rateE h.val := by
  pointwise [rates]
  rfl

theorem decay_apply (h : Fin 16) (i j : Fin 2048) : decay (ix3 h i j) = fallE (rateE h.val) i.val j.val := by
  have z : id (constant (F := Ideal) S_ .f32 0x00000000#32) ix0 = (0 : EReal) := zero_word
  pointwise [decay, dist_apply, rates_apply]
  rw [z]
  rfl

theorem scores_apply (b : Fin 8) (h : Fin 16) (i j : Fin 2048) : scores x0 (ix4 b h i j)
    = (∑ d : Fin 128, qry x0 (ix4 b i h d) * key x0 (ix4 b j h d)) * decay (ix3 h i j) := by
  pointwise [scores]

theorem outs_apply (b : Fin 8) (i : Fin 2048) (h : Fin 16) (e : Fin 256) : outs x0 (ix4 b i h e)
    = ∑ j : Fin 2048, val x0 (ix4 b j h e) * scores x0 (ix4 b h i j) := by
  pointwise [outs]

theorem mean_apply (y : FVec Ideal S8x2048x16x256 .f32) (b : Fin 8) (i : Fin 2048) (h : Fin 16) :
    Ret.mean y (ix4 b i h 0) = Cert.Ret.mean fun e => y (ix4 b i h e) := by
  pointwise [Ret.mean]
  rfl

theorem away_apply (y : FVec Ideal S8x2048x16x256 .f32) (b : Fin 8) (i : Fin 2048) (h : Fin 16) (e : Fin 256) :
    away y (ix4 b i h e) = y (ix4 b i h e) - Cert.Ret.mean fun e => y (ix4 b i h e) := by
  pointwise [away, mean_apply]

theorem gate_apply (i : Fin 16384) (d : Fin 4096) : gate x0 (ix2 i d)
    = x0 (ix2 i ⟨14336 + d.val, by omega⟩) * Ideal.logistic (x0 (ix2 i ⟨14336 + d.val, by omega⟩)) := by
  pointwise [gate]
  rfl

theorem total_apply (r : FVec Ideal S8x2048x16x256 .f32) (b : Fin 8) (i : Fin 2048) (h : Fin 16) (e : Fin 256) :
    total x0 x1 x2 r (ix2 ⟨2048 * b.val + i.val, by omega⟩ ⟨256 * h.val + e.val, by omega⟩)
      = finish (fun y => r (ix4 b i h y)) (x1 (ix2 0 ⟨256 * h.val + e.val, by omega⟩)) (x2 (ix2 0 ⟨256 * h.val + e.val, by omega⟩))
        (x0 (ix2 ⟨2048 * b.val + i.val, by omega⟩ ⟨14336 + (256 * h.val + e.val), by omega⟩)) e := by
  pointwise [total, away_apply, mean_apply, gate_apply]
  rfl

/-- The reference's sums are the heads' rows. -/
theorem row_apply (x : Nat → Nat → ℝ)
    (hx : ∀ (i : Fin 16384) (j : Fin 26624), 6144 ≤ j.val → j.val < 14336 → x0 (ix2 i j) = ((x i.val j.val : ℝ) : EReal))
    (b : Fin 8) (i : Fin 2048) (h : Fin 16) (e : Fin 256) :
    outs x0 (ix4 b i h e) = ((row x b.val h.val i.val e : ℝ) : EReal) := by
  have v : ∀ j, val x0 (ix4 b j h e) = ((vOf x b.val h.val e j.val : ℝ) : EReal) := fun j => by
    rw [val_apply, hx _ _ (by dsimp only; omega) (by dsimp only; omega)]; rfl
  have q : ∀ d, qry x0 (ix4 b i h d) = ((qOf x b.val h.val i.val d : ℝ) : EReal) := fun d => by
    rw [qry_apply, hx _ _ (by dsimp only; omega) (by dsimp only; omega)]; rfl
  have k : ∀ j d, key x0 (ix4 b j h d) = ((kOf x b.val h.val j.val d * unit : ℝ) : EReal) := fun j d => by
    rw [key_apply, hx _ _ (by dsimp only; omega) (by dsimp only; omega), unit_real, ← EReal.coe_mul]; rfl
  have f : ∀ j : Fin 2048, decay (ix3 h i j) = ((fall (rate h.val) i.val j.val : ℝ) : EReal) := fun j => by
    rw [decay_apply, rate_real _ h.isLt, fall_real _ _ _ i.isLt j.isLt]
  rw [outs_apply]
  simp only [scores_apply, v, q, k, f, ← EReal.coe_mul, ← Cert.Da.coe_sum]
  rfl

end Cert.Reference6Ideal.Ret
-- ==== Proof.RetPre.lean ====
module

public import proofs.«01_k».proof.Defs
public import proofs.«01_k».proof.Proof.RetFinal
public import proofs.«01_k».proof.Proof.RetRef
public import proofs.«01_k».proof.Proof.Gen.Pre_finite6
public import Idealize.ShloMosaic.Lib.ReduceAll

@[expose] public section

set_option maxRecDepth 16384

noncomputable section

namespace Cert.Pre_finite6

open Idealize.ShloMosaic

variable (x0 : FVec Ideal S16384x26624 .bf16) (x1 x2 : FVec Ideal S1x4096 .f32)

instance : Subsingleton S_.Idx := ⟨fun a b => funext fun i => i.elim0⟩

theorem proj_real (h : fn x0 x1 x2 = fun _ => 1#1) (i : Fin 16384) (j : Fin 26624) (hl : 6144 ≤ j.val) (hj : j.val < 14336) :
    x0 (ix2 i j) = (((x0 (ix2 i j)).toReal : ℝ) : EReal) := by
  have h0 := congrFun h ix0
  have h1 := Host.reduce_andi_all _ _ _ _ _ h0 (ix2 i ⟨j.val - 6144, by omega⟩)
  have e : extractStridedSlice S16384x8192 ![0, 6144] x0 Facts.slices_S16384x26624_S16384x8192_0_6144 (ix2 i ⟨j.val - 6144, by omega⟩) = x0 (ix2 i j) := by
    have ej : (⟨6144 + (j.val - 6144), by omega⟩ : Fin 26624) = j := Fin.ext (Nat.add_sub_of_le hl)
    pointwise
    rw [ej]
  rw [← e]
  exact Da.real_of_below _ _ Da.wordTop h1

end Cert.Pre_finite6

namespace Cert.Ret

open Idealize.ShloMosaic Idealize.ShloMosaic.TcCoe

/-- Under the precondition the reference's result, at any index, is the one the kernel writes there. -/
theorem ref_whole (x0 : FVec Ideal Cert.Kernel6Ideal.S16384x26624 .bf16) (x1 x2 : FVec Ideal Cert.Kernel6Ideal.S1x4096 .f32) (x : Nat → Nat → ℝ)
    (hx : ∀ (i : Fin 16384) (j : Fin 26624), 6144 ≤ j.val → j.val < 14336 → x0 (ix2 i j) = ((x i.val j.val : ℝ) : EReal)) :
    Cert.Reference6Ideal.Ret.total x0 x1 x2 (Cert.Reference6Ideal.Ret.outs x0)
      = (fun i => whole x (fun d => x1 (ix2 0 d)) (fun d => x2 (ix2 0 d)) (fun i j => x0 (ix2 i j)) (i 0) (i 1)) := by
  funext i
  have h0 : (i 0).val < 16384 := (i 0).isLt
  have h1 : (i 1).val < 4096 := (i 1).isLt
  have e : i = ix2 ⟨2048 * ((i 0).val / 2048) + (i 0).val % 2048, by omega⟩ ⟨256 * ((i 1).val / 256) + (i 1).val % 256, by omega⟩ := by
    funext a
    apply Fin.ext
    match a with
    | ⟨0, _⟩ => show (i 0).val = 2048 * ((i 0).val / 2048) + (i 0).val % 2048; omega
    | ⟨1, _⟩ => show (i 1).val = 256 * ((i 1).val / 256) + (i 1).val % 256; omega
  refine (congrArg _ e).trans ?_
  refine (Cert.Reference6Ideal.Ret.total_apply x0 x1 x2 _ ⟨(i 0).val / 2048, by omega⟩ ⟨(i 0).val % 2048, by omega⟩
    ⟨(i 1).val / 256, by omega⟩ ⟨(i 1).val % 256, by omega⟩).trans ?_
  unfold whole
  simp only [Cert.Reference6Ideal.Ret.row_apply x0 x hx]
  have es : (⟨2048 * ((i 0).val / 2048) + (i 0).val % 2048, by omega⟩ : Fin 16384) = i 0 := Fin.ext (by dsimp only; omega)
  have ed : (⟨256 * ((i 1).val / 256) + (i 1).val % 256, by omega⟩ : Fin 4096) = i 1 := Fin.ext (by dsimp only; omega)
  have eg : (⟨14336 + (256 * ((i 1).val / 256) + (i 1).val % 256), by omega⟩ : Fin 26624) = ⟨14336 + (i 1).val, by omega⟩ :=
    Fin.ext (by dsimp only; omega)
  rw [es, ed, eg]

end Cert.Ret

end
-- ==== Proof.lean ====
module

public import proofs.«01_k».proof.Defs
public import proofs.«01_k».proof.Proof.DaPre
public import proofs.«01_k».proof.Proof.ProjBlocks
public import proofs.«01_k».proof.Proof.MergeBlocks
public import proofs.«01_k».proof.Proof.NormBlocks
public import proofs.«01_k».proof.Proof.OutBlocks
public import proofs.«01_k».proof.Proof.OutBodyWords
public import proofs.«01_k».proof.Proof.RetPre
public import proofs.«01_k».proof.Proof.Gen.ReferenceIdeal.Run
public import proofs.«01_k».proof.Proof.Gen.KernelIdeal.Value
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both sides end with the differential attention of the same projection, the kernel block by block. -/
theorem attention : Cert.algebraic_KernelIdeal_ReferenceIdeal_pre_finite := by
  intro m ρ m' ρ' hpre hag
  have hx : ∀ (c : Dev Cert.KernelIdeal.nD) (i : Fin 16384) (j : Fin 26624), j.val < 6144 →
      m ((c : Thread Cert.KernelIdeal.nD Cert.KernelIdeal.τ).loc Cert.KernelIdeal.main_arg0) (ix2 i j)
        = ((Da.entry (m ((c : Thread Cert.KernelIdeal.nD Cert.KernelIdeal.τ).loc Cert.KernelIdeal.main_arg0)) i.val j.val : ℝ) : EReal) :=
    fun c i j hj => (Pre_finite.proj_real _ _ _ (hpre c) i j hj).trans
      (congrArg _ (Da.entry_at _ i j).symm)
  have hlam : ∀ c : Dev Cert.KernelIdeal.nD, ∃ lam : ℝ,
      Cert.KernelIdeal.Gen.k0_pay1 (F := Ideal) (m ((c : Thread Cert.KernelIdeal.nD Cert.KernelIdeal.τ).loc Cert.KernelIdeal.main_arg1)) (ix2 0 0) = (lam : EReal) := by
    intro c
    obtain ⟨lam, h⟩ := Da.lam_real (fun a d => m ((c : Thread Cert.KernelIdeal.nD Cert.KernelIdeal.τ).loc Cert.KernelIdeal.main_arg1) (ix2 a d))
      (fun a d => Pre_finite.lambda_real _ _ _ (hpre c) a d)
    exact ⟨lam, (Cert.KernelIdeal.Da.lam_apply _).trans h⟩
  choose lam hl using hlam
  refine ⟨fun c i => Da.whole (Da.entry (m ((c : Thread Cert.KernelIdeal.nD Cert.KernelIdeal.τ).loc Cert.KernelIdeal.main_arg0))) (lam c)
      (fun e => m ((c : Thread Cert.KernelIdeal.nD Cert.KernelIdeal.τ).loc Cert.KernelIdeal.main_arg2) (ix1 e)) (i 0).val (i 1).val,
    (θ_run Cert.KernelIdeal.defs _ _).mono (fun _ h c => ⟨(h c).1.trans (Cert.KernelIdeal.Da.final m c _ (lam c) (hx c) (hl c)), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  rw [Cert.ReferenceIdeal.Da.res_eq, (hag c).1, (hag c).2.1, (hag c).2.2]
  exact Da.ref_whole _ _ _ (lam c) (hx c)
    ((Cert.ReferenceIdeal.Da.lamb_apply _).trans ((Cert.KernelIdeal.Da.lam_apply _).symm.trans (hl c)))

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem projection : Cert.algebraic_Kernel2Ideal_Reference2Ideal := by
  intro m ρ m' ρ' _ hag
  refine ⟨fun c => Proj.whole (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)),
    (θ_run Cert.Kernel2Ideal.defs _ _).mono (fun _ h c => ⟨(h c).1.trans (Cert.Kernel2Ideal.Proj.final m c), (h c).2⟩)
      (Cert.Kernel2Ideal.Value.run_blocks (F := Ideal) m ρ),
    (θ_run Cert.Reference2Ideal.defs _ _).mono (fun _ h c => ⟨(h c).1.trans ?_, (h c).2⟩)
      (Cert.Reference2Ideal.Value.run (F := Ideal) m' ρ')⟩
  rw [(hag c).1, (hag c).2]
  exact Cert.Reference2Ideal.Proj.total_eq _ _

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem merge : Cert.algebraic_Kernel3Ideal_Reference3Ideal := by
  intro m ρ m' ρ' _ hag
  refine ⟨fun c => Merge.whole (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)),
    (θ_run Cert.Kernel3Ideal.defs _ _).mono (fun _ h c => ⟨(h c).1.trans (Cert.Kernel3Ideal.Merge.final m c), (h c).2⟩)
      (Cert.Kernel3Ideal.Value.run_blocks (F := Ideal) m ρ),
    (θ_run Cert.Reference3Ideal.defs _ _).mono (fun _ h c => ⟨(h c).1.trans ?_, (h c).2⟩)
      (Cert.Reference3Ideal.Value.run (F := Ideal) m' ρ')⟩
  rw [(hag c).1, (hag c).2.1, (hag c).2.2.1, (hag c).2.2.2.1, (hag c).2.2.2.2]
  exact Cert.Reference3Ideal.Merge.total_eq _ _ _ _ _

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem norm : Cert.algebraic_Kernel4Ideal_Reference4Ideal := by
  intro m ρ m' ρ' _ hag
  refine ⟨fun c => Norm.whole (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)),
    (θ_run Cert.Kernel4Ideal.defs _ _).mono (fun _ h c => ⟨(h c).1.trans (Cert.Kernel4Ideal.Norm.final m c), (h c).2⟩)
      (Cert.Kernel4Ideal.Value.run_blocks (F := Ideal) m ρ),
    (θ_run Cert.Reference4Ideal.defs _ _).mono (fun _ h c => ⟨(h c).1.trans ?_, (h c).2⟩)
      (Cert.Reference4Ideal.Value.run (F := Ideal) m' ρ')⟩
  unfold Cert.Reference4Ideal.Value.res_main_v32
  rw [(hag c).1, (hag c).2.1, (hag c).2.2.1, (hag c).2.2.2]
  exact Cert.Reference4Ideal.Norm.total_eq _ _ _ _

theorem frame5 : Cert.quiescent_Kernel5 := fun m ρ _ =>
  (θ_run Cert.Kernel5.defs _ _).mono (fun _ h => ⟨fun c => Cert.Kernel5.Hand.args_of h.1 c, h.2⟩) (Cert.Kernel5.Hand.run_main (F := Bits) m ρ)

theorem frame5_ideal : Cert.quiescent_Kernel5Ideal := fun m ρ _ =>
  (θ_run Cert.Kernel5Ideal.defs _ _).mono (fun _ h => ⟨fun c => Cert.Kernel5Ideal.Hand.args_of h.1 c, h.2⟩)
    (Cert.Kernel5Ideal.Hand.run_main (F := Ideal) m ρ)

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Both results, the normed rows and their rounding. -/
theorem output : Cert.algebraic_Kernel5Ideal_Reference5Ideal := by
  intro m ρ m' ρ' _ hag
  refine ⟨fun c => OutNorm.whole (m ((c : Thread Cert.Kernel5Ideal.nD Cert.Kernel5Ideal.τ).loc Cert.Kernel5Ideal.main_arg0))
        (m ((c : Thread Cert.Kernel5Ideal.nD Cert.Kernel5Ideal.τ).loc Cert.Kernel5Ideal.main_arg1))
        (m ((c : Thread Cert.Kernel5Ideal.nD Cert.Kernel5Ideal.τ).loc Cert.Kernel5Ideal.main_arg2))
        (m ((c : Thread Cert.Kernel5Ideal.nD Cert.Kernel5Ideal.τ).loc Cert.Kernel5Ideal.main_arg3))
        (m ((c : Thread Cert.Kernel5Ideal.nD Cert.Kernel5Ideal.τ).loc Cert.Kernel5Ideal.main_arg4)),
    fun c => OutNorm.whole (m ((c : Thread Cert.Kernel5Ideal.nD Cert.Kernel5Ideal.τ).loc Cert.Kernel5Ideal.main_arg0))
        (m ((c : Thread Cert.Kernel5Ideal.nD Cert.Kernel5Ideal.τ).loc Cert.Kernel5Ideal.main_arg1))
        (m ((c : Thread Cert.Kernel5Ideal.nD Cert.Kernel5Ideal.τ).loc Cert.Kernel5Ideal.main_arg2))
        (m ((c : Thread Cert.Kernel5Ideal.nD Cert.Kernel5Ideal.τ).loc Cert.Kernel5Ideal.main_arg3))
        (m ((c : Thread Cert.Kernel5Ideal.nD Cert.Kernel5Ideal.τ).loc Cert.Kernel5Ideal.main_arg4)),
    (θ_run Cert.Kernel5Ideal.defs _ _).mono (fun r h c => ?_) (Cert.Kernel5Ideal.Hand.run_main (F := Ideal) m ρ),
    (θ_run Cert.Reference5Ideal.defs _ _).mono (fun _ h c => ⟨(h c).1.trans ?_, (h c).2.1.trans ?_, (h c).2.2⟩)
      (Cert.Reference5Ideal.Value.run (F := Ideal) m' ρ')⟩
  · obtain ⟨after, hL, hA⟩ := Pipeline.RDat.FramePost.exists_exact h.1 c
    exact ⟨(hA 5).trans (Cert.Kernel5Ideal.Rows.final5 m c after hL), (hA 6).trans (Cert.Kernel5Ideal.Rows.final6 m c after hL),
      Cert.Kernel5Ideal.Hand.args_of h.1 c⟩
  · rw [Cert.Reference5Ideal.OutNorm.res33, (hag c).1, (hag c).2.1, (hag c).2.2.1, (hag c).2.2.2.1, (hag c).2.2.2.2]
    exact Cert.Reference5Ideal.OutNorm.total_eq _ _ _ _ _
  · rw [Cert.Reference5Ideal.OutNorm.res34, (hag c).1, (hag c).2.1, (hag c).2.2.1, (hag c).2.2.2.1, (hag c).2.2.2.2]
    exact Cert.Reference5Ideal.OutNorm.rounded_eq _ _ _ _ _

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The retention chunk by chunk, with the state carried between the chunks, is the retention over all positions at once. -/
theorem retention : Cert.algebraic_Kernel6Ideal_Reference6Ideal_pre_finite6 := by
  intro m ρ m' ρ' hpre hag
  have hx : ∀ c : Dev Cert.Kernel6Ideal.nD, Cert.Kernel6Ideal.Ret.Reals m c
      (Da.entry (m ((c : Thread Cert.Kernel6Ideal.nD Cert.Kernel6Ideal.τ).loc Cert.Kernel6Ideal.main_arg0))) :=
    fun c i j hl hj => (Pre_finite6.proj_real _ _ _ (hpre c) i j hl hj).trans (congrArg _ (Da.entry_at _ i j).symm)
  refine ⟨fun c i => Ret.whole (Da.entry (m ((c : Thread Cert.Kernel6Ideal.nD Cert.Kernel6Ideal.τ).loc Cert.Kernel6Ideal.main_arg0)))
      (fun d => m ((c : Thread Cert.Kernel6Ideal.nD Cert.Kernel6Ideal.τ).loc Cert.Kernel6Ideal.main_arg1) (ix2 0 d))
      (fun d => m ((c : Thread Cert.Kernel6Ideal.nD Cert.Kernel6Ideal.τ).loc Cert.Kernel6Ideal.main_arg2) (ix2 0 d))
      (fun i j => m ((c : Thread Cert.Kernel6Ideal.nD Cert.Kernel6Ideal.τ).loc Cert.Kernel6Ideal.main_arg0) (ix2 i j)) (i 0) (i 1),
    (θ_run Cert.Kernel6Ideal.defs _ _).mono (fun _ h c => ⟨(h c).1.trans (Cert.Kernel6Ideal.Ret.final m c _ (hx c)), (h c).2⟩)
      (Cert.Kernel6Ideal.Value.run_blocks (F := Ideal) m ρ),
    (θ_run Cert.Reference6Ideal.defs _ _).mono (fun _ h c => ⟨(h c).1.trans ?_, (h c).2⟩)
      (Cert.Reference6Ideal.Value.run (F := Ideal) m' ρ')⟩
  rw [Cert.Reference6Ideal.Ret.res_eq, (hag c).1, (hag c).2.1, (hag c).2.2]
  exact Ret.ref_whole _ _ _ _ (hx c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite6.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  frame5,
  frame5_ideal,
  frame_reference5,
  fun m ρ _ => Cert.Kernel6.Gen.frame m ρ,
  fun m ρ _ => Cert.Kernel6Ideal.Gen.frame m ρ,
  fun m ρ _ => Cert.Kernel6Ideal.Gen.frame m ρ,
  frame_reference6,
  fun m ρ _ => frame_reference6 m ρ trivial,
  trivial,
  attention,
  trivial,
  projection,
  trivial,
  merge,
  trivial,
  norm,
  trivial,
  output,
  trivial,
  retention⟩

end Cert.Proof

end
